-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x8192 : Shape := ⟨2, ![1024, 8192]⟩
abbrev S1024x8x128 : Shape := ⟨3, ![1024, 8, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024x8x128 : S_.BroadcastsInDim S1024x8x128 (![] : Fin 0 → Fin S1024x8x128.rank)
  reducesTo_S1024x8x128_S_d0_1_2 : S1024x8x128.ReducesTo [0, 1, 2] S_

variable [Facts]

def fn {F : FTy → Type} [FloatOps F] (main_arg0 : FVec F S1024x1024 .f32) (main_arg1 : FVec F S1024x8192 .f32) (main_arg2 : FVec F S1024x8x128 .f32) (main_arg3 : FVec F S1024x8x128 .f32) (main_arg4 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8x128 .f32 := Host.absf main_arg2
  let main_cst_2 : FVec F S_ .f32 := constant S_ .f32 0x7F800000#32
  let main_v10 : FVec F S1024x8x128 .f32 := broadcastInDim S1024x8x128 ![] bcast_S_S1024x8x128 main_cst_2
  let main_v11 : IVec S1024x8x128 1 := cmpf .olt main_v9 main_v10
  let main_c_3 : IVec S_ 1 := constantI S_ 1 1#1
  let main_v12 : IVec S_ 1 := (fun x v => Host.reduce IntOp.andi x v reducesTo_S1024x8x128_S_d0_1_2 h_S_) main_v11 main_c_3
  let main_v13 : IVec S_ 1 := andi main_v8 main_v12
  main_v13
-- ==== Pre_finite_ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024x64x128 : S_.BroadcastsInDim S1024x64x128 (![] : Fin 0 → Fin S1024x64x128.rank)
  reducesTo_S1024x64x128_S_d0_1_2 : S1024x64x128.ReducesTo [0, 1, 2] S_

variable [Facts]

def fn {F : FTy → Type} [FloatOps F] (main_arg0 : FVec F S1024x1024 .f32) (main_arg1 : FVec F S1024x8192 .f32) (main_arg2 : FVec F S1024x64x128 .f32) (main_arg3 : FVec F S1024x64x128 .f32) (main_arg4 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x64x128 .f32 := Host.absf main_arg2
  let main_cst_2 : FVec F S_ .f32 := constant S_ .f32 0x7F800000#32
  let main_v10 : FVec F S1024x64x128 .f32 := broadcastInDim S1024x64x128 ![] bcast_S_S1024x64x128 main_cst_2
  let main_v11 : IVec S1024x64x128 1 := cmpf .olt main_v9 main_v10
  let main_c_3 : IVec S_ 1 := constantI S_ 1 1#1
  let main_v12 : IVec S_ 1 := (fun x v => Host.reduce IntOp.andi x v reducesTo_S1024x64x128_S_d0_1_2 h_S_) main_v11 main_c_3
  let main_v13 : IVec S_ 1 := andi main_v8 main_v12
  main_v13
-- ==== Kernel.lean ====
abbrev S1024x1024 : Shape := ⟨2, ![1024, 1024]⟩
abbrev S1024x8192 : Shape := ⟨2, ![1024, 8192]⟩
abbrev S1024x8x128 : Shape := ⟨3, ![1024, 8, 128]⟩
abbrev S8192x1024 : Shape := ⟨2, ![8192, 1024]⟩
abbrev S7x128x1024 : Shape := ⟨3, ![7, 128, 1024]⟩
abbrev S8 : Shape := ⟨1, ![8]⟩
abbrev S7 : Shape := ⟨1, ![7]⟩
abbrev S2 : Shape := ⟨1, ![2]⟩
abbrev S1 : Shape := ⟨1, ![1]⟩
abbrev S_ : Shape := ⟨0, ![]⟩
abbrev S64x1024 : Shape := ⟨2, ![64, 1024]⟩
abbrev S64x8x128 : Shape := ⟨3, ![64, 8, 128]⟩
abbrev S256x1024 : Shape := ⟨2, ![256, 1024]⟩
abbrev S256x128 : Shape := ⟨2, ![256, 128]⟩
abbrev S256x1x128 : Shape := ⟨3, ![256, 1, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S1x128x1024 : Shape := ⟨3, ![1, 128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x8x128, .f32⟩
  | .hbm, ⟨3, _⟩ => ⟨S1024x8x128, .f32⟩
  | .hbm, ⟨4, _⟩ => ⟨S8192x1024, .f32⟩
  | .hbm, ⟨5, _⟩ => ⟨S1024x1024, .bf16⟩
  | .local _ .vmem, ⟨0, _⟩ => ⟨S1024x1024, .f32⟩
  | .local _ .vmem, ⟨1, _⟩ => ⟨S1024x8x128, .f32⟩
  | .local _ .vmem, ⟨2, _⟩ => ⟨S1024x8x128, .f32⟩
  | .local _ .vmem, ⟨3, _⟩ => ⟨S1024x1024, .bf16⟩
  | .local _ .vmem, ⟨4, _⟩ => ⟨S1024x1024, .bf16⟩
  | .local _ .vmem, ⟨5, _⟩ => ⟨S1024x8x128, .bf16⟩
  | .local _ .vmem, ⟨6, _⟩ => ⟨S1024x8x128, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S7x128x1024, .bf16⟩
  | .local _ .vmem, ⟨11, _⟩ => ⟨S1024x1024, .f32⟩
  | .local _ .vmem, ⟨12, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v6 : BitVec 32 := Scalar.muli v2 c1024_i32
  ![0, v6.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1 : BitVec 32 := 1024#32
  let v7 : BitVec 32 := Scalar.muli v2 c1024_i32_1
  let c0_i32_4 : BitVec 32 := 0#32
  ![v7.toNat, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v15 : BitVec 32 := Scalar.addi v2 c1_i32_5
  let c32_i32 : BitVec 32 := 32#32
  let v16 : BitVec 32 := Scalar.addi v15 c32_i32
  let c8_i32_6 : BitVec 32 := 8#32
  let v17 : BitVec 32 := Scalar.remsi v16 c8_i32_6
  let c1_i32_8 : BitVec 32 := 1#32
  let v18 : BitVec 32 := Scalar.muli v17 c1_i32_8
  let v19 : BitVec 32 := Scalar.addi c0_i32_9 v18
  v19.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v20 : BitVec 32 := Scalar.addi v2 c2_i32_10
  let c32_i32_11 : BitVec 32 := 32#32
  let v21 : BitVec 32 := Scalar.addi v20 c32_i32_11
  let c8_i32_12 : BitVec 32 := 8#32
  let v22 : BitVec 32 := Scalar.remsi v21 c8_i32_12
  let c1_i32_14 : BitVec 32 := 1#32
  let v23 : BitVec 32 := Scalar.muli v22 c1_i32_14
  let v24 : BitVec 32 := Scalar.addi c0_i32_15 v23
  v24.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.addi v2 c3_i32
  let c32_i32_16 : BitVec 32 := 32#32
  let v26 : BitVec 32 := Scalar.addi v25 c32_i32_16
  let c8_i32_17 : BitVec 32 := 8#32
  let v27 : BitVec 32 := Scalar.remsi v26 c8_i32_17
  let c1_i32_19 : BitVec 32 := 1#32
  let v28 : BitVec 32 := Scalar.muli v27 c1_i32_19
  let v29 : BitVec 32 := Scalar.addi c0_i32_20 v28
  v29.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v30 : BitVec 32 := Scalar.addi v2 c4_i32_21
  let c32_i32_22 : BitVec 32 := 32#32
  let v31 : BitVec 32 := Scalar.addi v30 c32_i32_22
  let c8_i32_23 : BitVec 32 := 8#32
  let v32 : BitVec 32 := Scalar.remsi v31 c8_i32_23
  let c1_i32_25 : BitVec 32 := 1#32
  let v33 : BitVec 32 := Scalar.muli v32 c1_i32_25
  let v34 : BitVec 32 := Scalar.addi c0_i32_26 v33
  v34.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v35 : BitVec 32 := Scalar.addi v2 c5_i32
  let c32_i32_27 : BitVec 32 := 32#32
  let v36 : BitVec 32 := Scalar.addi v35 c32_i32_27
  let c8_i32_28 : BitVec 32 := 8#32
  let v37 : BitVec 32 := Scalar.remsi v36 c8_i32_28
  let c1_i32_30 : BitVec 32 := 1#32
  let v38 : BitVec 32 := Scalar.muli v37 c1_i32_30
  let v39 : BitVec 32 := Scalar.addi c0_i32_31 v38
  v39.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v40 : BitVec 32 := Scalar.addi v2 c6_i32
  let c32_i32_32 : BitVec 32 := 32#32
  let v41 : BitVec 32 := Scalar.addi v40 c32_i32_32
  let c8_i32_33 : BitVec 32 := 8#32
  let v42 : BitVec 32 := Scalar.remsi v41 c8_i32_33
  let c1_i32_35 : BitVec 32 := 1#32
  let v43 : BitVec 32 := Scalar.muli v42 c1_i32_35
  let v44 : BitVec 32 := Scalar.addi c0_i32_36 v43
  v44.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v45 : BitVec 32 := Scalar.addi v2 c7_i32
  let c32_i32_37 : BitVec 32 := 32#32
  let v46 : BitVec 32 := Scalar.addi v45 c32_i32_37
  let c8_i32_38 : BitVec 32 := 8#32
  let v47 : BitVec 32 := Scalar.remsi v46 c8_i32_38
  let c1_i32_40 : BitVec 32 := 1#32
  let v48 : BitVec 32 := Scalar.muli v47 c1_i32_40
  let v49 : BitVec 32 := Scalar.addi c0_i32_41 v48
  v49.toNat
def k0_off3 (d0 : Dev nD) (c0_i32_43 : BitVec 32) (c0_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v50 : BitVec 32 := Scalar.addi c0_i32_43 v5
  let c4_i32_44 : BitVec 32 := 4#32
  let v51 : BitVec 32 := Scalar.remsi v50 c4_i32_44
  let v52 : BitVec 32 := Scalar.addi v51 c0_i32_45
  let c64_i32 : BitVec 32 := 64#32
  let v53 : BitVec 32 := Scalar.muli v52 c64_i32
  let v54 : Index := Scalar.indexCast v53
  let c0 : Index := 0#32
  ![v54.toNat, 0]
def k0_off4 (d0 : Dev nD) (c0_i32_145 : BitVec 32) (c0_i32_147 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v238 : BitVec 32 := Scalar.addi v237 c0_i32_147
  let c64_i32_148 : BitVec 32 := 64#32
  let v239 : BitVec 32 := Scalar.muli v238 c64_i32_148
  let v240 : Index := Scalar.indexCast v239
  let c0_149 : Index := 0#32
  let c0_150 : Index := 0#32
  ![v240.toNat, 0, 0]
def k0_off5 (d0 : Dev nD) (c0_i32_145 : BitVec 32) (c0_i32_295 : BitVec 32) : Fin 2 → Nat :=
  let c2_i32_294 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let v482 : BitVec 32 := Scalar.addi v481 c0_i32_295
  let c128_i32 : BitVec 32 := 128#32
  let v486 : BitVec 32 := Scalar.muli v482 c128_i32
  let v487 : Index := Scalar.indexCast v486
  let c0_299 : Index := 0#32
  ![v487.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_294 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  let v491 : BitVec 1 := Scalar.cmpi .ne v2 v482
  let v492 : BitVec 32 := Scalar.extui v491
  let c0_i32_300 : BitVec 32 := 0#32
  let v493 : BitVec 1 := Scalar.cmpi .ne v492 c0_i32_300
  v493

def k0_off6 (d0 : Dev nD) : Fin 1 → Nat :=
  let c2_i32_294 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  ![v482.toNat]
def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_294 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  let v1840 : BitVec 32 := Scalar.subi v2 v482
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_294 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  let v1840 : BitVec 32 := Scalar.subi v2 v482
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off9 (d0 : Dev nD) : Fin 2 → Nat :=
  let c2_i32_294 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  let c128_i32_1289 : BitVec 32 := 128#32
  let v1844 : BitVec 32 := Scalar.muli v482 c128_i32_1289
  let c0_i32_1294 : BitVec 32 := 0#32
  ![v1844.toNat, 0]
def k0_dev8 (d0 : Dev nD) : Nat :=
  let c0_i32_1291 : BitVec 32 := 0#32
  let c2_i32_294 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v481 : BitVec 32 := Scalar.muli c2_i32_294 v237
  let c0_i32_295 : BitVec 32 := 0#32
  let v482 : BitVec 32 := Scalar.addi v481 c0_i32_295
  let c1_i32_1290 : BitVec 32 := 1#32
  let v1845 : BitVec 32 := Scalar.muli v482 c1_i32_1290
  let v1846 : BitVec 32 := Scalar.addi c0_i32_1291 v1845
  v1846.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_301 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  let v504 : BitVec 1 := Scalar.cmpi .ne v2 v495
  let v505 : BitVec 32 := Scalar.extui v504
  let c0_i32_308 : BitVec 32 := 0#32
  let v506 : BitVec 1 := Scalar.cmpi .ne v505 c0_i32_308
  v506

def k0_off10 (d0 : Dev nD) : Fin 1 → Nat :=
  let c2_i32_301 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  ![v495.toNat]
def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_301 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  let v1840 : BitVec 32 := Scalar.subi v2 v495
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_301 : BitVec 32 := 2#32
  let c0_i32_145 : BitVec 32 := 0#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  let v1840 : BitVec 32 := Scalar.subi v2 v495
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off13 (d0 : Dev nD) : Fin 2 → Nat :=
  let c2_i32_301 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  let c128_i32_1289 : BitVec 32 := 128#32
  let v1844 : BitVec 32 := Scalar.muli v495 c128_i32_1289
  let c0_i32_1294 : BitVec 32 := 0#32
  ![v1844.toNat, 0]
def k0_dev9 (d0 : Dev nD) : Nat :=
  let c0_i32_1291 : BitVec 32 := 0#32
  let c2_i32_301 : BitVec 32 := 2#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v236 : BitVec 32 := Scalar.addi c0_i32_145 v5
  let c4_i32_146 : BitVec 32 := 4#32
  let v237 : BitVec 32 := Scalar.remsi v236 c4_i32_146
  let v494 : BitVec 32 := Scalar.muli c2_i32_301 v237
  let c1_i32_302 : BitVec 32 := 1#32
  let v495 : BitVec 32 := Scalar.addi v494 c1_i32_302
  let c1_i32_1290 : BitVec 32 := 1#32
  let v1845 : BitVec 32 := Scalar.muli v495 c1_i32_1290
  let v1846 : BitVec 32 := Scalar.addi c0_i32_1291 v1845
  v1846.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_466 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  let v762 : BitVec 1 := Scalar.cmpi .ne v2 v753
  let v763 : BitVec 32 := Scalar.extui v762
  let c0_i32_473 : BitVec 32 := 0#32
  let v764 : BitVec 1 := Scalar.cmpi .ne v763 c0_i32_473
  v764

def k0_off14 (d0 : Dev nD) : Fin 1 → Nat :=
  let c2_i32_466 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  ![v753.toNat]
def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_466 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  let v1840 : BitVec 32 := Scalar.subi v2 v753
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_466 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  let v1840 : BitVec 32 := Scalar.subi v2 v753
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off17 (d0 : Dev nD) : Fin 2 → Nat :=
  let c2_i32_466 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  let c128_i32_1289 : BitVec 32 := 128#32
  let v1844 : BitVec 32 := Scalar.muli v753 c128_i32_1289
  let c0_i32_1294 : BitVec 32 := 0#32
  ![v1844.toNat, 0]
def k0_dev10 (d0 : Dev nD) : Nat :=
  let c0_i32_1291 : BitVec 32 := 0#32
  let c2_i32_466 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v752 : BitVec 32 := Scalar.muli c2_i32_466 v508
  let c0_i32_467 : BitVec 32 := 0#32
  let v753 : BitVec 32 := Scalar.addi v752 c0_i32_467
  let c1_i32_1290 : BitVec 32 := 1#32
  let v1845 : BitVec 32 := Scalar.muli v753 c1_i32_1290
  let v1846 : BitVec 32 := Scalar.addi c0_i32_1291 v1845
  v1846.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_474 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  let v775 : BitVec 1 := Scalar.cmpi .ne v2 v766
  let v776 : BitVec 32 := Scalar.extui v775
  let c0_i32_481 : BitVec 32 := 0#32
  let v777 : BitVec 1 := Scalar.cmpi .ne v776 c0_i32_481
  v777

def k0_off18 (d0 : Dev nD) : Fin 1 → Nat :=
  let c2_i32_474 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  ![v766.toNat]
def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_474 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  let v1840 : BitVec 32 := Scalar.subi v2 v766
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_474 : BitVec 32 := 2#32
  let c1_i32_309 : BitVec 32 := 1#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  let v1840 : BitVec 32 := Scalar.subi v2 v766
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off21 (d0 : Dev nD) : Fin 2 → Nat :=
  let c2_i32_474 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  let c128_i32_1289 : BitVec 32 := 128#32
  let v1844 : BitVec 32 := Scalar.muli v766 c128_i32_1289
  let c0_i32_1294 : BitVec 32 := 0#32
  ![v1844.toNat, 0]
def k0_dev11 (d0 : Dev nD) : Nat :=
  let c0_i32_1291 : BitVec 32 := 0#32
  let c2_i32_474 : BitVec 32 := 2#32
  let c1_i32_309 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v507 : BitVec 32 := Scalar.addi c1_i32_309 v5
  let c4_i32_310 : BitVec 32 := 4#32
  let v508 : BitVec 32 := Scalar.remsi v507 c4_i32_310
  let v765 : BitVec 32 := Scalar.muli c2_i32_474 v508
  let c1_i32_475 : BitVec 32 := 1#32
  let v766 : BitVec 32 := Scalar.addi v765 c1_i32_475
  let c1_i32_1290 : BitVec 32 := 1#32
  let v1845 : BitVec 32 := Scalar.muli v766 c1_i32_1290
  let v1846 : BitVec 32 := Scalar.addi c0_i32_1291 v1845
  v1846.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_639 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  let v1033 : BitVec 1 := Scalar.cmpi .ne v2 v1024
  let v1034 : BitVec 32 := Scalar.extui v1033
  let c0_i32_646 : BitVec 32 := 0#32
  let v1035 : BitVec 1 := Scalar.cmpi .ne v1034 c0_i32_646
  v1035

def k0_off22 (d0 : Dev nD) : Fin 1 → Nat :=
  let c2_i32_639 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  ![v1024.toNat]
def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_639 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  let v1840 : BitVec 32 := Scalar.subi v2 v1024
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_639 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  let v1840 : BitVec 32 := Scalar.subi v2 v1024
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off25 (d0 : Dev nD) : Fin 2 → Nat :=
  let c2_i32_639 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  let c128_i32_1289 : BitVec 32 := 128#32
  let v1844 : BitVec 32 := Scalar.muli v1024 c128_i32_1289
  let c0_i32_1294 : BitVec 32 := 0#32
  ![v1844.toNat, 0]
def k0_dev12 (d0 : Dev nD) : Nat :=
  let c0_i32_1291 : BitVec 32 := 0#32
  let c2_i32_639 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1023 : BitVec 32 := Scalar.muli c2_i32_639 v779
  let c0_i32_640 : BitVec 32 := 0#32
  let v1024 : BitVec 32 := Scalar.addi v1023 c0_i32_640
  let c1_i32_1290 : BitVec 32 := 1#32
  let v1845 : BitVec 32 := Scalar.muli v1024 c1_i32_1290
  let v1846 : BitVec 32 := Scalar.addi c0_i32_1291 v1845
  v1846.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_647 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  let v1046 : BitVec 1 := Scalar.cmpi .ne v2 v1037
  let v1047 : BitVec 32 := Scalar.extui v1046
  let c0_i32_654 : BitVec 32 := 0#32
  let v1048 : BitVec 1 := Scalar.cmpi .ne v1047 c0_i32_654
  v1048

def k0_off26 (d0 : Dev nD) : Fin 1 → Nat :=
  let c2_i32_647 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  ![v1037.toNat]
def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_647 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  let v1840 : BitVec 32 := Scalar.subi v2 v1037
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_647 : BitVec 32 := 2#32
  let c2_i32_482 : BitVec 32 := 2#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  let v1840 : BitVec 32 := Scalar.subi v2 v1037
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off29 (d0 : Dev nD) : Fin 2 → Nat :=
  let c2_i32_647 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  let c128_i32_1289 : BitVec 32 := 128#32
  let v1844 : BitVec 32 := Scalar.muli v1037 c128_i32_1289
  let c0_i32_1294 : BitVec 32 := 0#32
  ![v1844.toNat, 0]
def k0_dev13 (d0 : Dev nD) : Nat :=
  let c0_i32_1291 : BitVec 32 := 0#32
  let c2_i32_647 : BitVec 32 := 2#32
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v778 : BitVec 32 := Scalar.addi c2_i32_482 v5
  let c4_i32_483 : BitVec 32 := 4#32
  let v779 : BitVec 32 := Scalar.remsi v778 c4_i32_483
  let v1036 : BitVec 32 := Scalar.muli c2_i32_647 v779
  let c1_i32_648 : BitVec 32 := 1#32
  let v1037 : BitVec 32 := Scalar.addi v1036 c1_i32_648
  let c1_i32_1290 : BitVec 32 := 1#32
  let v1845 : BitVec 32 := Scalar.muli v1037 c1_i32_1290
  let v1846 : BitVec 32 := Scalar.addi c0_i32_1291 v1845
  v1846.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_812 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  let v1304 : BitVec 1 := Scalar.cmpi .ne v2 v1295
  let v1305 : BitVec 32 := Scalar.extui v1304
  let c0_i32_819 : BitVec 32 := 0#32
  let v1306 : BitVec 1 := Scalar.cmpi .ne v1305 c0_i32_819
  v1306

def k0_off30 (d0 : Dev nD) : Fin 1 → Nat :=
  let c2_i32_812 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  ![v1295.toNat]
def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_812 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  let v1840 : BitVec 32 := Scalar.subi v2 v1295
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_812 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  let v1840 : BitVec 32 := Scalar.subi v2 v1295
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off33 (d0 : Dev nD) : Fin 2 → Nat :=
  let c2_i32_812 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  let c128_i32_1289 : BitVec 32 := 128#32
  let v1844 : BitVec 32 := Scalar.muli v1295 c128_i32_1289
  let c0_i32_1294 : BitVec 32 := 0#32
  ![v1844.toNat, 0]
def k0_dev14 (d0 : Dev nD) : Nat :=
  let c0_i32_1291 : BitVec 32 := 0#32
  let c2_i32_812 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1294 : BitVec 32 := Scalar.muli c2_i32_812 v1050
  let c0_i32_813 : BitVec 32 := 0#32
  let v1295 : BitVec 32 := Scalar.addi v1294 c0_i32_813
  let c1_i32_1290 : BitVec 32 := 1#32
  let v1845 : BitVec 32 := Scalar.muli v1295 c1_i32_1290
  let v1846 : BitVec 32 := Scalar.addi c0_i32_1291 v1845
  v1846.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_820 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  let v1317 : BitVec 1 := Scalar.cmpi .ne v2 v1308
  let v1318 : BitVec 32 := Scalar.extui v1317
  let c0_i32_827 : BitVec 32 := 0#32
  let v1319 : BitVec 1 := Scalar.cmpi .ne v1318 c0_i32_827
  v1319

def k0_off34 (d0 : Dev nD) : Fin 1 → Nat :=
  let c2_i32_820 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  ![v1308.toNat]
def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_820 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  let v1840 : BitVec 32 := Scalar.subi v2 v1308
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  ![v1843.toNat]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_820 : BitVec 32 := 2#32
  let c3_i32_655 : BitVec 32 := 3#32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  let v1840 : BitVec 32 := Scalar.subi v2 v1308
  let c32_i32_1286 : BitVec 32 := 32#32
  let v1841 : BitVec 32 := Scalar.addi v1840 c32_i32_1286
  let c8_i32_1287 : BitVec 32 := 8#32
  let v1842 : BitVec 32 := Scalar.remsi v1841 c8_i32_1287
  let c1_i32_1288 : BitVec 32 := 1#32
  let v1843 : BitVec 32 := Scalar.subi v1842 c1_i32_1288
  let c0_i32_1292 : BitVec 32 := 0#32
  let c0_i32_1293 : BitVec 32 := 0#32
  ![v1843.toNat, 0, 0]
def k0_off37 (d0 : Dev nD) : Fin 2 → Nat :=
  let c2_i32_820 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  let c128_i32_1289 : BitVec 32 := 128#32
  let v1844 : BitVec 32 := Scalar.muli v1308 c128_i32_1289
  let c0_i32_1294 : BitVec 32 := 0#32
  ![v1844.toNat, 0]
def k0_dev15 (d0 : Dev nD) : Nat :=
  let c0_i32_1291 : BitVec 32 := 0#32
  let c2_i32_820 : BitVec 32 := 2#32
  let c3_i32_655 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_0 : BitVec 32 := 1#32
  let v4 : BitVec 32 := Scalar.addi v3 c1_i32_0
  let c4_i32 : BitVec 32 := 4#32
  let v5 : BitVec 32 := Scalar.remsi v4 c4_i32
  let v1049 : BitVec 32 := Scalar.addi c3_i32_655 v5
  let c4_i32_656 : BitVec 32 := 4#32
  let v1050 : BitVec 32 := Scalar.remsi v1049 c4_i32_656
  let v1307 : BitVec 32 := Scalar.muli c2_i32_820 v1050
  let c1_i32_821 : BitVec 32 := 1#32
  let v1308 : BitVec 32 := Scalar.addi v1307 c1_i32_821
  let c1_i32_1290 : BitVec 32 := 1#32
  let v1845 : BitVec 32 := Scalar.muli v1308 c1_i32_1290
  let v1846 : BitVec 32 := Scalar.addi c0_i32_1291 v1845
  v1846.toNat
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_828 : BitVec 32 := 128#32
  let v1320 : BitVec 32 := Scalar.muli v2 c128_i32_828
  let v1321 : Index := Scalar.indexCast v1320
  let c0_829 : Index := 0#32
  ![v1321.toNat, 0]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_928 : BitVec 32 := 128#32
  let v1419 : BitVec 32 := Scalar.muli v2 c128_i32_928
  let c0_i32_933 : BitVec 32 := 0#32
  ![v1419.toNat, 0]
def k0_dev16 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_923 : BitVec 32 := 1#32
  let v1414 : BitVec 32 := Scalar.addi v2 c1_i32_923
  let c0_i32_924 : BitVec 32 := 0#32
  let v1415 : BitVec 32 := Scalar.addi v1414 c0_i32_924
  let c32_i32_925 : BitVec 32 := 32#32
  let v1416 : BitVec 32 := Scalar.addi v1415 c32_i32_925
  let c8_i32_926 : BitVec 32 := 8#32
  let v1417 : BitVec 32 := Scalar.remsi v1416 c8_i32_926
  let c1_i32_931 : BitVec 32 := 1#32
  let v1420 : BitVec 32 := Scalar.muli v1417 c1_i32_931
  let v1421 : BitVec 32 := Scalar.addi c0_i32_932 v1420
  v1421.toNat
def k0_dev17 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_935 : BitVec 32 := 1#32
  let v1428 : BitVec 32 := Scalar.addi v2 c1_i32_935
  let c1_i32_936 : BitVec 32 := 1#32
  let v1429 : BitVec 32 := Scalar.addi v1428 c1_i32_936
  let c32_i32_937 : BitVec 32 := 32#32
  let v1430 : BitVec 32 := Scalar.addi v1429 c32_i32_937
  let c8_i32_938 : BitVec 32 := 8#32
  let v1431 : BitVec 32 := Scalar.remsi v1430 c8_i32_938
  let c1_i32_943 : BitVec 32 := 1#32
  let v1434 : BitVec 32 := Scalar.muli v1431 c1_i32_943
  let v1435 : BitVec 32 := Scalar.addi c0_i32_944 v1434
  v1435.toNat
def k0_dev18 (d0 : Dev nD) : Nat :=
  let c0_i32_956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_947 : BitVec 32 := 1#32
  let v1442 : BitVec 32 := Scalar.addi v2 c1_i32_947
  let c2_i32_948 : BitVec 32 := 2#32
  let v1443 : BitVec 32 := Scalar.addi v1442 c2_i32_948
  let c32_i32_949 : BitVec 32 := 32#32
  let v1444 : BitVec 32 := Scalar.addi v1443 c32_i32_949
  let c8_i32_950 : BitVec 32 := 8#32
  let v1445 : BitVec 32 := Scalar.remsi v1444 c8_i32_950
  let c1_i32_955 : BitVec 32 := 1#32
  let v1448 : BitVec 32 := Scalar.muli v1445 c1_i32_955
  let v1449 : BitVec 32 := Scalar.addi c0_i32_956 v1448
  v1449.toNat
def k0_dev19 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_959 : BitVec 32 := 1#32
  let v1456 : BitVec 32 := Scalar.addi v2 c1_i32_959
  let c3_i32_960 : BitVec 32 := 3#32
  let v1457 : BitVec 32 := Scalar.addi v1456 c3_i32_960
  let c32_i32_961 : BitVec 32 := 32#32
  let v1458 : BitVec 32 := Scalar.addi v1457 c32_i32_961
  let c8_i32_962 : BitVec 32 := 8#32
  let v1459 : BitVec 32 := Scalar.remsi v1458 c8_i32_962
  let c1_i32_967 : BitVec 32 := 1#32
  let v1462 : BitVec 32 := Scalar.muli v1459 c1_i32_967
  let v1463 : BitVec 32 := Scalar.addi c0_i32_968 v1462
  v1463.toNat
def k0_dev20 (d0 : Dev nD) : Nat :=
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_971 : BitVec 32 := 1#32
  let v1470 : BitVec 32 := Scalar.addi v2 c1_i32_971
  let c4_i32_972 : BitVec 32 := 4#32
  let v1471 : BitVec 32 := Scalar.addi v1470 c4_i32_972
  let c32_i32_973 : BitVec 32 := 32#32
  let v1472 : BitVec 32 := Scalar.addi v1471 c32_i32_973
  let c8_i32_974 : BitVec 32 := 8#32
  let v1473 : BitVec 32 := Scalar.remsi v1472 c8_i32_974
  let c1_i32_979 : BitVec 32 := 1#32
  let v1476 : BitVec 32 := Scalar.muli v1473 c1_i32_979
  let v1477 : BitVec 32 := Scalar.addi c0_i32_980 v1476
  v1477.toNat
def k0_dev21 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_983 : BitVec 32 := 1#32
  let v1484 : BitVec 32 := Scalar.addi v2 c1_i32_983
  let c5_i32_984 : BitVec 32 := 5#32
  let v1485 : BitVec 32 := Scalar.addi v1484 c5_i32_984
  let c32_i32_985 : BitVec 32 := 32#32
  let v1486 : BitVec 32 := Scalar.addi v1485 c32_i32_985
  let c8_i32_986 : BitVec 32 := 8#32
  let v1487 : BitVec 32 := Scalar.remsi v1486 c8_i32_986
  let c1_i32_991 : BitVec 32 := 1#32
  let v1490 : BitVec 32 := Scalar.muli v1487 c1_i32_991
  let v1491 : BitVec 32 := Scalar.addi c0_i32_992 v1490
  v1491.toNat
def k0_dev22 (d0 : Dev nD) : Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_995 : BitVec 32 := 1#32
  let v1498 : BitVec 32 := Scalar.addi v2 c1_i32_995
  let c6_i32_996 : BitVec 32 := 6#32
  let v1499 : BitVec 32 := Scalar.addi v1498 c6_i32_996
  let c32_i32_997 : BitVec 32 := 32#32
  let v1500 : BitVec 32 := Scalar.addi v1499 c32_i32_997
  let c8_i32_998 : BitVec 32 := 8#32
  let v1501 : BitVec 32 := Scalar.remsi v1500 c8_i32_998
  let c1_i32_1003 : BitVec 32 := 1#32
  let v1504 : BitVec 32 := Scalar.muli v1501 c1_i32_1003
  let v1505 : BitVec 32 := Scalar.addi c0_i32_1004 v1504
  v1505.toNat
def k0_off40 (d0 : Dev nD) (c0_i32_1008 : BitVec 32) : Fin 2 → Nat :=
  let c2_i32_1007 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1512 : BitVec 32 := Scalar.muli c2_i32_1007 v2
  let v1513 : BitVec 32 := Scalar.addi v1512 c0_i32_1008
  let c64_i32_1012 : BitVec 32 := 64#32
  let v1518 : BitVec 32 := Scalar.muli v1513 c64_i32_1012
  let v1519 : Index := Scalar.indexCast v1518
  let c0_1013 : Index := 0#32
  ![v1519.toNat, 0]
def k0_off41 (d0 : Dev nD) (c0_i32_1008 : BitVec 32) : Fin 2 → Nat :=
  let c2_i32_1007 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1512 : BitVec 32 := Scalar.muli c2_i32_1007 v2
  let v1513 : BitVec 32 := Scalar.addi v1512 c0_i32_1008
  let c4_i32_1009 : BitVec 32 := 4#32
  let v1514 : BitVec 32 := Scalar.divsi v1513 c4_i32_1009
  let c4_i32_1011 : BitVec 32 := 4#32
  let c4_i32_1010 : BitVec 32 := 4#32
  let v1515 : BitVec 32 := Scalar.remsi v1513 c4_i32_1010
  let v1516 : BitVec 32 := Scalar.muli c4_i32_1011 v1515
  let v1517 : BitVec 32 := Scalar.addi v1514 v1516
  let c64_i32_1014 : BitVec 32 := 64#32
  let v1521 : BitVec 32 := Scalar.muli v1517 c64_i32_1014
  let v1522 : Index := Scalar.indexCast v1521
  let c0_1015 : Index := 0#32
  ![v1522.toNat, 0]
def k0_off42 (d0 : Dev nD) (c0_i32_1026 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1025 : BitVec 32 := 1#32
  let v1536 : BitVec 32 := Scalar.addi v2 c1_i32_1025
  let v1537 : BitVec 32 := Scalar.addi v1536 c0_i32_1026
  let c32_i32_1027 : BitVec 32 := 32#32
  let v1538 : BitVec 32 := Scalar.addi v1537 c32_i32_1027
  let c8_i32_1028 : BitVec 32 := 8#32
  let v1539 : BitVec 32 := Scalar.remsi v1538 c8_i32_1028
  let c128_i32_1030 : BitVec 32 := 128#32
  let v1541 : BitVec 32 := Scalar.muli v1539 c128_i32_1030
  let c0_i32_1035 : BitVec 32 := 0#32
  ![v1541.toNat, 0]
def k0_off43 (d0 : Dev nD) (c0_i32_1026 : BitVec 32) (c0_i32_1038 : BitVec 32) : Fin 2 → Nat :=
  let c2_i32_1037 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1025 : BitVec 32 := 1#32
  let v1536 : BitVec 32 := Scalar.addi v2 c1_i32_1025
  let v1537 : BitVec 32 := Scalar.addi v1536 c0_i32_1026
  let c32_i32_1027 : BitVec 32 := 32#32
  let v1538 : BitVec 32 := Scalar.addi v1537 c32_i32_1027
  let c8_i32_1028 : BitVec 32 := 8#32
  let v1539 : BitVec 32 := Scalar.remsi v1538 c8_i32_1028
  let v1548 : BitVec 32 := Scalar.muli c2_i32_1037 v1539
  let v1549 : BitVec 32 := Scalar.addi v1548 c0_i32_1038
  let c64_i32_1042 : BitVec 32 := 64#32
  let v1554 : BitVec 32 := Scalar.muli v1549 c64_i32_1042
  let v1555 : Index := Scalar.indexCast v1554
  let c0_1043 : Index := 0#32
  ![v1555.toNat, 0]
def k0_off44 (d0 : Dev nD) (c0_i32_1026 : BitVec 32) (c0_i32_1038 : BitVec 32) : Fin 2 → Nat :=
  let c2_i32_1037 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1025 : BitVec 32 := 1#32
  let v1536 : BitVec 32 := Scalar.addi v2 c1_i32_1025
  let v1537 : BitVec 32 := Scalar.addi v1536 c0_i32_1026
  let c32_i32_1027 : BitVec 32 := 32#32
  let v1538 : BitVec 32 := Scalar.addi v1537 c32_i32_1027
  let c8_i32_1028 : BitVec 32 := 8#32
  let v1539 : BitVec 32 := Scalar.remsi v1538 c8_i32_1028
  let v1548 : BitVec 32 := Scalar.muli c2_i32_1037 v1539
  let v1549 : BitVec 32 := Scalar.addi v1548 c0_i32_1038
  let c4_i32_1039 : BitVec 32 := 4#32
  let v1550 : BitVec 32 := Scalar.divsi v1549 c4_i32_1039
  let c4_i32_1041 : BitVec 32 := 4#32
  let c4_i32_1040 : BitVec 32 := 4#32
  let v1551 : BitVec 32 := Scalar.remsi v1549 c4_i32_1040
  let v1552 : BitVec 32 := Scalar.muli c4_i32_1041 v1551
  let v1553 : BitVec 32 := Scalar.addi v1550 v1552
  let c64_i32_1044 : BitVec 32 := 64#32
  let v1557 : BitVec 32 := Scalar.muli v1553 c64_i32_1044
  let v1558 : Index := Scalar.indexCast v1557
  let c0_1045 : Index := 0#32
  ![v1558.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S1x1024x1024 : Shape := ⟨3, ![1, 1024, 1024]⟩
abbrev S1x1024x64x128 : Shape := ⟨4, ![1, 1024, 64, 128]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 145
  | .vmem => 0
  | .smem => 0
  | _ => 0

abbrev hbmTy0_0 (i : Nat) : BufTy := match i % 128 with
  | 0 => ⟨S1024x1024, .f32⟩
  | 1 => ⟨S1024x8192, .f32⟩
  | 2 => ⟨S1024x64x128, .f32⟩
  | 3 => ⟨S1024x64x128, .f32⟩
  | 4 => ⟨S8192x1024, .f32⟩
  | 5 => ⟨S1x1024x1024, .f32⟩
  | 6 => ⟨S1x1024x64x128, .f32⟩
  | 7 => ⟨S1x1024x64x128, .f32⟩
  | 8 => ⟨S1x1024x8192, .f32⟩
  | 9 => ⟨S1x1024x64x128, .f32⟩
  | 10 => ⟨S1024, .i32⟩
  | 11 => ⟨S_, .i32⟩
  | 12 => ⟨S_, .i32⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S1024, .i32⟩
  | 20 => ⟨S1024, .i32⟩
  | 21 => ⟨S_, .i32⟩
  | 22 => ⟨S1024, .i32⟩
  | 23 => ⟨S1024, .i1⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1024, .i32⟩
  | 31 => ⟨S_, .i32⟩
  | 32 => ⟨S_, .i32⟩
  | 33 => ⟨S1024, .i32⟩
  | 34 => ⟨S1024, .i32⟩
  | 35 => ⟨S1024, .i32⟩
  | 36 => ⟨S_, .i32⟩
  | 37 => ⟨S1024, .i32⟩
  | 38 => ⟨S1024, .i1⟩
  | 39 => ⟨S1024, .i32⟩
  | 40 => ⟨S1024, .i32⟩
  | 41 => ⟨S_, .i32⟩
  | 42 => ⟨S1024, .i32⟩
  | 43 => ⟨S1024, .i1⟩
  | 44 => ⟨S1024, .i1⟩
  | 45 => ⟨S_, .i32⟩
  | 46 => ⟨S1024, .i32⟩
  | 47 => ⟨S1024, .i32⟩
  | 48 => ⟨S1024, .i32⟩
  | 49 => ⟨S1x1024, .i32⟩
  | 50 => ⟨S1024x1024, .i32⟩
  | 51 => ⟨S1024x1024, .i32⟩
  | 52 => ⟨S1024x1024, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x1024, .i32⟩
  | 60 => ⟨S1x1024, .i32⟩
  | 61 => ⟨S_, .i32⟩
  | 62 => ⟨S1x1024, .i32⟩
  | 63 => ⟨S1x1024, .i1⟩
  | 64 => ⟨S_, .i32⟩
  | 65 => ⟨S1x1024, .i32⟩
  | 66 => ⟨S1x1024, .i1⟩
  | 67 => ⟨S_, .i32⟩
  | 68 => ⟨S_, .i1⟩
  | 69 => ⟨S1x1024, .i1⟩
  | 70 => ⟨S1x1024, .i1⟩
  | 71 => ⟨S1x1024, .i1⟩
  | 72 => ⟨S1x1024, .i32⟩
  | 73 => ⟨S1x1024, .i32⟩
  | 74 => ⟨S1x1024, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S1024x1, .i32⟩
  | 82 => ⟨S1024x1, .i32⟩
  | 83 => ⟨S_, .i32⟩
  | 84 => ⟨S1024x1, .i32⟩
  | 85 => ⟨S1024x1, .i1⟩
  | 86 => ⟨S_, .i32⟩
  | 87 => ⟨S1024x1, .i32⟩
  | 88 => ⟨S1024x1, .i1⟩
  | 89 => ⟨S_, .i32⟩
  | 90 => ⟨S_, .i1⟩
  | 91 => ⟨S1024x1, .i1⟩
  | 92 => ⟨S1024x1, .i1⟩
  | 93 => ⟨S1024x1, .i1⟩
  | 94 => ⟨S1024x1, .i32⟩
  | 95 => ⟨S1024x1, .i32⟩
  | 96 => ⟨S1024x1, .i32⟩
  | 97 => ⟨S1024x1024, .i32⟩
  | 98 => ⟨S1024x1024, .i32⟩
  | 99 => ⟨S1024x1024, .i1⟩
  | 100 => ⟨S1024x1024, .i1⟩
  | 101 => ⟨S1x64x1024x1024, .f32⟩
  | 102 => ⟨S_, .f32⟩
  | 103 => ⟨S_, .f32⟩
  | 104 => ⟨S_, .f32⟩
  | 105 => ⟨S_, .f32⟩
  | 106 => ⟨S1x64x1024x1024, .f32⟩
  | 107 => ⟨S1x64x1024x1024, .f32⟩
  | 108 => ⟨S1x1x1024x1024, .i1⟩
  | 109 => ⟨S_, .f32⟩
  | 110 => ⟨S_, .f32⟩
  | 111 => ⟨S1x64x1024x1024, .i1⟩
  | 112 => ⟨S1x64x1024x1024, .f32⟩
  | 113 => ⟨S1x64x1024x1024, .f32⟩
  | 114 => ⟨S_, .f32⟩
  | 115 => ⟨S1x64x1024, .f32⟩
  | 116 => ⟨S1x64x1024x1, .f32⟩
  | 117 => ⟨S1x64x1024x1024, .f32⟩
  | 118 => ⟨S1x64x1024x1024, .f32⟩
  | 119 => ⟨S1x64x1024x1024, .f32⟩
  | 120 => ⟨S_, .i1⟩
  | 121 => ⟨S1024, .i1⟩
  | 122 => ⟨S1x1x1024x1, .i1⟩
  | 123 => ⟨S_, .f32⟩
  | 124 => ⟨S1x64x1024, .f32⟩
  | 125 => ⟨S1x64x1024x1, .f32⟩
  | 126 => ⟨S_, .f32⟩
  | 127 => ⟨S_, .f32⟩
  | _ => ⟨S1024x1024, .f32⟩

abbrev hbmTy0_1 (i : Nat) : BufTy := match i % 128 with
  | 0 => ⟨S1x64x1024x1, .i1⟩
  | 1 => ⟨S1x64x1024x1, .f32⟩
  | 2 => ⟨S1x64x1024x1, .f32⟩
  | 3 => ⟨S1x64x1024x1024, .f32⟩
  | 4 => ⟨S1x64x1024x1024, .f32⟩
  | 5 => ⟨S1x1x1024x1, .i1⟩
  | 6 => ⟨S_, .f32⟩
  | 7 => ⟨S_, .f32⟩
  | 8 => ⟨S1x64x1024x1024, .i1⟩
  | 9 => ⟨S1x64x1024x1024, .f32⟩
  | 10 => ⟨S1x64x1024x1024, .f32⟩
  | 11 => ⟨S1x64x128x1024, .f32⟩
  | 12 => ⟨S1x1024x64x128, .f32⟩
  | 13 => ⟨S1x1024x8192, .f32⟩
  | 14 => ⟨S1x1024x1024, .f32⟩
  | 15 => ⟨S1x1024x1024, .bf16⟩
  | 16 => ⟨S1024x1024, .bf16⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v14 : Ref sig .tc := ⟨.hbm, 74, rfl⟩
abbrev main_c_2 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_cst_3 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_cst_4 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v26 : Ref sig .tc := ⟨.hbm, 113, rfl⟩
abbrev main_cst_5 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_c_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_v34 : Ref sig .tc := ⟨.hbm, 124, rfl⟩
abbrev main_v35 : Ref sig .tc := ⟨.hbm, 125, rfl⟩
abbrev main_cst_8 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_cst_9 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The protocol's copy of the rounds algebra: its duties are named by seven names. -/
abbrev UB : Type := URounds (GSem nD τ sig) (Fin 7)
/-- The pipeline library's copy beside the protocol's and the counters of the two local copies. -/
abbrev UU : Type := UR sig nD τ × (UB × Idealize.SL.ExclCount.Counters)

abbrev 𝕄' (F : FTy → Type) := MT nD τ sig Unit (Elt F) ℕ UU ℕ

/-! ## The buffers -/

abbrev xsM : Memref sig .tc .vmem S1024x1024 .f32 := Memref.whole cc0_stg0_0
abbrev wqM : Memref sig .tc .hbm S1024x8192 .f32 := Memref.whole main_arg1
abbrev ksM : Memref sig .tc .vmem S1024x8x128 .f32 := Memref.whole cc0_stg1_0
abbrev vsM : Memref sig .tc .vmem S1024x8x128 .f32 := Memref.whole cc0_stg2_0
abbrev woM : Memref sig .tc .hbm S8192x1024 .f32 := Memref.whole main_arg4
abbrev osM : Memref sig .tc .vmem S1024x1024 .bf16 := Memref.whole cc0_stg3_0
abbrev xpM : Memref sig .tc .vmem S1024x1024 .bf16 := Memref.whole cc0_scratch0
abbrev kpM : Memref sig .tc .vmem S1024x8x128 .bf16 := Memref.whole cc0_scratch1
abbrev vpM : Memref sig .tc .vmem S1024x8x128 .bf16 := Memref.whole cc0_scratch2
abbrev ctM : Memref sig .tc .vmem S1024x1024 .bf16 := Memref.whole cc0_scratch3
abbrev acM : Memref sig .tc .vmem S1024x1024 .bf16 := Memref.whole cc0_scratch4
abbrev rdM : Memref sig .tc .vmem S1024x1024 .bf16 := Memref.whole cc0_scratch5
abbrev rsM : Memref sig .tc .vmem S7x128x1024 .bf16 := Memref.whole cc0_scratch6
abbrev qvM : Memref sig .tc .vmem S1024x1024 .f32 := Memref.whole cc0_scratch7
abbrev ovM : Memref sig .tc .vmem S1024x1024 .f32 := Memref.whole cc0_scratch8

/-- A part of the kernel's body at the buffers and semaphores the call passes: every part takes the same thirty-five. -/
abbrev At {α : Type 1}
    (P : (arg0 : Memref sig .tc .vmem S1024x1024 .f32) → arg0.IsWhole → (arg1 : Memref sig .tc .hbm S1024x8192 .f32) → arg1.IsWhole →
      (arg2 : Memref sig .tc .vmem S1024x8x128 .f32) → arg2.IsWhole → (arg3 : Memref sig .tc .vmem S1024x8x128 .f32) → arg3.IsWhole →
      (arg4 : Memref sig .tc .hbm S8192x1024 .f32) → arg4.IsWhole → (arg5 : Memref sig .tc .vmem S1024x1024 .bf16) → arg5.IsWhole →
      (arg6 : Memref sig .tc .vmem S1024x1024 .bf16) → arg6.IsWhole → (arg7 : Memref sig .tc .vmem S1024x8x128 .bf16) → arg7.IsWhole →
      (arg8 : Memref sig .tc .vmem S1024x8x128 .bf16) → arg8.IsWhole → (arg9 : Memref sig .tc .vmem S1024x1024 .bf16) → arg9.IsWhole →
      (arg10 : Memref sig .tc .vmem S1024x1024 .bf16) → arg10.IsWhole → (arg11 : Memref sig .tc .vmem S1024x1024 .bf16) → arg11.IsWhole →
      (arg12 : Memref sig .tc .vmem S7x128x1024 .bf16) → arg12.IsWhole → (arg13 : Memref sig .tc .vmem S1024x1024 .f32) → arg13.IsWhole →
      (arg14 : Memref sig .tc .vmem S1024x1024 .f32) → arg14.IsWhole → DmaSems sig S8 → DmaSems sig S7 → DmaSems sig S7 → DmaSems sig S7 →
      DmaSems sig S2 → α) : α :=
  P xsM (Memref.isWhole_whole _) wqM (Memref.isWhole_whole _) ksM (Memref.isWhole_whole _) vsM (Memref.isWhole_whole _) woM (Memref.isWhole_whole _)
    osM (Memref.isWhole_whole _) xpM (Memref.isWhole_whole _) kpM (Memref.isWhole_whole _) vpM (Memref.isWhole_whole _) ctM (Memref.isWhole_whole _)
    acM (Memref.isWhole_whole _) rdM (Memref.isWhole_whole _) rsM (Memref.isWhole_whole _) qvM (Memref.isWhole_whole _) ovM (Memref.isWhole_whole _)
    cc0_scratch9 cc0_scratch10 cc0_scratch11 cc0_scratch12 cc0_scratch13

abbrev EP : Emb (UR sig nD τ) (MT nD τ sig Unit (Elt F) ℕ UU ℕ) := embL
abbrev ER : Emb UB (MT nD τ sig Unit (Elt F) ℕ UU ℕ) := (Emb.inl : Emb UB (UB × Idealize.SL.ExclCount.Counters)).trans embR
abbrev EC : UEmb Idealize.SL.ExclCount.Counters (MT nD τ sig Unit (Elt F) ℕ UU ℕ) := countersEmb

abbrev V0 : Variants := Variants.none

end Cert.AttnProof

end
-- ==== Proof.Proto.lean ====
module

public import proofs.«01_k».proof.Proof.Base

/-! # The protocol

Eight devices. Device `c` speaks to `nx c k`, the device `k + 1` places on, for `k < 7`; `pv c k` is the one `k + 1` places
back. Every exchange happens once, so every cell has the one round 0:

* the barrier cell of `c` has seven duties of one unit; `pv c k` pays duty `k` and hands over what `c` will write on it:
  its slot `k` and its block `c` of the reduced rows;
* a reduce-scatter receive cell `rsR j` of `c` is credited by `nx c j`'s copy of its partial block `c`;
* a gather receive cell `agR j` of `c` by `nx c j`'s copy of its reduced block;
* the send cells hand the copies' sources back.
-/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The ring -/

set_option backward.proofsInPublic true in
def nx (c : Dev nD) (k : Fin 7) : Dev nD := ⟨(c.val + 1 + k.val) % 8, Nat.mod_lt _ (by decide)⟩
set_option backward.proofsInPublic true in
def pv (c : Dev nD) (k : Fin 7) : Dev nD := ⟨(c.val + 7 - k.val) % 8, Nat.mod_lt _ (by decide)⟩
set_option backward.proofsInPublic true in
/-- The slot of device `r` the partial block of device `c` lands in. -/
def sl (c r : Dev nD) : Fin 7 := ⟨(c.val + 15 - r.val) % 8 % 7, Nat.mod_lt _ (by decide)⟩
set_option backward.proofsInPublic true in
/-- The block device `c` computes as its `n`-th. -/
def ch (c : Dev nD) (n : Fin 8) : Dev nD := ⟨(n.val + 2 * ((c.val / 2 + 1) % 4)) % 8, Nat.mod_lt _ (by decide)⟩

theorem pv_nx (c : Dev nD) (k : Fin 7) : pv (nx c k) k = c := by revert c k; decide
theorem nx_pv (c : Dev nD) (k : Fin 7) : nx (pv c k) k = c := by revert c k; decide
theorem pv_rev (c : Dev nD) (k : Fin 7) : pv c k.rev = nx c k := by revert c k; decide
theorem nx_ne (c : Dev nD) (k : Fin 7) : nx c k ≠ c := by revert c k; decide
theorem nx_sl {c r : Dev nD} (h : r ≠ c) : nx r (sl c r) = c := by revert c r; decide
theorem pv_sl {c r : Dev nD} (h : r ≠ c) : pv c (sl c r) = r := by revert c r; decide

/-! ## Blocks of rows, slots, cells -/

theorem chunk_inb (r : Dev nD) : ∀ a, (![128 * r.val, 0] : Fin 2 → ℕ) a + S128x1024.size a ≤ S1024x1024.size a := by revert r; decide
theorem slot_inb (j : Fin 7) : ∀ a, (![j.val, 0, 0] : Fin 3 → ℕ) a + S1x128x1024.size a ≤ S7x128x1024.size a := by revert j; decide

/-- Rows `128 r` to `128 r + 127` of a buffer of 1024. -/
abbrev chunkM (b : Memref sig .tc .vmem S1024x1024 .bf16) (r : Dev nD) : Memref sig .tc .vmem S128x1024 .bf16 :=
  b.slice (Rect.unit (s := S1024x1024) ![128 * r.val, 0] S128x1024.size (chunk_inb r)) (fun _ => rfl)
/-- Landing slot `j`. -/
abbrev slotM (j : Fin 7) : Memref sig .tc .vmem S128x1024 .bf16 :=
  (rsM.slice (Rect.unit (s := S7x128x1024) ![j.val, 0, 0] S1x128x1024.size (slot_inb j)) (fun _ => rfl)).squeeze S128x1024
    squeezes_S1x128x1024_S128x1024

/-- A block of 128 rows. -/
abbrev Blk (F : FTy → Type) : Type := S128x1024.Idx → Elt F .bf16

def chunk (b : Memref sig .tc .vmem S1024x1024 .bf16) (c r : Dev nD) (q : PosShare TreeShare) (X : Blk F) : sProp 𝕄 :=
  owns (c : Thread nD τ) (chunkM b r) q X
def slot (c : Dev nD) (j : Fin 7) (X : Blk F) : sProp 𝕄 := owns (c : Thread nD τ) (slotM j) fullShare X

omit [FloatOps F] [Named F] in
instance chunk_storable (b : Memref sig .tc .vmem S1024x1024 .bf16) (c r : Dev nD) (q : PosShare TreeShare) (X : Blk F) :
    BI.Storable (upEmb : UEmb _ 𝕄) (chunk b c r q X) := by unfold chunk; infer_instance
omit [FloatOps F] [Named F] in
instance slot_storable (c : Dev nD) (j : Fin 7) (X : Blk F) :
    BI.Storable (upEmb : UEmb _ 𝕄) (slot c j X) := by unfold slot; infer_instance

abbrev barS : Sem sig := (SemArray.scalar (sig.barrier 0 rfl) : Sems sig S_).sem
set_option backward.proofsInPublic true in
def rsS (i : Dev nD) : DmaSem sig := ⟨i.val + 4, by have : i.val < 8 := i.isLt; show _ < 35; omega⟩
set_option backward.proofsInPublic true in
def rsR (j : Fin 7) : DmaSem sig := ⟨j.val + 8 + 4, by have := j.isLt; show _ < 35; omega⟩
set_option backward.proofsInPublic true in
def agS (k : Fin 7) : DmaSem sig := ⟨k.val + 15 + 4, by have := k.isLt; show _ < 35; omega⟩
set_option backward.proofsInPublic true in
def agR (j : Fin 7) : DmaSem sig := ⟨j.val + 22 + 4, by have := j.isLt; show _ < 35; omega⟩

abbrev barC (c : Dev nD) : GSem nD τ sig := ((c : Thread nD τ), .reg barS)
abbrev rsSC (c i : Dev nD) : GSem nD τ sig := ((c : Thread nD τ), .dma (rsS i))
abbrev rsRC (c : Dev nD) (j : Fin 7) : GSem nD τ sig := ((c : Thread nD τ), .dma (rsR j))
abbrev agSC (c : Dev nD) (k : Fin 7) : GSem nD τ sig := ((c : Thread nD τ), .dma (agS k))
abbrev agRC (c : Dev nD) (j : Fin 7) : GSem nD τ sig := ((c : Thread nD τ), .dma (agR j))

/-- The credit of one block. -/
abbrev N : ℕ := (slotM 0).view.dmaCredit
theorem N_pos : 0 < N := View.dmaCredit_pos _ (by decide)

/-! ## The schedule -/

section Sched

variable (ACC : Dev nD → Dev nD → Blk F) (RED : Dev nD → Blk F)

/-- The duties of a cell of device `c` in its one round. -/
def dut (c : Dev nD) : SemLoc sig → Finset (Fin 7)
  | .reg s => if s = barS then Finset.univ else ∅
  | .dma q => if q.val = c.val + 4 then ∅ else if 4 ≤ q.val ∧ q.val < 33 then {0} else ∅

def barPay (c : Dev nD) (k : Fin 7) : sProp 𝕄 := iprop((∃ X, slot (pv c k) k X) ∗ ∃ X, chunk rdM (pv c k) c fullShare X)

omit [FloatOps F] [Named F] in
instance barPay_storable (c : Dev nD) (k : Fin 7) : BI.Storable (upEmb : UEmb _ 𝕄) (barPay (F := F) c k) := by unfold barPay; infer_instance

/-- What the duty `d` of a cell of device `c` hands over. -/
def pay (c : Dev nD) : SemLoc sig → Fin 7 → sProp 𝕄
  | .reg _, d => barPay c d
  | .dma q, _ =>
    if q.val < 12 then chunk acM c (Fin.ofNat 8 (q.val - 4)) fullShare (ACC c (Fin.ofNat 8 (q.val - 4)))
    else if q.val < 19 then slot c (Fin.ofNat 7 (q.val - 12)) (ACC (nx c (Fin.ofNat 7 (q.val - 12))) c)
    else if q.val < 26 then chunk rdM c c (Transfers.shareTok fullShare 7 (Fin.ofNat 7 (q.val - 19))) (RED c)
    else chunk rdM c (nx c (Fin.ofNat 7 (q.val - 26))) fullShare (RED (nx c (Fin.ofNat 7 (q.val - 26))))

def Rd : Rounds.Schedule (GSem nD τ sig) (Fin 7) 𝕄 where
  duties g r := if r = 0 ∧ g.1.2 = .tc then dut g.1.1 g.2 else ∅
  unitless _ := False
  amount g _ _ := match g.2 with | .reg _ => 1 | .dma _ => N
  payload g _ d := pay ACC RED g.1.1 g.2 d
  amount_pos g _ _ _ := by
    obtain ⟨_, _ | _⟩ := g
    · exact Nat.one_pos
    · exact N_pos

omit [FloatOps F] [Named F] in
instance pay_storable (c : Dev nD) (s : SemLoc sig) (d : Fin 7) : BI.Storable (upEmb : UEmb _ 𝕄) (pay ACC RED c s d) := by
  cases s
  · exact barPay_storable c d
  · unfold pay; (repeat' split) <;> infer_instance

instance Rd_payload_storable (g : GSem nD τ sig) (r : ℕ) (d : Fin 7) :
    BI.Storable (upEmb : UEmb _ 𝕄) ((Rd (F := F) ACC RED).payload g r d) := pay_storable ACC RED g.1.1 g.2 d

omit [FloatOps F] [Named F] in
theorem duties_bar (c : Dev nD) : (Rd ACC RED).duties (barC c) 0 = Finset.univ := by
  dsimp only [Rd]; rw [if_pos ⟨rfl, rfl⟩]; dsimp only [dut]; rw [if_pos rfl]
omit [FloatOps F] [Named F] in
theorem duties_dma (c : Dev nD) (q : DmaSem sig) (h : q.val ≠ c.val + 4) (h' : 4 ≤ q.val ∧ q.val < 33) :
    (Rd ACC RED).duties ((c : Thread nD τ), .dma q) 0 = {0} := by
  dsimp only [Rd]; rw [if_pos ⟨rfl, rfl⟩]; dsimp only [dut]; rw [if_neg h, if_pos h']
omit [FloatOps F] [Named F] in
theorem duties_rsS {c i : Dev nD} (h : i ≠ c) : (Rd ACC RED).duties (rsSC c i) 0 = {0} :=
  duties_dma ACC RED c _ (fun e => h (Fin.ext (by simpa [rsS] using e))) ⟨by simp [rsS], by have := i.isLt; show i.val + 4 < 33; have : i.val < 8 := this; omega⟩
omit [FloatOps F] [Named F] in
theorem duties_own (c : Dev nD) : (Rd ACC RED).duties (rsSC c c) 0 = ∅ := by
  dsimp only [Rd]; rw [if_pos ⟨rfl, rfl⟩]; exact if_pos rfl
omit [FloatOps F] [Named F] in
theorem duties_rsR (c : Dev nD) (j : Fin 7) : (Rd ACC RED).duties (rsRC c j) 0 = {0} :=
  duties_dma ACC RED c _ (by have : c.val < 8 := c.isLt; show j.val + 8 + 4 ≠ _; omega) ⟨by simp [rsR], by have := j.isLt; show j.val + 8 + 4 < 33; omega⟩
omit [FloatOps F] [Named F] in
theorem duties_agS (c : Dev nD) (j : Fin 7) : (Rd ACC RED).duties (agSC c j) 0 = {0} :=
  duties_dma ACC RED c _ (by have : c.val < 8 := c.isLt; show j.val + 15 + 4 ≠ _; omega) ⟨by simp [agS], by have := j.isLt; show j.val + 15 + 4 < 33; omega⟩
omit [FloatOps F] [Named F] in
theorem duties_agR (c : Dev nD) (j : Fin 7) : (Rd ACC RED).duties (agRC c j) 0 = {0} :=
  duties_dma ACC RED c _ (by have : c.val < 8 := c.isLt; show j.val + 22 + 4 ≠ _; omega) ⟨by simp [agR], by have := j.isLt; show j.val + 22 + 4 < 33; omega⟩
omit [FloatOps F] [Named F] in
theorem duties_later (g : GSem nD τ sig) : ∀ r, 1 ≤ r → (Rd (F := F) ACC RED).duties g r = ∅ :=
  fun r hr => by dsimp only [Rd]; rw [if_neg fun h => by omega]

omit [FloatOps F] [Named F] in
theorem payload_bar (c : Dev nD) (d : Fin 7) : (Rd ACC RED).payload (barC c) 0 d = barPay c d := rfl
omit [FloatOps F] [Named F] in
theorem payload_rsS (c i : Dev nD) (d : Fin 7) : (Rd ACC RED).payload (rsSC c i) 0 d = chunk acM c i fullShare (ACC c i) := by
  have h : i.val < 8 := i.isLt
  have e : (Fin.ofNat 8 ((rsS i).val - 4) : Dev nD) = i := Fin.ext (by show (i.val + 4 - 4) % 8 = i.val; omega)
  dsimp only [Rd, pay]; rw [if_pos (show (rsS i).val < 12 by show i.val + 4 < 12; omega), e]
omit [FloatOps F] [Named F] in
theorem payload_rsR (c : Dev nD) (j d : Fin 7) : (Rd ACC RED).payload (rsRC c j) 0 d = slot c j (ACC (nx c j) c) := by
  have h : j.val < 7 := j.isLt
  have e : (Fin.ofNat 7 ((rsR j).val - 12) : Fin 7) = j := Fin.ext (by show (j.val + 8 + 4 - 12) % 7 = j.val; omega)
  dsimp only [Rd, pay]; rw [if_neg (show ¬ (rsR j).val < 12 by show ¬ j.val + 8 + 4 < 12; omega), if_pos (show (rsR j).val < 19 by show j.val + 8 + 4 < 19; omega), e]
omit [FloatOps F] [Named F] in
theorem payload_agS (c : Dev nD) (k d : Fin 7) :
    (Rd ACC RED).payload (agSC c k) 0 d = chunk rdM c c (Transfers.shareTok fullShare 7 k) (RED c) := by
  have h : k.val < 7 := k.isLt
  have e : (Fin.ofNat 7 ((agS k).val - 19) : Fin 7) = k := Fin.ext (by show (k.val + 15 + 4 - 19) % 7 = k.val; omega)
  dsimp only [Rd, pay]
  rw [if_neg (show ¬ (agS k).val < 12 by show ¬ k.val + 15 + 4 < 12; omega), if_neg (show ¬ (agS k).val < 19 by show ¬ k.val + 15 + 4 < 19; omega), if_pos (show (agS k).val < 26 by show k.val + 15 + 4 < 26; omega), e]
omit [FloatOps F] [Named F] in
theorem payload_agR (c : Dev nD) (j d : Fin 7) : (Rd ACC RED).payload (agRC c j) 0 d = chunk rdM c (nx c j) fullShare (RED (nx c j)) := by
  have h : j.val < 7 := j.isLt
  have e : (Fin.ofNat 7 ((agR j).val - 26) : Fin 7) = j := Fin.ext (by show (j.val + 22 + 4 - 26) % 7 = j.val; omega)
  dsimp only [Rd, pay]
  rw [if_neg (show ¬ (agR j).val < 12 by show ¬ j.val + 22 + 4 < 12; omega), if_neg (show ¬ (agR j).val < 19 by show ¬ j.val + 22 + 4 < 19; omega), if_neg (show ¬ (agR j).val < 26 by show ¬ j.val + 22 + 4 < 26; omega), e]

omit [FloatOps F] [Named F] in
theorem expect_bar (c : Dev nD) : (Rd ACC RED).expect (barC c) 0 = 7 := by
  unfold Schedule.expect Schedule.amountOf
  rw [duties_bar, Finset.sum_congr rfl fun d _ => (show (Rd ACC RED).amount (barC c) 0 d = 1 from rfl)]; rfl
omit [FloatOps F] [Named F] in
theorem expect_dma (c : Dev nD) (q : DmaSem sig) (h : (Rd ACC RED).duties ((c : Thread nD τ), .dma q) 0 = {0}) :
    (Rd ACC RED).expect ((c : Thread nD τ), .dma q) 0 = N := by
  unfold Schedule.expect Schedule.amountOf; rw [h, Finset.sum_singleton]; rfl

omit [FloatOps F] [Named F] in
theorem rest_one (c : Dev nD) (q : DmaSem sig) (P : sProp 𝕄) (h : (Rd ACC RED).duties ((c : Thread nD τ), .dma q) 0 = {0})
    (hP : (Rd ACC RED).payload ((c : Thread nD τ), .dma q) 0 0 = P) :
    bigSep ((Rd ACC RED).duties ((c : Thread nD τ), .dma q) 0 \ ∅) (fun d => (Rd ACC RED).payload ((c : Thread nD τ), .dma q) 0 d) = P := by
  rw [Finset.sdiff_empty, h, bigSep_singleton, hP]
omit [FloatOps F] [Named F] in
theorem rest_bar (c : Dev nD) :
    bigSep ((Rd ACC RED).duties (barC c) 0 \ ∅) (fun d => (Rd ACC RED).payload (barC c) 0 d) = bigSep Finset.univ (fun k : Fin 7 => (barPay c k : sProp 𝕄)) := by
  rw [Finset.sdiff_empty, duties_bar]; rfl

end Sched

/-! ## What each device owes; the levels -/

/-- The units a list of payments comes to, the first payment outermost. -/
def owe : List (GSem nD τ sig × ℕ) → CellTallies nD τ sig Unit
  | [] => 0
  | x :: l => owe l + tallyAt x.1 () x.2

def barL (c : Dev nD) : List (GSem nD τ sig × ℕ) :=
  [(barC (nx c 0), 1), (barC (nx c 1), 1), (barC (nx c 2), 1), (barC (nx c 3), 1), (barC (nx c 4), 1), (barC (nx c 5), 1), (barC (nx c 6), 1)]
/-- The `n`-th reduce-scatter payment; none for the device's own block. -/
def rsP (c : Dev nD) (n : Fin 8) : GSem nD τ sig × ℕ := (rsRC (ch c n) (sl c (ch c n)), if ch c n = c then 0 else N)
def rsL (c : Dev nD) : List (GSem nD τ sig × ℕ) := [rsP c 0, rsP c 1, rsP c 2, rsP c 3, rsP c 4, rsP c 5, rsP c 6, rsP c 7]
def agP (c : Dev nD) (k : Fin 7) : GSem nD τ sig × ℕ := (agRC (nx c k) k.rev, N)
def agL (c : Dev nD) : List (GSem nD τ sig × ℕ) := [agP c 0, agP c 1, agP c 2, agP c 3, agP c 4, agP c 5, agP c 6]

/-- What is owed before the `k`-th signal, the `n`-th partial block, the `k`-th gather copy. -/
def OBar (c : Dev nD) (k : ℕ) : CellTallies nD τ sig Unit := owe ((barL c).drop k ++ (rsL c ++ agL c))
def ORs (c : Dev nD) (n : ℕ) : CellTallies nD τ sig Unit := owe ((rsL c).drop n ++ agL c)
def OAg (c : Dev nD) (k : ℕ) : CellTallies nD τ sig Unit := owe ((agL c).drop k)

def L (g : GSem nD τ sig) : Finset Unit := if g.1.2 = .tc then {()} else ∅
/-- Barrier cells below the reduce-scatter's receive cells, those below the gather's; everything else at the bottom. -/
def lvS : SemLoc sig → ℕ
  | .reg _ => 1
  | .dma q => if q.val < 12 then 0 else if q.val < 19 then 2 else if q.val < 26 then 0 else if q.val < 33 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (GSem nD τ sig × ℕ)} {g : GSem nD τ sig} {u : Unit} (h : 0 < owe l g u) : ∃ x ∈ l, x.1 = g := by
  induction l with
  | nil => exact absurd h (Nat.lt_irrefl 0)
  | cons x l ih =>
    unfold owe at h
    rw [Pi.add_apply, Finsupp.add_apply, tallyAt_apply] at h
    by_cases hx : x.1 = g
    · exact ⟨x, List.mem_cons_self, hx⟩
    · rw [if_neg (fun h' => hx h'.1.symm)] at h
      obtain ⟨y, hy, e⟩ := ih h
      exact ⟨y, List.mem_cons_of_mem _ hy, e⟩

omit [FloatOps F] [Named F] in
/-- A wait on a cell of level at most `n` while owing only cells above it. -/
theorem mayWait_of (c : Dev nD) (sm : SemLoc sig) (n : ℕ) (l : List (GSem nD τ sig × ℕ)) (hs : lvS sm ≤ n)
    (hl : ∀ x ∈ l, x.1.1.2 = .tc ∧ n < lvS x.1.2) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨x, hx, rfl⟩ := owe_pos hg; unfold L; rw [if_pos (hl x hx).1]; exact Finset.mem_singleton_self _)
    (fun p hp => by rw [Finset.mem_singleton.mp hp]; exact hs)
    (fun g u hg => by obtain ⟨x, hx, rfl⟩ := owe_pos hg; exact (hl x hx).2)

theorem agL_lv (c : Dev nD) (x) (hx : x ∈ agL c) : x.1.1.2 = .tc ∧ 2 < lvS x.1.2 := by
  have h (i : Fin 7) : 2 < lvS (.dma (agR i)) := by revert i; decide
  simp only [agL, agP, List.mem_cons, List.not_mem_nil, or_false] at hx
  rcases hx with h' | h' | h' | h' | h' | h' | h' <;> subst h' <;> exact ⟨rfl, h _⟩
theorem rsL_lv (c : Dev nD) (x) (hx : x ∈ rsL c) : x.1.1.2 = .tc ∧ 1 < lvS x.1.2 := by
  have h (i : Fin 7) : 1 < lvS (.dma (rsR i)) := by revert i; decide
  simp only [rsL, rsP, List.mem_cons, List.not_mem_nil, or_false] at hx
  rcases hx with h' | h' | h' | h' | h' | h' | h' | h' <;> subst h' <;> exact ⟨rfl, h _⟩
theorem barL_lv (c : Dev nD) (x) (hx : x ∈ barL c) : x.1.1.2 = .tc ∧ 0 < lvS x.1.2 := by
  simp only [barL, List.mem_cons, List.not_mem_nil, or_false] at hx
  rcases hx with h | h | h | h | h | h | h <;> subst h <;> exact ⟨rfl, Nat.one_pos⟩
theorem rsag_lv (c : Dev nD) (x) (hx : x ∈ rsL c ++ agL c) : x.1.1.2 = .tc ∧ 1 < lvS x.1.2 := by
  rcases List.mem_append.mp hx with h | h
  · exact rsL_lv c x h
  · exact ⟨(agL_lv c x h).1, lt_trans (by decide) (agL_lv c x h).2⟩

omit [FloatOps F] [Named F] in
theorem mayWait_low (c : Dev nD) (q : DmaSem sig) (h : lvS (.dma q) = 0) : (levAts L lv : sProp 𝕄) ⊢ MayWait (c : Thread nD τ) (.dma q) () (OBar c 0) :=
  mayWait_of c _ 0 _ (le_of_eq h) fun x hx => by
    rcases List.mem_append.mp hx with h | h
    · exact barL_lv c x h
    · exact ⟨(rsag_lv c x h).1, lt_trans (by decide) (rsag_lv c x h).2⟩
omit [FloatOps F] [Named F] in
theorem mayWait_low' (c : Dev nD) (q : DmaSem sig) (h : lvS (.dma q) = 0) : (levAts L lv : sProp 𝕄) ⊢ MayWait (c : Thread nD τ) (.dma q) () (ORs c 0) :=
  mayWait_of c _ 0 _ (le_of_eq h) fun x hx => ⟨(rsag_lv c x hx).1, lt_trans (by decide) (rsag_lv c x hx).2⟩
omit [FloatOps F] [Named F] in
theorem mayWait_bar (c : Dev nD) : (levAts L lv : sProp 𝕄) ⊢ MayWait (c : Thread nD τ) (.reg barS) () (ORs c 0) :=
  mayWait_of c _ 1 _ le_rfl (rsag_lv c)
omit [FloatOps F] [Named F] in
theorem mayWait_rsR (c : Dev nD) (j : Fin 7) : (levAts L lv : sProp 𝕄) ⊢ MayWait (c : Thread nD τ) (.dma (rsR j)) () (OAg c 0) :=
  mayWait_of c _ 2 _ (by revert j; decide) (agL_lv c)
omit [FloatOps F] [Named F] in
theorem mayWait_end (c : Dev nD) (sm : SemLoc sig) : (levAts L lv : sProp 𝕄) ⊢ MayWait (c : Thread nD τ) sm () (OAg c 7) := by
  show _ ⊢ MayWait (c : Thread nD τ) sm () 0
  rw [MayWait_zero]; iintro -; iempintro

/-! ## The records every device reads -/

/-- The cells of a device: its barrier's, then the twenty-nine of its copies. -/
def csem : Fin 30 → SemLoc sig := Fin.cases (.reg barS) fun k => .dma ⟨k.val + 4, by have := k.isLt; show _ < 35; omega⟩
abbrev kcell (ck : Dev nD × Fin 30) : GSem nD τ sig := ((ck.1 : Thread nD τ), csem ck.2)

section Records

variable (ACC : Dev nD → Dev nD → Blk F) (RED : Dev nD → Blk F)

def records (K : Dev nD × Fin 30 → ℕ) : sProp 𝕄 :=
  iprop((bigSep Finset.univ fun ck : Dev nD × Fin 30 => cellInv ER (Rd ACC RED) (K ck) (kcell ck))
    ∗ bigSep Finset.univ fun ck : Dev nD × Fin 30 => reached ER (kcell ck) 0)

instance records_persistent (K : Dev nD × Fin 30 → ℕ) : BI.Persistent (records ACC RED K) := by unfold records; infer_instance

theorem inv_at (K : Dev nD × Fin 30 → ℕ) (ck : Dev nD × Fin 30) : records ACC RED K ⊢ (cellInv ER (Rd ACC RED) (K ck) (kcell ck) : sProp 𝕄) := by
  unfold records; exact Laws.sep_elim_left.trans (bigSep_elim (Finset.mem_univ ck))
theorem reached_at (K : Dev nD × Fin 30 → ℕ) (ck : Dev nD × Fin 30) : records ACC RED K ⊢ (reached ER (kcell ck) 0 : sProp 𝕄) := by
  unfold records; exact Laws.sep_elim_right.trans (bigSep_elim (Finset.mem_univ ck))

end Records

set_option backward.proofsInPublic true in
abbrev nRsS (i : Dev nD) : Fin 30 := Fin.succ ⟨i.val, by have : i.val < 8 := i.isLt; omega⟩
set_option backward.proofsInPublic true in
abbrev nRsR (j : Fin 7) : Fin 30 := Fin.succ ⟨j.val + 8, by have := j.isLt; omega⟩
set_option backward.proofsInPublic true in
abbrev nAgS (k : Fin 7) : Fin 30 := Fin.succ ⟨k.val + 15, by have := k.isLt; omega⟩
set_option backward.proofsInPublic true in
abbrev nAgR (j : Fin 7) : Fin 30 := Fin.succ ⟨j.val + 22, by have := j.isLt; omega⟩

example (c i) : kcell (c, nRsS i) = rsSC c i := rfl
example (c i) : kcell (c, nRsR i) = rsRC c i := rfl
example (c i) : kcell (c, nAgS i) = agSC c i := rfl
example (c i) : kcell (c, nAgR i) = agRC c i := rfl

end Cert.AttnProof

end
-- ==== Proof.Ops.lean ====
module

public import proofs.«01_k».proof.Proof.Proto

/-! # The protocol's steps

One lemma for every kind of step the body takes on a cell: a signal, the barrier's wait, a copy of a partial block, a copy of
the reduced block, a wait for a copy. A wait closes its cell, so it leaves the counter at zero. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What device `c` still owes, whatever waits it has made. -/
def ow (c : Dev nD) (O : CellTallies nD τ sig Unit) : sProp 𝕄 := iprop(∃ W, owes (c : Thread nD τ) O W)

/-- The body's programs at a continuation. -/
abbrev wpc (c : Dev nD) {α : Type} (p : Prog (TpuEff nD τ sig (Elt F) Λ₀ .tc) α) (Q : α → sProp 𝕄) : sProp 𝕄 :=
  wp frame (wpE (defs₀ (F := F)) V0 (c : Thread nD τ) none) Set.univ p Q

/-! ## The semaphores by number -/

theorem rsS_sem {off : Fin 1 → ℕ} (inb : ∀ a, off a + S1.size a ≤ S8.size a) (i : Dev nD) (h : off = ![i.val]) :
    ((cc0_scratch9.slice (Rect.unit (s := S8) off S1.size inb)).squeeze S_ squeezes_S1_S_).sem = rsS i := by
  subst h; revert inb; revert i; decide
theorem rsR_sem {off : Fin 1 → ℕ} (inb : ∀ a, off a + S1.size a ≤ S7.size a) (j : Fin 7) (h : off = ![j.val]) :
    ((cc0_scratch10.slice (Rect.unit (s := S7) off S1.size inb)).squeeze S_ squeezes_S1_S_).sem = rsR j := by
  subst h; revert inb; revert j; decide
theorem agS_sem {off : Fin 1 → ℕ} (inb : ∀ a, off a + S1.size a ≤ S7.size a) (j : Fin 7) (h : off = ![j.val]) :
    ((cc0_scratch11.slice (Rect.unit (s := S7) off S1.size inb)).squeeze S_ squeezes_S1_S_).sem = agS j := by
  subst h; revert inb; revert j; decide
theorem agR_sem {off : Fin 1 → ℕ} (inb : ∀ a, off a + S1.size a ≤ S7.size a) (j : Fin 7) (h : off = ![j.val]) :
    ((cc0_scratch12.slice (Rect.unit (s := S7) off S1.size inb)).squeeze S_ squeezes_S1_S_).sem = agR j := by
  subst h; revert inb; revert j; decide

section

variable (ACC : Dev nD → Dev nD → Blk F) (RED : Dev nD → Blk F) (K : Dev nD × Fin 30 → ℕ)

/-! ## Signals and the barrier -/

/-- A signal to `d = nx c k`, handing over the slot and the block it will write here. -/
theorem wp_sig (c d : Dev nD) (k : Fin 7) (hd : d = nx c k) {s : Sem sig} (hs : s = barS) {O₀ : CellTallies nD τ sig Unit} (O : CellTallies nD τ sig Unit)
    (hO : O₀ = O + tallyAt (barC (nx c k)) () 1) {α : Type} {Q : α → sProp 𝕄} {cont : PUnit → Prog (TpuEff nD τ sig (Elt F) Λ₀ .tc) α} :
    iprop(records ACC RED K ∗ ow c O₀ ∗ dutyTok ER (barC (nx c k)) 0 k ∗ (∃ X, slot c k X) ∗ (∃ X, chunk rdM c (nx c k) fullShare X))
      ⊢ iprop((ow c O -∗ wpc c (cont ⟨⟩) Q) -∗ wpc c (.op (.semSignal (Dev.tc d) s (BitVec.toNat 1#32)) cont) Q) := by
  subst hd hs hO
  iintro ⟨#HR, HO, Ht, Hs, Hr⟩ Hk
  unfold ow
  icases HO with ⟨%W, HO⟩
  iapply (Rounds.wp_signal V0 ER (Rd ACC RED) (c : Thread nD τ) none (dst := (nx c k : Thread nD τ)) (κ := K (nx c k, 0)) (r := 0)
      (d := k) (by rw [duties_bar]; exact Finset.mem_univ _) (k' := BitVec.toNat 1#32) rfl () O rfl) $$ [HO Ht Hs Hr]
  · isplitr; · iapply (inv_at ACC RED K (nx c k, 0)); iexact HR
    isplitl [HO]; · iexact HO
    isplitl [Ht]; · iexact Ht
    isplitl [Hs Hr]
    · rw [payload_bar]; unfold barPay; rw [pv_nx]
      isplitl [Hs] <;> iassumption
    · iapply (reached_at ACC RED K (nx c k, 0)); iexact HR
  iintro HO
  iapply Hk; iexists W; iexact HO

/-- The barrier's wait: every other device's slot and block for `c`. -/
theorem wp_bar (c : Dev nD) {s : Sem sig} (hs : s = barS) {α : Type} {Q : α → sProp 𝕄} {cont : PUnit → Prog (TpuEff nD τ sig (Elt F) Λ₀ .tc) α} :
    iprop(records ACC RED K ∗ levAts L lv ∗ ow c (ORs c 0) ∗ cred (tallyAt (barC c) () 7) ∗ atPos ER (barC c) 0 ∅ 0)
      ⊢ iprop(((ow c (ORs c 0) ∗ semVal (barC c) 0 ∗ bigSep Finset.univ fun k : Fin 7 => barPay c k) -∗ wpc c (cont ⟨⟩) Q)
        -∗ wpc c (.op (.semWait s (BitVec.toNat 7#32)) cont) Q) := by
  subst hs
  iintro ⟨#HR, #HL, HO, Hc, Ha⟩ Hk
  unfold ow
  icases HO with ⟨%W, HO⟩
  iapply (Rounds.wp_wait_rest_token V0 ER (Rd ACC RED) (c : Thread nD τ) none (κ := K (c, 0))
      (wpE_semWait_eq V0 (c : Thread nD τ) none Set.univ) (Set.mem_univ _) () (O := ORs c 0) (W := W) (R := 0) (m := 0) (T := ∅)
      (by rw [expect_bar]; rfl)) $$ [HO Hc Ha]
  · isplitr; · iapply (inv_at ACC RED K (c, 0)); iexact HR
    isplitl [Hc]; · iexact Hc
    isplitl [HO]; · iexact HO
    isplitr; · iapply (mayWait_bar c); iexact HL
    iexact Ha
  iintro ⟨HO, Ha, -, Hp⟩
  ihave Hp := (Entails.of_eq (rest_bar ACC RED c)) $$ Hp
  imod (Rounds.cell_close ER (Rd ACC RED) (Set.mem_univ (K (c, 0))) (fun h => h) (R := 0 + 1) (duties_later ACC RED (barC c))) $$ [Ha] with Hz
  · isplitr; · iapply (inv_at ACC RED K (c, 0)); iexact HR
    iexact Ha
  iapply Hk
  isplitl [HO]; · iexists _; iexact HO
  isplitl [Hz]; · iexact Hz
  iexact Hp

/-! ## A wait for one copy -/

theorem wp_waitD (c : Dev nD) (n : Fin 30) (q : DmaSem sig) (hq : kcell (c, n) = ((c : Thread nD τ), .dma q)) (P : sProp 𝕄)
    (hd : (Rd ACC RED).duties ((c : Thread nD τ), .dma q) 0 = {0}) (hP : (Rd ACC RED).payload ((c : Thread nD τ), .dma q) 0 0 = P)
    (O : CellTallies nD τ sig Unit) (hO : (levAts L lv : sProp 𝕄) ⊢ MayWait (c : Thread nD τ) (.dma q) () O)
    {s : DmaSem sig} (hs : s = q) {sp sp' : Space} {s₁ s₂ : Shape} {e₁ e₂ : EltTy} {src : Memref sig .tc sp' s₂ e₂} {κ' : Kind} {dst : Memref sig κ' sp s₁ e₁}
    {h1 : src.view.WordExact} {h2 : dst.view.WordExact} (hN : dst.view.dmaCredit = N)
    {α : Type} {Q : α → sProp 𝕄} {cont : PUnit → Prog (TpuEff nD τ sig (Elt F) Λ₀ .tc) α} :
    iprop(records ACC RED K ∗ levAts L lv ∗ ow c O ∗ cred (tallyAt ((c : Thread nD τ), .dma q) () N) ∗ atPos ER ((c : Thread nD τ), .dma q) 0 ∅ 0)
      ⊢ iprop(((ow c O ∗ semVal ((c : Thread nD τ), .dma q) 0 ∗ P) -∗ wpc c (cont ⟨⟩) Q)
        -∗ wpc c (.op (.waitDma2 s src dst h1 h2) cont) Q) := by
  subst hs
  iintro ⟨#HR, #HL, HO, Hc, Ha⟩ Hk
  unfold ow
  icases HO with ⟨%W, HO⟩
  iapply (Rounds.wp_wait_rest_token V0 ER (Rd ACC RED) (c : Thread nD τ) none (κ := K (c, n)) (k' := dst.view.dmaCredit) (sm := .dma s)
      (wpE_waitDma2_eq V0 (c : Thread nD τ) none Set.univ) (Set.mem_univ _) () (O := O) (W := W) (R := 0) (m := 0) (T := ∅)
      (by rw [expect_dma _ _ _ _ hd, hN, Nat.zero_add])) $$ [HO Hc Ha]
  · isplitr; · rw [← hq]; iapply (inv_at ACC RED K (c, n)); iexact HR
    isplitl [Hc]; · rw [hN]; iexact Hc
    isplitl [HO]; · iexact HO
    isplitr; · iapply hO; iexact HL
    iexact Ha
  iintro ⟨HO, Ha, -, Hp⟩
  ihave Hp := (Entails.of_eq (rest_one ACC RED c _ P hd hP)) $$ Hp
  imod (Rounds.cell_close ER (Rd ACC RED) (Set.mem_univ (K (c, n))) (fun h => h) (R := 0 + 1) (duties_later ACC RED ((c : Thread nD τ), .dma s))) $$ [Ha] with Hz
  · isplitr; · rw [← hq]; iapply (inv_at ACC RED K (c, n)); iexact HR
    iexact Ha
  iapply Hk
  isplitl [HO]; · iexists _; iexact HO
  isplitl [Hz]; · iexact Hz
  iexact Hp

/-- The send cell of the device's own block, on which nothing happens, closed. -/
theorem own_close (c : Dev nD) : iprop(records ACC RED K ∗ atPos ER (rsSC c c) 0 ∅ 0) ⊢ (|={Set.univ}=> semVal (rsSC c c) 0 : sProp 𝕄) := by
  iintro ⟨#HR, Ha⟩
  iapply (Rounds.cell_close ER (Rd ACC RED) (Set.mem_univ (K (c, nRsS c))) (fun h => h) (R := 0) (g := rsSC c c)
    (fun r _ => by
      rcases Nat.eq_zero_or_pos r with rfl | hr
      · exact duties_own ACC RED c
      · exact duties_later ACC RED _ r hr))
  isplitr; · iapply (inv_at ACC RED K (c, nRsS c)); iexact HR
  iexact Ha

/-! ## The copies -/

omit [FloatOps F] [Named F] in
theorem owns_of_write (c : Dev nD) {sp : Space} {sh : Shape} {e : EltTy} (m : Memref sig .tc sp sh e) (f : m.view.ty.Contents (Elt F)) (w : sh.Idx → Elt F e) (X : sh.Idx → Elt F e)
    (h : w = X) : (m.view.loc (c : Thread nD τ) ↦[m.view.set]{fullShare} (m.view.write (Elt F) f w Finset.univ) : sProp 𝕄) ⊢ owns (c : Thread nD τ) m fullShare X := by
  subst h
  unfold owns; iintro H; iexists (m.view.write (Elt F) f w Finset.univ); isplitr
  · ipureintro; exact View.read_write_univ _ _
  · iexact H

/-- A copy of a block to device `d`, which pays the two cells' duties. -/
theorem wp_copy (c d : Dev nD) (n₁ n₂ : Fin 30) (sS sR : DmaSem sig) (hS : kcell (c, n₁) = ((c : Thread nD τ), .dma sS)) (hR : kcell (d, n₂) = ((d : Thread nD τ), .dma sR))
    (src dst : Memref sig .tc .vmem S128x1024 .bf16) (q : PosShare TreeShare) (X : Blk F) (hN : dst.view.dmaCredit = N)
    (hd₁ : (Rd ACC RED).duties ((c : Thread nD τ), .dma sS) 0 = {0}) (hd₂ : (Rd ACC RED).duties ((d : Thread nD τ), .dma sR) 0 = {0})
    (hp₁ : (Rd ACC RED).payload ((c : Thread nD τ), .dma sS) 0 0 = owns (c : Thread nD τ) src q X)
    (hp₂ : (Rd ACC RED).payload ((d : Thread nD τ), .dma sR) 0 0 = owns (d : Thread nD τ) dst fullShare X)
    (O : CellTallies nD τ sig Unit)
    {h2 : src.view.WordExact}
    {hsc : (show Memref sig (Dev.tc d : Thread nD τ).2.kind .vmem S128x1024 .bf16 from dst).view.ref.isScScratch = false}
    {h3 : dst.view.WordExact}
    {h4 : DmaTarget.Typed .vmem (.dma sR) (.remote (Dev.tc d : Thread nD τ) dst (.dma sS) hsc)}
    {α : Type} {Q : α → sProp 𝕄} {cont : PUnit → Prog (TpuEff nD τ sig (Elt F) Λ₀ .tc) α} :
    iprop(records ACC RED K ∗ owns (c : Thread nD τ) src q X ∗ (∃ Y, owns (d : Thread nD τ) dst fullShare Y)
        ∗ ow c (O + tallyAt ((d : Thread nD τ), .dma sR) () N) ∗ dutyTok ER ((c : Thread nD τ), .dma sS) 0 0 ∗ dutyTok ER ((d : Thread nD τ), .dma sR) 0 0)
      ⊢ iprop(((cred (tallyAt ((c : Thread nD τ), .dma sS) () N) ∗ ow c O) -∗ wpc c (cont ⟨⟩) Q)
        -∗ wpc c (.op (.enqueueDma src (.remote (Dev.tc d) dst (.dma sS) hsc) (.dma sR) h2 h3 h4) cont) Q) := by
  iintro ⟨#HR, Ha, ⟨%Y, Hs⟩, HO, HtS, HtR⟩ Hk
  unfold ow owns
  icases HO with ⟨%W, HO⟩
  icases Ha with ⟨%fa, %hfa, Ha⟩
  icases Hs with ⟨%fs, %hfs, Hs⟩
  iapply (Rounds.wp_send_pointsTo V0 ER (Rd ACC RED) (c : Thread nD τ) none (c' := (d : Thread nD τ)) (src := src) (dst := dst) (sS := .dma sS) (sem := .dma sR) (κ₁ := K (c, n₁)) (κ₂ := K (d, n₂))
    (r₁ := 0) (r₂ := 0) (d₁ := 0) (d₂ := 0) (fd := fs) (fs := fa) (q := q)
    (by rw [hd₁]; exact Finset.mem_singleton_self _) (by rw [hd₂]; exact Finset.mem_singleton_self _)
    () () N (show dst.view.amount (.dma sR) = N from hN) rfl rfl O rfl (W := W)
    (by rw [hp₁]; unfold owns; iintro H; iexists fa; isplitr; · ipureintro; exact hfa
        iexact H)
    (by rw [hp₂]; exact owns_of_write d dst fs _ _ hfa)) $$ [Ha Hs HO HtS HtR]
  · isplitr; · rw [← hS]; iapply (inv_at ACC RED K (c, n₁)); iexact HR
    isplitr; · rw [← hR]; iapply (inv_at ACC RED K (d, n₂)); iexact HR
    isplitl [Ha]; · iexact Ha
    isplitl [Hs]; · iexact Hs
    isplitl [HO]; · iexact HO
    isplitl [HtS]; · iexact HtS
    isplitr; · rw [← hS]; iapply (reached_at ACC RED K (c, n₁)); iexact HR
    isplitl [HtR]; · iexact HtR
    rw [← hR]; iapply (reached_at ACC RED K (d, n₂)); iexact HR
  iintro ⟨Hc, HO⟩
  iapply Hk
  isplitl [Hc]; · iexact Hc
  iexists W; iexact HO

/-- The copy of the partial block `r` to device `d = r`. -/
theorem wp_rs (c r d : Dev nD) (h : r ≠ c) (hd : d = r) {offA : Fin 2 → ℕ} {offS : Fin 3 → ℕ} (hA : offA = ![128 * r.val, 0]) (hS : offS = ![(sl c r).val, 0, 0])
    {inbA : ∀ a, offA a + S128x1024.size a ≤ S1024x1024.size a} {inbS : ∀ a, offS a + S1x128x1024.size a ≤ S7x128x1024.size a} {sS sR : DmaSem sig} (hsS : sS = rsS r) (hsR : sR = rsR (sl c r))
    (O : CellTallies nD τ sig Unit)
    {h1 h1'} {h2 : (acM.slice (Rect.unit (s := S1024x1024) offA S128x1024.size inbA) h1).view.WordExact}
    {hsc : (show Memref sig (Dev.tc d : Thread nD τ).2.kind .vmem S128x1024 .bf16 from ((rsM.slice (Rect.unit (s := S7x128x1024) offS S1x128x1024.size inbS) h1').squeeze S128x1024 squeezes_S1x128x1024_S128x1024)).view.ref.isScScratch = false}
    {h3 : ((rsM.slice (Rect.unit (s := S7x128x1024) offS S1x128x1024.size inbS) h1').squeeze S128x1024 squeezes_S1x128x1024_S128x1024).view.WordExact}
    {h4 : DmaTarget.Typed .vmem (.dma sR) (.remote (Dev.tc d : Thread nD τ) ((rsM.slice (Rect.unit (s := S7x128x1024) offS S1x128x1024.size inbS) h1').squeeze S128x1024 squeezes_S1x128x1024_S128x1024) (.dma sS) hsc)}
    {α : Type} {Q : α → sProp 𝕄} {cont : PUnit → Prog (TpuEff nD τ sig (Elt F) Λ₀ .tc) α} :
    iprop(records ACC RED K ∗ chunk acM c r fullShare (ACC c r) ∗ (∃ X, slot r (sl c r) X) ∗ ow c (O + tallyAt (rsRC r (sl c r)) () N) ∗ dutyTok ER (rsSC c r) 0 0 ∗ dutyTok ER (rsRC r (sl c r)) 0 0)
      ⊢ iprop(((cred (tallyAt (rsSC c r) () N) ∗ ow c O) -∗ wpc c (cont ⟨⟩) Q)
        -∗ wpc c (.op (.enqueueDma (acM.slice (Rect.unit (s := S1024x1024) offA S128x1024.size inbA) h1)
          (.remote (Dev.tc d) ((rsM.slice (Rect.unit (s := S7x128x1024) offS S1x128x1024.size inbS) h1').squeeze S128x1024 squeezes_S1x128x1024_S128x1024) (.dma sS) hsc) (.dma sR) h2 h3 h4) cont) Q) := by
  subst hd hA hS hsS hsR
  exact wp_copy ACC RED K c d (nRsS d) (nRsR (sl c d)) (rsS d) (rsR (sl c d)) rfl rfl (chunkM acM d) (slotM (sl c d)) fullShare (ACC c d) rfl
    (duties_rsS ACC RED h) (duties_rsR ACC RED _ _) (payload_rsS ACC RED _ _ _) (by rw [payload_rsR, nx_sl h]; rfl) O

theorem nx_nx_rev (c : Dev nD) (k : Fin 7) : nx (nx c k) k.rev = c := by revert c k; decide

/-- The `k`-th copy of the reduced block, to device `d = nx c k`. -/
theorem wp_ag (c d : Dev nD) (k : Fin 7) (hd : d = nx c k) {off : Fin 2 → ℕ} (hA : off = ![128 * c.val, 0])
    {inb : ∀ a, off a + S128x1024.size a ≤ S1024x1024.size a} {sS sR : DmaSem sig} (hsS : sS = agS k) (hsR : sR = agR k.rev)
    (O : CellTallies nD τ sig Unit)
    {h1 h1'} {h2 : (rdM.slice (Rect.unit (s := S1024x1024) off S128x1024.size inb) h1).view.WordExact}
    {hsc : (show Memref sig (Dev.tc d : Thread nD τ).2.kind .vmem S128x1024 .bf16 from (rdM.slice (Rect.unit (s := S1024x1024) off S128x1024.size inb) h1')).view.ref.isScScratch = false}
    {h3 : (rdM.slice (Rect.unit (s := S1024x1024) off S128x1024.size inb) h1').view.WordExact}
    {h4 : DmaTarget.Typed .vmem (.dma sR) (.remote (Dev.tc d : Thread nD τ) (rdM.slice (Rect.unit (s := S1024x1024) off S128x1024.size inb) h1') (.dma sS) hsc)}
    {α : Type} {Q : α → sProp 𝕄} {cont : PUnit → Prog (TpuEff nD τ sig (Elt F) Λ₀ .tc) α} :
    iprop(records ACC RED K ∗ chunk rdM c c (Transfers.shareTok fullShare 7 k) (RED c) ∗ (∃ X, chunk rdM (nx c k) c fullShare X)
        ∗ ow c (O + tallyAt (agRC (nx c k) k.rev) () N) ∗ dutyTok ER (agSC c k) 0 0 ∗ dutyTok ER (agRC (nx c k) k.rev) 0 0)
      ⊢ iprop(((cred (tallyAt (agSC c k) () N) ∗ ow c O) -∗ wpc c (cont ⟨⟩) Q)
        -∗ wpc c (.op (.enqueueDma (rdM.slice (Rect.unit (s := S1024x1024) off S128x1024.size inb) h1)
          (.remote (Dev.tc d) (rdM.slice (Rect.unit (s := S1024x1024) off S128x1024.size inb) h1') (.dma sS) hsc) (.dma sR) h2 h3 h4) cont) Q) := by
  subst hd hA hsS hsR
  exact wp_copy ACC RED K c (nx c k) (nAgS k) (nAgR k.rev) (agS k) (agR k.rev) rfl rfl (chunkM rdM c) (chunkM rdM c) _ (RED c) rfl
    (duties_agS ACC RED _ _) (duties_agR ACC RED _ _) (payload_agS ACC RED _ _ _) (by rw [payload_agR, nx_nx_rev]; rfl) O

end

end Cert.AttnProof

end
-- ==== Proof.Vals.lean ====
module

public import proofs.«01_k».proof.Proof.Proto
public import Idealize.ShloMosaic.Lib.VecWindow
public import Idealize.ShloMosaic.Lib.Writes
public import Idealize.ShloMosaic.Lib.Pointwise.Reshape

/-!
What the kernel's buffers hold, in closed form over any float semantics: the permuted and rounded copies of the inputs,
the context a device computes, its partial projections, and the rows it puts together for everybody.
-/

@[expose] public section

noncomputable section

namespace Cert.AttnProof

open Cert.KernelIdeal Cert.KernelIdeal.Gen

open Idealize.ShloMosaic
open Idealize.ShloMosaic.TcCoe
open Idealize.ShloMosaic.VecWindow

variable {F : FTy → Type} [FloatOps F] [Named F]

/-- Where a device starts among the four residues of row blocks. -/
def rot (c : Dev nD) : ℕ := (c.val / 2 + 1) % 4

/-- The row of the input that permuted row `p` of device `c` is copied from. -/
def srow (c : Dev nD) (p : ℕ) : ℕ := 64 * ((p / 256 + rot c) % 4) + 256 * (p / 64 % 4) + p % 64

theorem srow_lt (c : Dev nD) {p : ℕ} (h : p < 1024) : srow c p < 1024 := by
  unfold srow; omega

/-- The permuted row as an index of the first axis. -/
def srowF (c : Dev nD) (p : Fin 1024) : Fin 1024 := ⟨srow c p.val, srow_lt c p.isLt⟩

/-- The permuted, rounded copy of a matrix. -/
def XP (c : Dev nD) (X : Vec F S1024x1024 .f32) : Vec F S1024x1024 .bf16 :=
  fun p => FloatOps.truncf .bf16 bitsLt_bf16_f32 (X fun a => match a with | (0 : Fin 2) => srowF c (p (0 : Fin 2)) | (1 : Fin 2) => p (1 : Fin 2))

/-- The permuted, rounded copy of the keys or the values. -/
def KP (c : Dev nD) (X : Vec F S1024x8x128 .f32) : Vec F S1024x8x128 .bf16 :=
  fun p => FloatOps.truncf .bf16 bitsLt_bf16_f32 (X fun a => match a with | (0 : Fin 3) => srowF c (p (0 : Fin 3)) | (1 : Fin 3) => p (1 : Fin 3) | (2 : Fin 3) => p (2 : Fin 3))

theorem slices_head (h : Fin 8) : S256x1024.Slices ![0, 128 * h.val] S256x128 := by
  revert h; decide

theorem rows_inb (t : Fin 4) : ∀ a : Fin 2, (![256 * t.val, 0] : Fin 2 → ℕ) a + S256x1024.size a ≤ S1024x1024.size a := by
  revert t; decide

theorem head_inb (t : Fin 4) (h : Fin 8) : ∀ a : Fin 3, (![256 * t.val, h.val, 0] : Fin 3 → ℕ) a + S256x1x128.size a ≤ S1024x8x128.size a := by
  revert t h; decide

theorem tile_inb (t : Fin 4) (h : Fin 8) : ∀ a : Fin 2, (![256 * t.val, 128 * h.val] : Fin 2 → ℕ) a + S256x128.size a ≤ S1024x1024.size a := by
  revert t h; decide

theorem slab2_inb (j : Fin 16) : ∀ a : Fin 2, (![64 * j.val, 0] : Fin 2 → ℕ) a + S64x1024.size a ≤ S1024x1024.size a := by
  revert j; decide

theorem slab3_inb (j : Fin 16) : ∀ a : Fin 3, (![64 * j.val, 0, 0] : Fin 3 → ℕ) a + S64x8x128.size a ≤ S1024x8x128.size a := by
  revert j; decide

/-- The context of one head on one residue's rows, from the head's queries, keys and values. -/
def headCtx (q : FVec F S256x128 .bf16) (k v : Vec F S256x1x128 .bf16) : FVec F S256x128 .bf16 :=
  let e : FVec F S256x256 .f32 := exp (mulf (matmul dot_S256x128_S128x256_S256x256_1_0_0_1_n_n none q
    (transpose S128x256 [1, 0] (shapeCast S256x128 k shapeCasts_S256x1x128_S256x128) transposes_S256x128_p1_0_S128x256)
    (constant S256x256 .f32 0x00000000#32)) (broadcast S256x256 (Named.named κ "scale" 0x3DB504F3#32)))
  shapeCast S256x128 (truncf .bf16 (mulf (matmul dot_S256x256_S256x128_S256x128_1_0_0_1_n_n none (truncf .bf16 e bitsLt_bf16_f32)
      (shapeCast S256x128 v shapeCasts_S256x1x128_S256x128) (constant S256x128 .f32 0x00000000#32))
    (broadcastTo S256x128 (divf (broadcast S256x1 (Scalar.ofBits .f32 0x3F800000#32))
      (shapeCast S256x1 (multiReduction .add [1] S256 e 0x00000000#32 reduces_S256x256_S256 (.inl rfl) rfl) shapeCasts_S256_S256x1))
      broadcasts_S256x1_S256x128)) bitsLt_bf16_f32) shapeCasts_S256x128_S256x128

/-- One head's context from the residue's queries of all heads. -/
def headOf (h : Fin 8) (q : FVec F S256x1024 .bf16) (k v : Vec F S256x1x128 .bf16) : FVec F S256x128 .bf16 :=
  headCtx (extractStridedSlice S256x128 ![0, 128 * h.val] q (slices_head h)) k v

section
variable (c : Dev nD) (X : Vec F S1024x1024 .f32) (K V : Vec F S1024x8x128 .f32) (WQ WO : Vec F S1024x1024 .f32)

/-- The queries of residue step `t`, all of the device's heads. -/
def QG (t : Fin 4) : FVec F S256x1024 .bf16 :=
  k0_pay29 (k0_pay19 WQ) (window (XP c X) ![256 * t.val, 0] S256x1024.size (rows_inb t))

/-- The context tile of residue step `t` and head `h`. -/
def TILE (t : Fin 4) (h : Fin 8) : FVec F S256x128 .bf16 :=
  headOf h (QG c X WQ t) (window (KP c K) ![256 * t.val, h.val, 0] S256x1x128.size (head_inb t h))
    (window (KP c V) ![256 * t.val, h.val, 0] S256x1x128.size (head_inb t h))

/-- The context, rows permuted. -/
def CTX : Vec F S1024x1024 .bf16 := fun p =>
  TILE c X K V WQ ⟨(p (0 : Fin 2)).val / 256, by have : (p (0 : Fin 2)).val < 1024 := (p (0 : Fin 2)).isLt; omega⟩
    ⟨(p (1 : Fin 2)).val / 128, by have : (p (1 : Fin 2)).val < 1024 := (p (1 : Fin 2)).isLt; omega⟩
    (fun a => match a with
      | (0 : Fin 2) => (⟨(p (0 : Fin 2)).val % 256, Nat.mod_lt _ (by decide)⟩ : Fin 256)
      | (1 : Fin 2) => (⟨(p (1 : Fin 2)).val % 128, Nat.mod_lt _ (by decide)⟩ : Fin 128))

/-- The partial projection of the context's `n`-th block of 128 rows. -/
def ACCn (n : Fin 8) : Vec F S128x1024 .bf16 :=
  k0_pay48 (k0_pay20 WO) (window (CTX c X K V WQ) ![128 * n.val, 0] S128x1024.size (chunk_inb n))

end

theorem unit_emb_val {s : Shape} (off size : Fin s.rank → ℕ) (inb) (x : (Rect.unit off size inb).shape.Idx) (a : Fin s.rank) :
    (((Rect.unit off size inb).emb x) a).val = off a + (x a).val := by
  show off a + 1 * (x a).val = _; rw [Nat.one_mul]

/-- Rounding a slab of the input is the permuted copy's slab. -/
theorem xp_piece (c : Dev nD) (t u : Fin 4) (j : Fin 16) (hj : j.val = 4 * t.val + u.val) (f : Vec F S1024x1024 .f32)
    (off : Fin 2 → ℕ) (hoff : off = ![64 * ((t.val + ((c.val / 2) + 1) % 4) % 4) + 256 * u.val, 0])
    (inb : ∀ a : Fin 2, off a + S64x1024.size a ≤ S1024x1024.size a) (x : (Rect.unit (s := S1024x1024) ![64 * j.val, 0] S64x1024.size (slab2_inb j)).shape.Idx) :
    k0_pay1 (window f off S64x1024.size inb) x = XP c f ((Rect.unit (s := S1024x1024) ![64 * j.val, 0] S64x1024.size (slab2_inb j)).emb x) := by
  subst hoff
  unfold k0_pay1 XP
  simp only [shapeCast_id]
  show FloatOps.truncf .bf16 _ (f _) = _
  congr 2
  funext a
  apply Fin.ext
  have h0 : (x (0 : Fin 2)).val < 64 := (x (0 : Fin 2)).isLt
  match a with
  | (0 : Fin 2) =>
    rw [unit_emb_val]
    show 64 * ((t.val + ((c.val / 2) + 1) % 4) % 4) + 256 * u.val + (x (0 : Fin 2)).val = srow c (64 * j.val + 1 * (x (0 : Fin 2)).val)
    unfold srow rot
    have := t.isLt; have := u.isLt
    omega
  | (1 : Fin 2) =>
    rfl

theorem kp_piece (c : Dev nD) (t u : Fin 4) (j : Fin 16) (hj : j.val = 4 * t.val + u.val) (f : Vec F S1024x8x128 .f32)
    (off : Fin 3 → ℕ) (hoff : off = ![64 * ((t.val + ((c.val / 2) + 1) % 4) % 4) + 256 * u.val, 0, 0])
    (inb : ∀ a : Fin 3, off a + S64x8x128.size a ≤ S1024x8x128.size a) (x : (Rect.unit (s := S1024x8x128) ![64 * j.val, 0, 0] S64x8x128.size (slab3_inb j)).shape.Idx) :
    k0_pay21 (window f off S64x8x128.size inb) x = KP c f ((Rect.unit (s := S1024x8x128) ![64 * j.val, 0, 0] S64x8x128.size (slab3_inb j)).emb x) := by
  subst hoff
  unfold k0_pay21 KP
  simp only [shapeCast_id]
  show FloatOps.truncf .bf16 _ (f _) = _
  congr 2
  funext a
  apply Fin.ext
  have h0 : (x (0 : Fin 3)).val < 64 := (x (0 : Fin 3)).isLt
  match a with
  | (0 : Fin 3) =>
    rw [unit_emb_val]
    show 64 * ((t.val + ((c.val / 2) + 1) % 4) % 4) + 256 * u.val + (x (0 : Fin 3)).val = srow c (64 * j.val + 1 * (x (0 : Fin 3)).val)
    unfold srow rot
    have := t.isLt; have := u.isLt
    omega
  | (1 : Fin 3) =>
    rfl
  | (2 : Fin 3) =>
    rfl

theorem CTX_tile (c : Dev nD) (X : Vec F S1024x1024 .f32) (K V : Vec F S1024x8x128 .f32) (WQ : Vec F S1024x1024 .f32) (t : Fin 4) (h : Fin 8)
    (x : (Rect.unit (s := S1024x1024) ![256 * t.val, 128 * h.val] S256x128.size (tile_inb t h)).shape.Idx) :
    CTX c X K V WQ ((Rect.unit (s := S1024x1024) ![256 * t.val, 128 * h.val] S256x128.size (tile_inb t h)).emb x) = TILE c X K V WQ t h x := by
  have h0 : (x (0 : Fin 2)).val < 256 := (x (0 : Fin 2)).isLt
  have h1 : (x (1 : Fin 2)).val < 128 := (x (1 : Fin 2)).isLt
  have e0 : (((Rect.unit (s := S1024x1024) ![256 * t.val, 128 * h.val] S256x128.size (tile_inb t h)).emb x) (0 : Fin 2)).val = 256 * t.val + (x (0 : Fin 2)).val := unit_emb_val ..
  have e1 : (((Rect.unit (s := S1024x1024) ![256 * t.val, 128 * h.val] S256x128.size (tile_inb t h)).emb x) (1 : Fin 2)).val = 128 * h.val + (x (1 : Fin 2)).val := unit_emb_val ..
  unfold CTX
  have : ∀ (t' : Fin 4) (h' : Fin 8) (x' : S256x128.Idx), t' = t → h' = h → x' = x → TILE c X K V WQ t' h' x' = TILE c X K V WQ t h x := by
    rintro _ _ _ rfl rfl rfl; rfl
  apply this
  · apply Fin.ext; show _ / 256 = _; rw [e0]; omega
  · apply Fin.ext; show _ / 128 = _; rw [e1]; omega
  · funext a; apply Fin.ext
    match a with
    | (0 : Fin 2) => show _ % 256 = _; rw [e0]; omega
    | (1 : Fin 2) => show _ % 128 = _; rw [e1]; omega

end Cert.AttnProof

end
-- ==== Proof.Blocks.lean ====
module

public import proofs.«01_k».proof.Proof.Ops
public import proofs.«01_k».proof.Proof.Vals
public import Idealize.ShloMosaic.Lib.Memref

/-! # Blocks of rows

Loads and stores of one block of 128 rows, or of half of one, and of one landing slot; a buffer of 1024 rows is its eight blocks
and the landing buffer its seven slots. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads and stores -/

theorem wp_chLoad (b : Memref sig .tc .vmem S1024x1024 .bf16) (c r : Dev nD) (q : PosShare TreeShare) (X : Blk F) {off : Fin 2 → ℕ} (h : off = ![128 * r.val, 0])
    {inb : ∀ a, off a + S128x1024.size a ≤ S1024x1024.size a} {hl : b.view.LoadsAt (Rect.unit (s := S1024x1024) off S128x1024.size inb).toLoadRect}
    {α : Type} {Q : α → sProp 𝕄} {cont : Blk F → Prog (TpuEff nD τ sig (Elt F) Λ₀ .tc) α} :
    chunk b c r q X ⊢ iprop((chunk b c r q X -∗ wpc c (cont X) Q)
      -∗ wpc c (.op (.load b (Rect.unit (s := S1024x1024) off S128x1024.size inb).toLoadRect hl) cont) Q) := by
  subst h
  unfold chunk owns
  iintro ⟨%f, %hf, Hb⟩ Hk
  subst hf
  iapply (wp_load V0 (c : Thread nD τ) none Set.univ (S := (chunkM b r).view.set) (by rw [show (chunkM b r).view.set = _ from View.set_slice _ _]; exact subset_rfl)) $$ Hb
  iintro Hb
  iapply Hk
  iexists f; isplitr; · ipureintro; rfl
  iexact Hb

theorem wp_chStore (b : Memref sig .tc .vmem S1024x1024 .bf16) (c r : Dev nD) (X : Blk F) {off : Fin 2 → ℕ} (h : off = ![128 * r.val, 0])
    {inb : ∀ a, off a + S128x1024.size a ≤ S1024x1024.size a} (Y : Blk F) {hx} {hm}
    {α : Type} {Q : α → sProp 𝕄} {cont : PUnit → Prog (TpuEff nD τ sig (Elt F) Λ₀ .tc) α} :
    chunk b c r fullShare X ⊢ iprop((chunk b c r fullShare Y -∗ wpc c (cont ⟨⟩) Q)
      -∗ wpc c (.op (.store b (Rect.unit (s := S1024x1024) off S128x1024.size inb) Y Finset.univ hx hm) cont) Q) := by
  subst h
  unfold chunk owns
  iintro ⟨%f, %hf, Hb⟩ Hk
  iapply (wp_store V0 (c : Thread nD τ) none Set.univ (S := (chunkM b r).view.set) (f := f) subset_rfl) $$ Hb
  iintro Hb
  iapply Hk
  iexists _; isplitr; rotate_left; · iexact Hb
  ipureintro; exact View.read_write_univ _ _

/-- Row `y` of half `u` of a block. -/
def hidx (u : Fin 2) (y : S64x1024.Idx) : S128x1024.Idx := fun a => match a with
  | (0 : Fin 2) => (⟨64 * u.val + (y (0 : Fin 2)).val, by have : (y (0 : Fin 2)).val < 64 := (y (0 : Fin 2)).isLt; have := u.isLt; omega⟩ : Fin 128)
  | (1 : Fin 2) => y (1 : Fin 2)

/-- Half of a block, as what a load of it gives. -/
def half (X : Blk F) (u : Fin 2) : Vec F S64x1024 .bf16 := fun y => X (hidx u y)

theorem wp_halfLoad (b : Memref sig .tc .vmem S1024x1024 .bf16) (c r : Dev nD) (u : Fin 2) (q : PosShare TreeShare) (X : Blk F) {off : Fin 2 → ℕ}
    (h : off = ![128 * r.val + 64 * u.val, 0])
    {inb : ∀ a, off a + S64x1024.size a ≤ S1024x1024.size a} {hl : b.view.LoadsAt (Rect.unit (s := S1024x1024) off S64x1024.size inb).toLoadRect}
    {α : Type} {Q : α → sProp 𝕄} {cont : Vec F S64x1024 .bf16 → Prog (TpuEff nD τ sig (Elt F) Λ₀ .tc) α} :
    chunk b c r q X ⊢ iprop((chunk b c r q X -∗ wpc c (cont (half X u)) Q)
      -∗ wpc c (.op (.load b (Rect.unit (s := S1024x1024) off S64x1024.size inb).toLoadRect hl) cont) Q) := by
  subst h
  unfold chunk owns
  iintro ⟨%f, %hf, Hb⟩ Hk
  subst hf
  have hsub : b.view.setOn (Rect.unit (s := S1024x1024) ![128 * r.val + 64 * u.val, 0] S64x1024.size inb).toLoadRect.set ⊆ (chunkM b r).view.set := by
    rw [View.set_slice]
    refine Finset.map_subset_map.mpr fun i hi => ?_
    have hi := Rect.mem_set_unit.mp hi
    refine Rect.mem_set_unit.mpr fun a => ?_
    have := hi a
    have := u.isLt
    match a with
    | (0 : Fin 2) =>
      have h1 : 128 * r.val + 64 * u.val ≤ (i (0 : Fin 2)).val ∧ (i (0 : Fin 2)).val < 128 * r.val + 64 * u.val + 64 := hi (0 : Fin 2)
      show 128 * r.val ≤ (i (0 : Fin 2)).val ∧ (i (0 : Fin 2)).val < 128 * r.val + 128
      omega
    | (1 : Fin 2) => exact hi (1 : Fin 2)
  iapply (wp_load V0 (c : Thread nD τ) none Set.univ (S := (chunkM b r).view.set) hsub) $$ Hb
  iintro Hb
  have hv : b.view.readAt (Elt F) (Rect.unit (s := S1024x1024) ![128 * r.val + 64 * u.val, 0] S64x1024.size inb).toLoadRect f
      = half ((chunkM b r).view.read (Elt F) f) u := by
    funext y
    have e : (Rect.unit (s := S1024x1024) ![128 * r.val + 64 * u.val, 0] S64x1024.size inb).emb y
        = (Rect.unit (s := S1024x1024) ![128 * r.val, 0] S128x1024.size (chunk_inb r)).emb (hidx u y) := by
      funext a
      apply Fin.ext
      rw [unit_emb_val, unit_emb_val]
      match a with
      | (0 : Fin 2) => show 128 * r.val + 64 * u.val + (y (0 : Fin 2)).val = 128 * r.val + (64 * u.val + (y (0 : Fin 2)).val); omega
      | (1 : Fin 2) => rfl
    rw [View.readAt_unit _ _ inb rfl inb]
    exact congrArg (b.view.read (Elt F) f) e
  rw [hv]
  iapply Hk
  iexists f; isplitr; · ipureintro; rfl
  iexact Hb

/-- A block under a leading axis of one, as a load of a slot gives it. -/
def unsq (X : Blk F) : Vec F S1x128x1024 .bf16 := shapeCast S1x128x1024 X (by decide)

theorem wp_slotLoad (c : Dev nD) (j : Fin 7) (X : Blk F) {off : Fin 3 → ℕ} (h : off = ![j.val, 0, 0])
    {inb : ∀ a, off a + S1x128x1024.size a ≤ S7x128x1024.size a} {hl : rsM.view.LoadsAt (Rect.unit (s := S7x128x1024) off S1x128x1024.size inb).toLoadRect}
    {α : Type} {Q : α → sProp 𝕄} {cont : Vec F S1x128x1024 .bf16 → Prog (TpuEff nD τ sig (Elt F) Λ₀ .tc) α} :
    slot c j X ⊢ iprop((slot c j X -∗ wpc c (cont (unsq X)) Q)
      -∗ wpc c (.op (.load rsM (Rect.unit (s := S7x128x1024) off S1x128x1024.size inb).toLoadRect hl) cont) Q) := by
  subst h
  unfold slot owns
  iintro ⟨%f, %hf, Hb⟩ Hk
  have hset : (slotM j).view.set = (rsM.slice (Rect.unit (s := S7x128x1024) ![j.val, 0, 0] S1x128x1024.size (slot_inb j)) (fun _ => rfl)).view.set := View.set_reshape _ _
  have hsub : rsM.view.setOn (Rect.unit (s := S7x128x1024) ![j.val, 0, 0] S1x128x1024.size inb).toLoadRect.set ⊆ (slotM j).view.set := by
    rw [hset, View.set_slice]; exact subset_rfl
  iapply (wp_load V0 (c : Thread nD τ) none Set.univ (m := rsM) (f := f) (S := (slotM j).view.set) hsub) $$ Hb
  iintro Hb
  have hv : rsM.view.readAt (Elt F) (Rect.unit (s := S7x128x1024) ![j.val, 0, 0] S1x128x1024.size inb).toLoadRect f = unsq X := by
    rw [← hf]
    unfold unsq
    show _ = shapeCast S1x128x1024 (shapeCast S128x1024 (rsM.view.readAt (Elt F) (Rect.unit (s := S7x128x1024) ![j.val, 0, 0] S1x128x1024.size inb).toLoadRect f) shapeCasts_S1x128x1024_S128x1024) _
    rw [shapeCast_comp]; exact (shapeCast_id _ _).symm
  rw [hv]
  iapply Hk
  iexists f; isplitr; · ipureintro; exact hf
  iexact Hb

/-! ## Eight blocks, seven slots -/

abbrev chR (r : Dev nD) : Rect S1024x1024 := Rect.unit (s := S1024x1024) ![128 * r.val, 0] S128x1024.size (chunk_inb r)
abbrev slR (j : Fin 7) : Rect S7x128x1024 := Rect.unit (s := S7x128x1024) ![j.val, 0, 0] S1x128x1024.size (slot_inb j)

theorem chR_disj (r r' : Dev nD) (h : r ≠ r') : Disjoint (chR r).set (chR r').set := by
  refine Rect.unit_disjoint (0 : Fin 2) ?_
  have : r.val ≠ r'.val := fun e => h (Fin.ext e)
  show 128 * r.val + 128 ≤ 128 * r'.val ∨ 128 * r'.val + 128 ≤ 128 * r.val
  omega
theorem chR_cov : (Finset.univ : Finset (Dev nD)).biUnion (fun r => (chR r).set) = Finset.univ := by
  refine Finset.eq_univ_of_forall fun i => Finset.mem_biUnion.mpr ?_
  have h0 : (i (0 : Fin 2)).val < 1024 := (i (0 : Fin 2)).isLt
  refine ⟨⟨(i (0 : Fin 2)).val / 128, by show _ < 8; omega⟩, Finset.mem_univ _, Rect.mem_set_unit.mpr fun a => ?_⟩
  match a with
  | (0 : Fin 2) => show 128 * ((i (0 : Fin 2)).val / 128) ≤ _ ∧ _ < 128 * ((i (0 : Fin 2)).val / 128) + 128; omega
  | (1 : Fin 2) => exact ⟨Nat.zero_le _, by show _ < 0 + 1024; rw [Nat.zero_add]; exact (i (1 : Fin 2)).isLt⟩
theorem slR_disj (r r' : Fin 7) (h : r ≠ r') : Disjoint (slR r).set (slR r').set := by
  refine Rect.unit_disjoint (0 : Fin 3) ?_
  have : r.val ≠ r'.val := fun e => h (Fin.ext e)
  show r.val + 1 ≤ r'.val ∨ r'.val + 1 ≤ r.val
  omega
theorem slR_cov : (Finset.univ : Finset (Fin 7)).biUnion (fun r => (slR r).set) = Finset.univ := by
  refine Finset.eq_univ_of_forall fun i => Finset.mem_biUnion.mpr ?_
  have h0 : (i (0 : Fin 3)).val < 7 := (i (0 : Fin 3)).isLt
  refine ⟨⟨(i (0 : Fin 3)).val, h0⟩, Finset.mem_univ _, Rect.mem_set_unit.mpr fun a => ?_⟩
  match a with
  | (0 : Fin 3) => show (i (0 : Fin 3)).val ≤ _ ∧ _ < (i (0 : Fin 3)).val + 1; omega
  | (1 : Fin 3) => exact ⟨Nat.zero_le _, by show _ < 0 + 128; rw [Nat.zero_add]; exact (i (1 : Fin 3)).isLt⟩
  | (2 : Fin 3) => exact ⟨Nat.zero_le _, by show _ < 0 + 1024; rw [Nat.zero_add]; exact (i (2 : Fin 3)).isLt⟩

/-- A buffer of 1024 rows is its eight blocks. -/
theorem chunks_split (b : Memref sig .tc .vmem S1024x1024 .bf16) (c : Dev nD) :
    (iprop(∃ X, owns (c : Thread nD τ) b fullShare X) : sProp 𝕄) ⊢ bigSep Finset.univ fun r : Dev nD => iprop(∃ X, chunk b c r fullShare X) := by
  iintro ⟨%X, H⟩
  iapply ((owns_rects (c : Thread nD τ) b fullShare chR (fun _ _ => rfl) chR_disj chR_cov X).trans
    (bigSep_mono fun r _ => show _ ⊢ iprop(∃ X, chunk b c r fullShare X) from exists_intro (Φ := fun X => chunk b c r fullShare X) _))
  iexact H

theorem chunks_join (b : Memref sig .tc .vmem S1024x1024 .bf16) (c : Dev nD) :
    (bigSep Finset.univ fun r : Dev nD => iprop(∃ X, chunk b c r fullShare X)) ⊢ (iprop(∃ X, owns (c : Thread nD τ) b fullShare X) : sProp 𝕄) := by
  haveI : Nonempty (Blk F) := ⟨fun _ => (Elt.nonempty F .bf16).some⟩
  refine (BI.bigSep_exists_pi Finset.univ fun r X => chunk b c r fullShare X).trans ?_
  iintro ⟨%Y, H⟩
  iexists Rect.glue chR chR_cov Y
  iapply (owns_of_rects (c : Thread nD τ) b fullShare chR (fun _ _ => rfl) chR_disj chR_cov (Rect.glue chR chR_cov Y))
  have e : (fun r : Dev nD => chunk b c r fullShare (Y r)) = fun r => (owns (c : Thread nD τ) (b.slice (chR r) fun _ => rfl) fullShare fun j => Rect.glue chR chR_cov Y ((chR r).emb j) : sProp 𝕄) := by
    funext r
    rw [show (fun j => Rect.glue chR chR_cov Y ((chR r).emb j)) = Y r from funext fun j => Rect.glue_emb chR chR_cov chR_disj Y r j]
    rfl
  rw [← e]
  iexact H

theorem slot_of_slice (c : Dev nD) (j : Fin 7) (X : (slR j).shape.Idx → Elt F .bf16) :
    (owns (c : Thread nD τ) (rsM.slice (slR j) fun _ => rfl) fullShare X : sProp 𝕄) ⊢ iprop(∃ Y, slot c j Y) := by
  unfold slot owns
  iintro ⟨%f, -, H⟩
  iexists (slotM j).view.read (Elt F) f
  iexists f; isplitr; · ipureintro; rfl
  have hset : (slotM j).view.set = (rsM.slice (slR j) (fun _ => rfl)).view.set := View.set_reshape _ _
  rw [hset]; iexact H
theorem slice_of_slot (c : Dev nD) (j : Fin 7) :
    (iprop(∃ Y, slot c j Y) : sProp 𝕄) ⊢ iprop(∃ X, owns (c : Thread nD τ) (rsM.slice (slR j) fun _ => rfl) fullShare X) := by
  unfold slot owns
  iintro ⟨%Y, %f, -, H⟩
  iexists (rsM.slice (slR j) fun _ => rfl).view.read (Elt F) f
  iexists f; isplitr; · ipureintro; rfl
  have hset : (slotM j).view.set = (rsM.slice (slR j) (fun _ => rfl)).view.set := View.set_reshape _ _
  rw [← hset]; iexact H

/-- The landing buffer is its seven slots. -/
theorem slots_split (c : Dev nD) :
    (iprop(∃ X, owns (c : Thread nD τ) rsM fullShare X) : sProp 𝕄) ⊢ bigSep Finset.univ fun j : Fin 7 => iprop(∃ X, slot c j X) := by
  iintro ⟨%X, H⟩
  iapply ((owns_rects (c : Thread nD τ) rsM fullShare slR (fun _ _ => rfl) slR_disj slR_cov X).trans
    (bigSep_mono fun j _ => slot_of_slice c j _))
  iexact H

theorem slots_join (c : Dev nD) :
    (bigSep Finset.univ fun j : Fin 7 => iprop(∃ X, slot c j X)) ⊢ (iprop(∃ X, owns (c : Thread nD τ) rsM fullShare X) : sProp 𝕄) := by
  refine (bigSep_mono fun j _ => slice_of_slot c j).trans ?_
  haveI : ∀ i : Fin 7, Nonempty ((slR i).shape.Idx → Elt F .bf16) := fun _ => ⟨fun _ => (Elt.nonempty F .bf16).some⟩
  refine (BI.bigSep_exists_pi Finset.univ fun r X => owns (c : Thread nD τ) (rsM.slice (slR r) fun _ => rfl) fullShare X).trans ?_
  iintro ⟨%Y, H⟩
  iexists Rect.glue slR slR_cov Y
  iapply (owns_of_rects (c : Thread nD τ) rsM fullShare slR (fun _ _ => rfl) slR_disj slR_cov (Rect.glue slR slR_cov Y))
  have e : (fun r : Fin 7 => (owns (c : Thread nD τ) (rsM.slice (slR r) fun _ => rfl) fullShare (Y r) : sProp 𝕄)) = fun r => (owns (c : Thread nD τ) (rsM.slice (slR r) fun _ => rfl) fullShare fun j => Rect.glue slR slR_cov Y ((slR r).emb j) : sProp 𝕄) := by
    funext r
    rw [show (fun j => Rect.glue slR slR_cov Y ((slR r).emb j)) = Y r from funext fun j => Rect.glue_emb slR slR_cov slR_disj Y r j]
  rw [← e]
  iexact H

end Cert.AttnProof

end
-- ==== Proof.SegX.lean ====
module

public import proofs.«01_k».proof.Proof.Blocks

/-! # The input's rows, permuted

Parts 3 to 7 of the body copy the sixteen blocks of 64 rows of the input into their permuted places, rounded. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

/-- A buffer at known contents. -/
abbrev pt (c : Dev nD) {sp : Space} {sh : Shape} {e : EltTy} (m : Memref sig .tc sp sh e) (f : m.view.ty.Contents (Elt F)) : sProp 𝕄 :=
  m.view.loc (c : Thread nD τ) ↦[m.view.set]{fullShare} f

theorem owns_of_pt (c : Dev nD) {sp : Space} {sh : Shape} {e : EltTy} (m : Memref sig .tc sp sh e) (f : m.view.ty.Contents (Elt F)) (X : sh.Idx → Elt F e)
    (h : m.view.read (Elt F) f = X) : (m.view.loc (c : Thread nD τ) ↦[m.view.set]{fullShare} f : sProp 𝕄) ⊢ owns (c : Thread nD τ) m fullShare X := by
  subst h; exact owns_intro _ _ _ _

theorem owns_pt (c : Dev nD) {sp : Space} {sh : Shape} {e : EltTy} (m : Memref sig .tc sp sh e) (X : sh.Idx → Elt F e) :
    (owns (c : Thread nD τ) m fullShare X : sProp 𝕄) ⊢ iprop(∃ f, ⌜m.view.read (Elt F) f = X⌝ ∗ pt c m f) := by
  unfold owns; exact .rfl

/-- One of the sixteen stores. -/
def xpP (c : Dev nD) (X : Vec F S1024x1024 .f32) (j : Fin 16) : View.Piece (Elt F) S1024x1024 .bf16 :=
  ⟨Rect.unit (s := S1024x1024) ![64 * j.val, 0] S64x1024.size (slab2_inb j), fun x => XP c X ((Rect.unit (s := S1024x1024) ![64 * j.val, 0] S64x1024.size (slab2_inb j)).emb x)⟩

theorem xpP_eq (c : Dev nD) (fx : xsM.view.ty.Contents (Elt F)) (j : Fin 16) (t u : Fin 4) (hj : j.val = 4 * t.val + u.val) (inb) :
    (⟨Rect.unit (s := S1024x1024) ![64 * j.val, 0] S64x1024.size (slab2_inb j),
      k0_pay1 (xsM.view.readAt (Elt F) (Rect.unit (s := S1024x1024) (k0_off3 c (BitVec.ofNat 32 t.val) (BitVec.ofNat 32 (4 * u.val))) S64x1024.size inb).toLoadRect fx)⟩ : View.Piece (Elt F) S1024x1024 .bf16)
      = xpP c (xsM.view.read (Elt F) fx) j := by
  unfold xpP
  congr 1
  funext x
  rw [View.readAt_unit _ _ inb rfl inb]
  exact xp_piece c t u j hj _ _ (k0_off3_eq c t u) inb x

theorem xp_read (c : Dev nD) (X : Vec F S1024x1024 .f32) (f6 : xpM.view.ty.Contents (Elt F)) :
    xpM.view.read (Elt F) (xpM.view.writes (Elt F) f6 [xpP c X 15, xpP c X 14, xpP c X 13, xpP c X 12, xpP c X 11, xpP c X 10, xpP c X 9, xpP c X 8,
      xpP c X 7, xpP c X 6, xpP c X 5, xpP c X 4, xpP c X 3, xpP c X 2, xpP c X 1, xpP c X 0]) = XP c X := by
  funext y
  have hy : (y (0 : Fin 2)).val < 1024 := (y (0 : Fin 2)).isLt
  have hall (j : Fin 16) : xpP c X j ∈ [xpP c X 15, xpP c X 14, xpP c X 13, xpP c X 12, xpP c X 11, xpP c X 10, xpP c X 9, xpP c X 8,
      xpP c X 7, xpP c X 6, xpP c X 5, xpP c X 4, xpP c X 3, xpP c X 2, xpP c X 1, xpP c X 0] := by
    fin_cases j <;> simp
  refine View.read_writes_apply_of_pieces _ _ (XP c X) _ ?_ y ⟨xpP c X ⟨(y (0 : Fin 2)).val / 64, by omega⟩, hall _, ?_⟩
  · simp only [List.forall_mem_cons, List.not_mem_nil, false_imp_iff, implies_true, and_true]
    unfold xpP
    exact ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl⟩
  · unfold xpP
    refine (Rect.mem_set_unit (inb := slab2_inb _)).mpr fun a => ?_
    match a with
    | (0 : Fin 2) => show 64 * ((y (0 : Fin 2)).val / 64) ≤ (y (0 : Fin 2)).val ∧ (y (0 : Fin 2)).val < 64 * ((y (0 : Fin 2)).val / 64) + 64; omega
    | (1 : Fin 2) => exact ⟨Nat.zero_le _, by show _ < 0 + 1024; rw [Nat.zero_add]; exact (y (1 : Fin 2)).isLt⟩

theorem xp_done (c : Dev nD) (X : Vec F S1024x1024 .f32) (f6 : xpM.view.ty.Contents (Elt F)) (L : List (View.Piece (Elt F) S1024x1024 .bf16))
    (h : L = [xpP c X 15, xpP c X 14, xpP c X 13, xpP c X 12, xpP c X 11, xpP c X 10, xpP c X 9, xpP c X 8,
      xpP c X 7, xpP c X 6, xpP c X 5, xpP c X 4, xpP c X 3, xpP c X 2, xpP c X 1, xpP c X 0]) :
    (xpM.view.loc (c : Thread nD τ) ↦[xpM.view.set]{fullShare} xpM.view.writes (Elt F) f6 L : sProp 𝕄) ⊢ owns (c : Thread nD τ) xpM fullShare (XP c X) := by
  subst h; exact owns_of_pt c xpM _ _ (xp_read c X f6)

theorem seg_x (c : Dev nD) (v5 v51 : BitVec 32) (k : Prog (TpuEff nD τ sig (Elt F) Λ₀ .tc) (Dev nD)) (fx) (f6) (Q : Dev nD → sProp 𝕄) :
    iprop(pt c xsM fx ∗ pt c xpM f6)
      ⊢ iprop(((pt c xsM fx ∗ owns (c : Thread nD τ) xpM fullShare (XP c (xsM.view.read (Elt F) fx))) -∗ wpc c k Q)
        -∗ wpc c (do
          let ⟨v85, c64⟩ : Σ' (v85 : BitVec 32), BitVec 32 ← At (k0_part3 (F := F)) c v5 v51
          At (k0_part4 (F := F)) c v5 v85 c64
          let v156 : FVec F S64x1024 .bf16 ← At (k0_part5 (F := F)) c v5
          let ⟨v189, v190⟩ : Σ' (v189: FVec F S64x1024 .bf16), Vec F S64x1024 .bf16 ← At (k0_part6 (F := F)) c v5 v156
          At (k0_part7 (F := F)) c v5 v189 v190
          k) Q) := by
  iintro ⟨Hx, H6⟩ Hk
  delta At wpc; beta_reduce
  sl_exec_parts
  iapply Hk
  isplitl [Hx]; · iexact Hx
  iapply (xp_done c (xsM.view.read (Elt F) fx) f6 _
    (congrArg₂ List.cons (xpP_eq c fx 15 3 3 rfl _) (congrArg₂ List.cons (xpP_eq c fx 14 3 2 rfl _) (congrArg₂ List.cons (xpP_eq c fx 13 3 1 rfl _) (congrArg₂ List.cons (xpP_eq c fx 12 3 0 rfl _) (congrArg₂ List.cons (xpP_eq c fx 11 2 3 rfl _) (congrArg₂ List.cons (xpP_eq c fx 10 2 2 rfl _) (congrArg₂ List.cons (xpP_eq c fx 9 2 1 rfl _) (congrArg₂ List.cons (xpP_eq c fx 8 2 0 rfl _) (congrArg₂ List.cons (xpP_eq c fx 7 1 3 rfl _) (congrArg₂ List.cons (xpP_eq c fx 6 1 2 rfl _) (congrArg₂ List.cons (xpP_eq c fx 5 1 1 rfl _) (congrArg₂ List.cons (xpP_eq c fx 4 1 0 rfl _) (congrArg₂ List.cons (xpP_eq c fx 3 0 3 rfl _) (congrArg₂ List.cons (xpP_eq c fx 2 0 2 rfl _) (congrArg₂ List.cons (xpP_eq c fx 1 0 1 rfl _) (congrArg₂ List.cons (xpP_eq c fx 0 0 0 rfl _) rfl)))))))))))))))))
  iexact H6

end Cert.AttnProof

end
-- ==== Proof.SegH.lean ====
module

public import proofs.«01_k».proof.Proof.SegX

/-! # One residue's heads

What the stores of one residue step leave, read back: four slabs of keys or values, eight tiles of the context, and the partial
projection of a block of 128 of its rows. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

/-- Slab `u` of residue step `t` among the sixteen. -/
def slab (t u : Fin 4) : Fin 16 := ⟨4 * t.val + u.val, by have := t.isLt; have := u.isLt; omega⟩

/-- The store of one slab, as the body makes it from the staged array `s`. -/
abbrev kSt (c : Dev nD) (s : Memref sig .tc .vmem S1024x8x128 .f32) (fs : s.view.ty.Contents (Elt F)) (t u : Fin 4) : View.Piece (Elt F) S1024x8x128 .bf16 :=
  ⟨Rect.unit (s := S1024x8x128) ![64 * (slab t u).val, 0, 0] S64x8x128.size (slab3_inb (slab t u)),
    k0_pay21 (s.view.readAt (Elt F) (Rect.unit (s := S1024x8x128) (k0_off4 c (BitVec.ofNat 32 t.val) (BitVec.ofNat 32 (4 * u.val))) S64x8x128.size (k0_off4_inb c t u)).toLoadRect fs)⟩

theorem kSt_apply (c : Dev nD) (s : Memref sig .tc .vmem S1024x8x128 .f32) (fs : s.view.ty.Contents (Elt F)) (t u : Fin 4) (x) :
    (kSt c s fs t u).2 x = KP c (s.view.read (Elt F) fs) ((kSt c s fs t u).1.emb x) := by
  dsimp only [kSt]
  rw [View.readAt_unit _ _ (k0_off4_inb c t u) rfl (k0_off4_inb c t u)]
  exact kp_piece c t u (slab t u) rfl _ _ (k0_off4_eq c t u) _ x

/-- A buffer after the four stores of a residue step. -/
abbrev kBuf (c : Dev nD) (s : Memref sig .tc .vmem S1024x8x128 .f32) (fs : s.view.ty.Contents (Elt F)) (b : Memref sig .tc .vmem S1024x8x128 .bf16)
    (f : b.view.ty.Contents (Elt F)) (t : Fin 4) : b.view.ty.Contents (Elt F) :=
  b.view.writes (Elt F) f [kSt c s fs t 3, kSt c s fs t 2, kSt c s fs t 1, kSt c s fs t 0]

/-- The load of one head's keys or values. -/
abbrev kLd (b : Memref sig .tc .vmem S1024x8x128 .bf16) (f : b.view.ty.Contents (Elt F)) (t : Fin 4) (h : Fin 8) : Vec F S256x1x128 .bf16 :=
  b.view.readAt (Elt F) (Rect.unit (s := S1024x8x128) ![256 * t.val, h.val, 0] S256x1x128.size (head_inb t h)).toLoadRect f

theorem kBuf_read (c : Dev nD) (s : Memref sig .tc .vmem S1024x8x128 .f32) (fs : s.view.ty.Contents (Elt F)) (b : Memref sig .tc .vmem S1024x8x128 .bf16)
    (f : b.view.ty.Contents (Elt F)) (t : Fin 4) (h : Fin 8) :
    kLd b (kBuf c s fs b f t) t h = window (KP c (s.view.read (Elt F) fs)) ![256 * t.val, h.val, 0] S256x1x128.size (head_inb t h) := by
  unfold kLd
  rw [View.readAt_unit _ _ (head_inb t h) rfl (head_inb t h)]
  funext y
  show b.view.read (Elt F) (kBuf c s fs b f t) ((Rect.unit (s := S1024x8x128) ![256 * t.val, h.val, 0] S256x1x128.size (head_inb t h)).emb y)
    = KP c (s.view.read (Elt F) fs) ((Rect.unit (s := S1024x8x128) ![256 * t.val, h.val, 0] S256x1x128.size (head_inb t h)).emb y)
  have hall (u : Fin 4) : kSt c s fs t u ∈ [kSt c s fs t 3, kSt c s fs t 2, kSt c s fs t 1, kSt c s fs t 0] := by
    match u with
    | (0 : Fin 4) => exact List.mem_cons_of_mem _ (List.mem_cons_of_mem _ (List.mem_cons_of_mem _ List.mem_cons_self))
    | (1 : Fin 4) => exact List.mem_cons_of_mem _ (List.mem_cons_of_mem _ List.mem_cons_self)
    | (2 : Fin 4) => exact List.mem_cons_of_mem _ List.mem_cons_self
    | (3 : Fin 4) => exact List.mem_cons_self
  have h0 : (y (0 : Fin 3)).val < 256 := (y (0 : Fin 3)).isLt
  refine View.read_writes_apply_of_pieces _ _ (KP c (s.view.read (Elt F) fs)) _ ?_ _
    ⟨kSt c s fs t ⟨(y (0 : Fin 3)).val / 64, by omega⟩, hall _, ?_⟩
  · simp only [List.forall_mem_cons, List.not_mem_nil, false_imp_iff, implies_true, and_true]
    exact ⟨kSt_apply c s fs t 3, kSt_apply c s fs t 2, kSt_apply c s fs t 1, kSt_apply c s fs t 0⟩
  · refine (Rect.mem_set_unit (inb := slab3_inb _)).mpr fun a => ?_
    rw [unit_emb_val]
    match a with
    | (0 : Fin 3) => show 64 * (4 * t.val + (y (0 : Fin 3)).val / 64) ≤ 256 * t.val + (y (0 : Fin 3)).val ∧ 256 * t.val + (y (0 : Fin 3)).val < 64 * (4 * t.val + (y (0 : Fin 3)).val / 64) + 64; omega
    | (1 : Fin 3) =>
      have h1 : (y (1 : Fin 3)).val < 1 := (y (1 : Fin 3)).isLt
      have := h.isLt
      show 0 ≤ h.val + (y (1 : Fin 3)).val ∧ h.val + (y (1 : Fin 3)).val < 0 + 8; omega
    | (2 : Fin 3) =>
      have h2 : (y (2 : Fin 3)).val < 128 := (y (2 : Fin 3)).isLt
      show 0 ≤ 0 + (y (2 : Fin 3)).val ∧ 0 + (y (2 : Fin 3)).val < 0 + 128; omega

/-- The store of one head's context tile, as the body makes it. -/
abbrev cSt (t : Fin 4) (h : Fin 8) (q : FVec F S256x1024 .bf16) (k v : Vec F S256x1x128 .bf16) : View.Piece (Elt F) S1024x1024 .bf16 :=
  ⟨Rect.unit (s := S1024x1024) ![256 * t.val, 128 * h.val] S256x128.size (tile_inb t h), headOf h q k v⟩

/-- The queries as the body computes them from the permuted input. -/
abbrev qSt (v230 : FVec F S1024x1024 .bf16) (f6 : xpM.view.ty.Contents (Elt F)) (t : Fin 4) : FVec F S256x1024 .bf16 :=
  k0_pay29 v230 (xpM.view.readAt (Elt F) (Rect.unit (s := S1024x1024) ![256 * t.val, 0] S256x1024.size (rows_inb t)).toLoadRect f6)

theorem half_inb (t : Fin 4) (u : Fin 2) : ∀ a : Fin 2, (![256 * t.val + 128 * u.val, 0] : Fin 2 → ℕ) a + S128x1024.size a ≤ S1024x1024.size a := by
  revert t u; decide

/-- The step's `u`-th block among the eight. -/
def blk (t : Fin 4) (u : Fin 2) : Fin 8 := ⟨2 * t.val + u.val, by have := t.isLt; have := u.isLt; omega⟩

section
variable (c : Dev nD) (fk : ksM.view.ty.Contents (Elt F)) (fv : vsM.view.ty.Contents (Elt F)) (f6 : xpM.view.ty.Contents (Elt F))
  (f7 : kpM.view.ty.Contents (Elt F)) (f8 : vpM.view.ty.Contents (Elt F)) (v230 v235 : FVec F S1024x1024 .bf16)

abbrev tSt (t : Fin 4) (h : Fin 8) : View.Piece (Elt F) S1024x1024 .bf16 :=
  cSt t h (qSt v230 f6 t) (kLd kpM (kBuf c ksM fk kpM f7 t) t h) (kLd vpM (kBuf c vsM fv vpM f8 t) t h)

/-- The context buffer after the eight tiles of a residue step. -/
abbrev cBuf (f9 : ctM.view.ty.Contents (Elt F)) (t : Fin 4) : ctM.view.ty.Contents (Elt F) :=
  ctM.view.writes (Elt F) f9 [tSt c fk fv f6 f7 f8 v230 t 7, tSt c fk fv f6 f7 f8 v230 t 6, tSt c fk fv f6 f7 f8 v230 t 5, tSt c fk fv f6 f7 f8 v230 t 4,
    tSt c fk fv f6 f7 f8 v230 t 3, tSt c fk fv f6 f7 f8 v230 t 2, tSt c fk fv f6 f7 f8 v230 t 1, tSt c fk fv f6 f7 f8 v230 t 0]

theorem tSt_apply (X : Vec F S1024x1024 .f32) (WQ : Vec F S1024x1024 .f32) (h6 : xpM.view.read (Elt F) f6 = XP c X) (hq : v230 = k0_pay19 WQ) (t : Fin 4) (h : Fin 8) (x) :
    (tSt c fk fv f6 f7 f8 v230 t h).2 x
      = CTX c X (ksM.view.read (Elt F) fk) (vsM.view.read (Elt F) fv) WQ ((tSt c fk fv f6 f7 f8 v230 t h).1.emb x) := by
  rw [CTX_tile c X _ _ WQ t h x]
  show headOf h _ _ _ x = _
  unfold TILE QG
  rw [kBuf_read c ksM fk kpM f7 t h, kBuf_read c vsM fv vpM f8 t h, hq, ← h6]
  unfold qSt
  rw [View.readAt_unit _ _ (rows_inb t) rfl (rows_inb t)]

/-- What the body stores as a partial projection is the closed form. -/
theorem acc_val (X : Vec F S1024x1024 .f32) (WQ WO : Vec F S1024x1024 .f32) (h6 : xpM.view.read (Elt F) f6 = XP c X) (hq : v230 = k0_pay19 WQ) (ho : v235 = k0_pay20 WO)
    (f9 : ctM.view.ty.Contents (Elt F)) (t : Fin 4) (u : Fin 2) :
    k0_pay48 v235 (ctM.view.readAt (Elt F) (Rect.unit (s := S1024x1024) ![256 * t.val + 128 * u.val, 0] S128x1024.size (half_inb t u)).toLoadRect
      (cBuf c fk fv f6 f7 f8 v230 f9 t))
      = ACCn c X (ksM.view.read (Elt F) fk) (vsM.view.read (Elt F) fv) WQ WO (blk t u) := by
  subst ho
  unfold ACCn
  congr 1
  have e : (![256 * t.val + 128 * u.val, 0] : Fin 2 → ℕ) = ![128 * (blk t u).val, 0] := by
    show _ = ![128 * (2 * t.val + u.val), 0]
    congr 1; omega
  rw [View.readAt_unit _ _ (half_inb t u) e (chunk_inb (blk t u))]
  funext y
  show ctM.view.read (Elt F) (cBuf c fk fv f6 f7 f8 v230 f9 t) ((Rect.unit (s := S1024x1024) ![128 * (blk t u).val, 0] S128x1024.size (chunk_inb (blk t u))).emb y)
    = CTX c X (ksM.view.read (Elt F) fk) (vsM.view.read (Elt F) fv) WQ ((Rect.unit (s := S1024x1024) ![128 * (blk t u).val, 0] S128x1024.size (chunk_inb (blk t u))).emb y)
  have hall (h : Fin 8) : tSt c fk fv f6 f7 f8 v230 t h ∈ [tSt c fk fv f6 f7 f8 v230 t 7, tSt c fk fv f6 f7 f8 v230 t 6, tSt c fk fv f6 f7 f8 v230 t 5, tSt c fk fv f6 f7 f8 v230 t 4,
      tSt c fk fv f6 f7 f8 v230 t 3, tSt c fk fv f6 f7 f8 v230 t 2, tSt c fk fv f6 f7 f8 v230 t 1, tSt c fk fv f6 f7 f8 v230 t 0] := by
    have : List.Mem h [(7 : Fin 8), 6, 5, 4, 3, 2, 1, 0] := by show h ∈ [(7 : Fin 8), 6, 5, 4, 3, 2, 1, 0]; revert h; decide
    exact List.mem_map_of_mem (f := fun h => tSt c fk fv f6 f7 f8 v230 t h) this
  have h0 : (y (0 : Fin 2)).val < 128 := (y (0 : Fin 2)).isLt
  have h1 : (y (1 : Fin 2)).val < 1024 := (y (1 : Fin 2)).isLt
  have hT := tSt_apply c fk fv f6 f7 f8 v230 X WQ h6 hq t
  refine View.read_writes_apply_of_pieces _ _ (CTX c X (ksM.view.read (Elt F) fk) (vsM.view.read (Elt F) fv) WQ) _ ?_ _
    ⟨tSt c fk fv f6 f7 f8 v230 t ⟨(y (1 : Fin 2)).val / 128, by omega⟩, hall _, ?_⟩
  · simp only [List.forall_mem_cons, List.not_mem_nil, false_imp_iff, implies_true, and_true]
    exact ⟨hT 7, hT 6, hT 5, hT 4, hT 3, hT 2, hT 1, hT 0⟩
  · refine (Rect.mem_set_unit (inb := tile_inb _ _)).mpr fun a => ?_
    rw [unit_emb_val]
    have := u.isLt
    match a with
    | (0 : Fin 2) => show 256 * t.val ≤ 128 * (2 * t.val + u.val) + (y (0 : Fin 2)).val ∧ 128 * (2 * t.val + u.val) + (y (0 : Fin 2)).val < 256 * t.val + 256; omega
    | (1 : Fin 2) => show 128 * ((y (1 : Fin 2)).val / 128) ≤ 0 + (y (1 : Fin 2)).val ∧ 0 + (y (1 : Fin 2)).val < 128 * ((y (1 : Fin 2)).val / 128) + 128; omega

end

theorem chunk_eq (b : Memref sig .tc .vmem S1024x1024 .bf16) (c r : Dev nD) (q : PosShare TreeShare) {X Y : Blk F} (h : X = Y) :
    (chunk b c r q X : sProp 𝕄) ⊢ chunk b c r q Y := by subst h; exact .rfl

end Cert.AttnProof

end
-- ==== Proof.Send.lean ====
module

public import proofs.«01_k».proof.Proof.SegH

/-! # The conditional copies and the local ones

A partial block is copied to its owner unless the device owns it itself; the two local copies of the weights are waited for
where they are first read. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

theorem ret_bind {α β : Type} (a : α) (k : α → Prog (TpuEff nD τ sig (Elt F) Λ₀ .tc) β) : (Prog.ret a).bind k = k a := rfl

/-! ## The local copies -/

/-- The semaphores of the two local copies. -/
def wS (i : Fin 2) : DmaSem sig := ⟨i.val + 33, by have := i.isLt; show _ < 35; omega⟩
abbrev wSC (c : Dev nD) (i : Fin 2) : GSem nD τ sig := ((c : Thread nD τ), .dma (wS i))

theorem wS_sem {off : Fin 1 → ℕ} (inb : ∀ a, off a + S1.size a ≤ S2.size a) (j : Fin 2) (h : off = ![j.val]) :
    ((cc0_scratch13.slice (Rect.unit (s := S2) off S1.size inb)).squeeze S_ squeezes_S1_S_).sem = wS j := by
  subst h; revert inb; revert j; decide

/-- A wait for a local copy, whatever is owed to higher cells. -/
theorem wp_waitW (c : Dev nD) (i : Fin 2) (O : CellTallies nD τ sig Unit) (hO : (levAts L lv : sProp 𝕄) ⊢ MayWait (c : Thread nD τ) (.dma (wS i)) () O)
    {s : DmaSem sig} (hs : s = wS i) {sp sp' : Space} {s₁ s₂ : Shape} {e₁ e₂ : EltTy} {src : Memref sig .tc sp' s₂ e₂} {dst : Memref sig .tc sp s₁ e₁}
    {h1 : src.view.WordExact} {h2 : dst.view.WordExact} {n : ℕ} (hN : dst.view.dmaCredit = n) (D : sProp 𝕄)
    {α : Type} {Q : α → sProp 𝕄} {cont : PUnit → Prog (TpuEff nD τ sig (Elt F) Λ₀ .tc) α} :
    iprop(levAts L lv ∗ Transfers.Flight EC (c : Thread nD τ) (.dma (wS i)) () n D ∗ ow c O)
      ⊢ iprop(((D ∗ semVal (wSC c i) 0 ∗ ow c O) -∗ wpc c (cont ⟨⟩) Q) -∗ wpc c (.op (.waitDma2 s src dst h1 h2) cont) Q) := by
  subst hs
  unfold ow
  iintro ⟨#HL, Hf, %W, HO⟩ Hk
  iapply (Transfers.wp_waitLocalO EC V0 (c : Thread nD τ) none () hN (O := O) (W := W)) $$ [Hf HO]
  · isplitl [Hf]; · iexact Hf
    isplitl [HO]; · iexact HO
    iapply hO; iexact HL
  iintro ⟨HD, Hv, HO⟩
  iapply Hk
  isplitl [HD]; · iexact HD
  isplitl [Hv]; · iexact Hv
  iexists _; iexact HO

theorem wp_fullLoad (c : Dev nD) {sh : Shape} {e : EltTy} (m : Memref sig .tc .vmem sh e) (X : sh.Idx → Elt F e) {off : Fin sh.rank → ℕ}
    {inb : ∀ a, off a + sh.size a ≤ sh.size a} {hl : m.view.LoadsAt (Rect.unit (s := sh) off sh.size inb).toLoadRect}
    {α : Type} {Q : α → sProp 𝕄} {cont : Vec F sh e → Prog (TpuEff nD τ sig (Elt F) Λ₀ .tc) α} :
    owns (c : Thread nD τ) m fullShare X ⊢ iprop((owns (c : Thread nD τ) m fullShare X -∗ wpc c (cont X) Q)
      -∗ wpc c (.op (.load m (Rect.unit (s := sh) off sh.size inb).toLoadRect hl) cont) Q) := by
  unfold owns
  iintro ⟨%f, %hf, Hb⟩ Hk
  subst hf
  iapply (wp_load V0 (c : Thread nD τ) none Set.univ (m := m) (f := f) (S := m.view.set) (Finset.map_subset_map.mpr (Finset.subset_univ _))) $$ Hb
  iintro Hb
  rw [View.readAt_full]
  iapply Hk
  iexists f; isplitr; · ipureintro; rfl
  iexact Hb

/-- A store of a block whose value is known in closed form. -/
theorem wp_chStoreV (b : Memref sig .tc .vmem S1024x1024 .bf16) (c r : Dev nD) (X : Blk F) {off : Fin 2 → ℕ} (h : off = ![128 * r.val, 0])
    {inb : ∀ a, off a + S128x1024.size a ≤ S1024x1024.size a} {Y Z : Blk F} (hY : Y = Z) {hx} {hm}
    {α : Type} {Q : α → sProp 𝕄} {cont : PUnit → Prog (TpuEff nD τ sig (Elt F) Λ₀ .tc) α} :
    chunk b c r fullShare X ⊢ iprop((chunk b c r fullShare Z -∗ wpc c (cont ⟨⟩) Q)
      -∗ wpc c (.op (.store b (Rect.unit (s := S1024x1024) off S128x1024.size inb) Y Finset.univ hx hm) cont) Q) := by
  subst hY; exact wp_chStore b c r X h Y

/-! ## The conditional copies -/

section

variable (ACC : Dev nD → Dev nD → Blk F) (RED : Dev nD → Blk F) (K : Dev nD × Fin 30 → ℕ)

/-- What the copy of block `r` needs beside the block, nothing for the device's own. -/
def todo (c r : Dev nD) : sProp 𝕄 :=
  if r = c then iprop(emp) else iprop((∃ X, slot r (sl c r) X) ∗ dutyTok ER (rsSC c r) 0 0 ∗ dutyTok ER (rsRC r (sl c r)) 0 0)

/-- What is left of block `r` after its turn: the credit of its copy, or the device's own block. -/
def fin (c r : Dev nD) : sProp 𝕄 :=
  if r = c then chunk acM c c fullShare (ACC c c) else cred (tallyAt (rsSC c r) () N)

theorem wp_send (c r : Dev nD) {p : Prop} [Decidable p] (hp : p ↔ r ≠ c) (O : CellTallies nD τ sig Unit) {α : Type} {Q : α → sProp 𝕄}
    {A : p → Prog (TpuEff nD τ sig (Elt F) Λ₀ .tc) α} {A' : ¬ p → Prog (TpuEff nD τ sig (Elt F) Λ₀ .tc) α} (B : Prog (TpuEff nD τ sig (Elt F) Λ₀ .tc) α)
    (hA : ∀ h : p, iprop(records ACC RED K ∗ chunk acM c r fullShare (ACC c r) ∗ (∃ X, slot r (sl c r) X) ∗ ow c (O + tallyAt (rsRC r (sl c r)) () N) ∗ dutyTok ER (rsSC c r) 0 0 ∗ dutyTok ER (rsRC r (sl c r)) 0 0)
      ⊢ iprop(((cred (tallyAt (rsSC c r) () N) ∗ ow c O) -∗ wpc c B Q) -∗ wpc c (A h) Q))
    (hA' : ∀ h : ¬ p, A' h = B) :
    iprop(records ACC RED K ∗ chunk acM c r fullShare (ACC c r) ∗ todo c r ∗ ow c (O + tallyAt (rsRC r (sl c r)) () (if r = c then 0 else N)))
      ⊢ iprop(((fin ACC c r ∗ ow c O) -∗ wpc c B Q) -∗ wpc c (if h : p then A h else A' h) Q) := by
  by_cases h : r = c
  · have hn : ¬ p := fun hp' => hp.1 hp' h
    subst h
    rw [dif_neg hn, hA' hn, if_pos rfl, tallyAt_zero, add_zero]
    unfold fin
    rw [if_pos rfl]
    iintro ⟨-, Ha, -, HO⟩ Hk
    iapply Hk
    isplitl [Ha] <;> iassumption
  · have hn : p := hp.2 h
    rw [dif_pos hn, if_neg h]
    unfold fin todo
    rw [if_neg h, if_neg h]
    iintro ⟨#HR, Ha, ⟨Hs, HtS, HtR⟩, HO⟩ Hk
    iapply (hA hn) $$ [Ha Hs HtS HtR HO]
    · isplitr; · iexact HR
      isplitl [Ha]; · iexact Ha
      isplitl [Hs]; · iexact Hs
      isplitl [HO]; · iexact HO
      isplitl [HtS] <;> iassumption
    iintro H
    iapply Hk
    iexact H

end

/-! The eight copies' numbers: which block each is, its condition, its target, its slot and its semaphores. -/

theorem cond1 (c : Dev nD) : k0_cond1 c = 1#1 ↔ ch c 0 ≠ c := by revert c; decide
theorem dest1 (c : Dev nD) (h : k0_cond1 c = 1#1) : (⟨k0_dev8 c, k0_dev8_lt c h⟩ : Dev nD) = ch c 0 := by revert c; decide
theorem nums1 (c : Dev nD) : k0_off6 c = ![(ch c 0).val] ∧ k0_off9 c = ![128 * (ch c 0).val, 0] := by revert c; decide
theorem land1 (c : Dev nD) (h : k0_cond1 c = 1#1) : k0_off7 c = ![(sl c (ch c 0)).val] ∧ k0_off8 c = ![(sl c (ch c 0)).val, 0, 0] := by revert c; decide
theorem cond2 (c : Dev nD) : k0_cond2 c = 1#1 ↔ ch c 1 ≠ c := by revert c; decide
theorem dest2 (c : Dev nD) (h : k0_cond2 c = 1#1) : (⟨k0_dev9 c, k0_dev9_lt c h⟩ : Dev nD) = ch c 1 := by revert c; decide
theorem nums2 (c : Dev nD) : k0_off10 c = ![(ch c 1).val] ∧ k0_off13 c = ![128 * (ch c 1).val, 0] := by revert c; decide
theorem land2 (c : Dev nD) (h : k0_cond2 c = 1#1) : k0_off11 c = ![(sl c (ch c 1)).val] ∧ k0_off12 c = ![(sl c (ch c 1)).val, 0, 0] := by revert c; decide
theorem cond3 (c : Dev nD) : k0_cond3 c = 1#1 ↔ ch c 2 ≠ c := by revert c; decide
theorem dest3 (c : Dev nD) (h : k0_cond3 c = 1#1) : (⟨k0_dev10 c, k0_dev10_lt c h⟩ : Dev nD) = ch c 2 := by revert c; decide
theorem nums3 (c : Dev nD) : k0_off14 c = ![(ch c 2).val] ∧ k0_off17 c = ![128 * (ch c 2).val, 0] := by revert c; decide
theorem land3 (c : Dev nD) (h : k0_cond3 c = 1#1) : k0_off15 c = ![(sl c (ch c 2)).val] ∧ k0_off16 c = ![(sl c (ch c 2)).val, 0, 0] := by revert c; decide
theorem cond4 (c : Dev nD) : k0_cond4 c = 1#1 ↔ ch c 3 ≠ c := by revert c; decide
theorem dest4 (c : Dev nD) (h : k0_cond4 c = 1#1) : (⟨k0_dev11 c, k0_dev11_lt c h⟩ : Dev nD) = ch c 3 := by revert c; decide
theorem nums4 (c : Dev nD) : k0_off18 c = ![(ch c 3).val] ∧ k0_off21 c = ![128 * (ch c 3).val, 0] := by revert c; decide
theorem land4 (c : Dev nD) (h : k0_cond4 c = 1#1) : k0_off19 c = ![(sl c (ch c 3)).val] ∧ k0_off20 c = ![(sl c (ch c 3)).val, 0, 0] := by revert c; decide
theorem cond5 (c : Dev nD) : k0_cond5 c = 1#1 ↔ ch c 4 ≠ c := by revert c; decide
theorem dest5 (c : Dev nD) (h : k0_cond5 c = 1#1) : (⟨k0_dev12 c, k0_dev12_lt c h⟩ : Dev nD) = ch c 4 := by revert c; decide
theorem nums5 (c : Dev nD) : k0_off22 c = ![(ch c 4).val] ∧ k0_off25 c = ![128 * (ch c 4).val, 0] := by revert c; decide
theorem land5 (c : Dev nD) (h : k0_cond5 c = 1#1) : k0_off23 c = ![(sl c (ch c 4)).val] ∧ k0_off24 c = ![(sl c (ch c 4)).val, 0, 0] := by revert c; decide
theorem cond6 (c : Dev nD) : k0_cond6 c = 1#1 ↔ ch c 5 ≠ c := by revert c; decide
theorem dest6 (c : Dev nD) (h : k0_cond6 c = 1#1) : (⟨k0_dev13 c, k0_dev13_lt c h⟩ : Dev nD) = ch c 5 := by revert c; decide
theorem nums6 (c : Dev nD) : k0_off26 c = ![(ch c 5).val] ∧ k0_off29 c = ![128 * (ch c 5).val, 0] := by revert c; decide
theorem land6 (c : Dev nD) (h : k0_cond6 c = 1#1) : k0_off27 c = ![(sl c (ch c 5)).val] ∧ k0_off28 c = ![(sl c (ch c 5)).val, 0, 0] := by revert c; decide
theorem cond7 (c : Dev nD) : k0_cond7 c = 1#1 ↔ ch c 6 ≠ c := by revert c; decide
theorem dest7 (c : Dev nD) (h : k0_cond7 c = 1#1) : (⟨k0_dev14 c, k0_dev14_lt c h⟩ : Dev nD) = ch c 6 := by revert c; decide
theorem nums7 (c : Dev nD) : k0_off30 c = ![(ch c 6).val] ∧ k0_off33 c = ![128 * (ch c 6).val, 0] := by revert c; decide
theorem land7 (c : Dev nD) (h : k0_cond7 c = 1#1) : k0_off31 c = ![(sl c (ch c 6)).val] ∧ k0_off32 c = ![(sl c (ch c 6)).val, 0, 0] := by revert c; decide
theorem cond8 (c : Dev nD) : k0_cond8 c = 1#1 ↔ ch c 7 ≠ c := by revert c; decide
theorem dest8 (c : Dev nD) (h : k0_cond8 c = 1#1) : (⟨k0_dev15 c, k0_dev15_lt c h⟩ : Dev nD) = ch c 7 := by revert c; decide
theorem nums8 (c : Dev nD) : k0_off34 c = ![(ch c 7).val] ∧ k0_off37 c = ![128 * (ch c 7).val, 0] := by revert c; decide
theorem land8 (c : Dev nD) (h : k0_cond8 c = 1#1) : k0_off35 c = ![(sl c (ch c 7)).val] ∧ k0_off36 c = ![(sl c (ch c 7)).val, 0, 0] := by revert c; decide

theorem accOff (c : Dev nD) (t : Fin 4) (u : Fin 2) : k0_off5 c (BitVec.ofNat 32 t.val) (BitVec.ofNat 32 u.val) = ![128 * (ch c (blk t u)).val, 0] := by
  revert c t u; decide

/-! ## Families spelled out -/

omit [FloatOps F] [Named F] in
theorem byTurn (c : Dev nD) (Φ : Dev nD → sProp 𝕄) : bigSep Finset.univ Φ
    = iprop(Φ (ch c 0) ∗ Φ (ch c 1) ∗ Φ (ch c 2) ∗ Φ (ch c 3) ∗ Φ (ch c 4) ∗ Φ (ch c 5) ∗ Φ (ch c 6) ∗ Φ (ch c 7)) := by
  rw [bigSep_univ_eq_bigSepL [ch c 0, ch c 1, ch c 2, ch c 3, ch c 4, ch c 5, ch c 6, ch c 7] (by revert c; decide) (by revert c; decide)]
  rfl
omit [FloatOps F] [Named F] in
theorem byDev (Φ : Dev nD → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [(0 : Dev nD), 1, 2, 3, 4, 5, 6, 7] (by decide) (by decide)]
  rfl
omit [FloatOps F] [Named F] in
theorem bySeven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [(0 : Fin 7), 1, 2, 3, 4, 5, 6] (by decide) (by decide)]
  rfl

omit [FloatOps F] [Named F] in
/-- The device's own block among what is left of the eight. -/
theorem fin_own (ACC : Dev nD → Dev nD → Blk F) (c : Dev nD) : bigSep Finset.univ (fun r => fin ACC c r)
    ⊢ (iprop(chunk acM c c fullShare (ACC c c) ∗ (chunk acM c c fullShare (ACC c c) -∗ bigSep Finset.univ (fun r => fin ACC c r))) : sProp 𝕄) := by
  have e : fin ACC c c = (chunk acM c c fullShare (ACC c c) : sProp 𝕄) := by unfold fin; rw [if_pos rfl]
  have h : bigSep Finset.univ (fun r => fin ACC c r) = iprop(fin ACC c c ∗ bigSep (Finset.univ.erase c) (fun r => fin ACC c r)) := bigSep_erase (Finset.mem_univ c)
  rw [h, e]
  iintro ⟨H, Hr⟩
  isplitl [H]; · iexact H
  iintro H
  isplitl [H] <;> iassumption

end Cert.AttnProof

end
-- ==== Proof.SegA.lean ====
module

public import proofs.«01_k».proof.Proof.Send

/-! # The first residue

Parts 8 to 15 of the body: the weights arrive, the first residue's context is computed, its two blocks are projected, and the
first is sent off. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

theorem seg_a (c : Dev nD) (v2 v5 : BitVec 32) (k : FVec F S1024x1024 .bf16 → FVec F S1024x1024 .bf16 → BitVec 32 → BitVec 32 → BitVec 1 → Prog (TpuEff nD τ sig (Elt F) Λ₀ .tc) (Dev nD))
    (fk) (fv) (X WQ WO : Vec F S1024x1024 .f32) (f7) (f8) (f9) (q0 q1 : sProp 𝕄) (Q : Dev nD → sProp 𝕄)
    (hacc : ∀ n, ACC c (ch c n) = ACCn c X (ksM.view.read (Elt F) fk) (vsM.view.read (Elt F) fv) WQ WO n) :
    iprop(records ACC RED K ∗ levAts L lv ∗ ow c (ORs c 0)
        ∗ Transfers.Flight EC (c : Thread nD τ) (.dma (wS 0)) () qvM.view.dmaCredit iprop(owns (c : Thread nD τ) qvM fullShare WQ ∗ q0)
        ∗ Transfers.Flight EC (c : Thread nD τ) (.dma (wS 1)) () ovM.view.dmaCredit iprop(owns (c : Thread nD τ) ovM fullShare WO ∗ q1)
        ∗ pt c ksM fk ∗ pt c vsM fv ∗ owns (c : Thread nD τ) xpM fullShare (XP c X) ∗ pt c kpM f7 ∗ pt c vpM f8 ∗ pt c ctM f9
        ∗ (∃ X, chunk acM c (ch c 0) fullShare X) ∗ (∃ X, chunk acM c (ch c 1) fullShare X) ∗ todo c (ch c 0))
      ⊢ iprop((∀ a b d, (ow c (ORs c 1) ∗ semVal (wSC c 0) 0 ∗ semVal (wSC c 1) 0 ∗ owns (c : Thread nD τ) qvM fullShare WQ ∗ q0 ∗ owns (c : Thread nD τ) ovM fullShare WO ∗ q1
          ∗ pt c ksM fk ∗ pt c vsM fv ∗ owns (c : Thread nD τ) xpM fullShare (XP c X) ∗ (∃ f, pt c kpM f) ∗ (∃ f, pt c vpM f) ∗ (∃ f, pt c ctM f)
          ∗ fin ACC c (ch c 0) ∗ chunk acM c (ch c 1) fullShare (ACC c (ch c 1))) -∗ wpc c (k (k0_pay19 WQ) (k0_pay20 WO) a b d) Q)
        -∗ wpc c (do
          let ⟨v230, v235, v237, v255⟩ : Σ' (v230 : FVec F S1024x1024 .bf16) (v235 : FVec F S1024x1024 .bf16) (v237 : BitVec 32), BitVec 32 ← At (k0_part8 (F := F)) c v5
          let v287 ← At (k0_part9 (F := F)) c v237 v255
          let ⟨v304, v323⟩ : Σ' (v304 : FVec F S256x1024 .bf16), FVec F S256x128 .bf16 ← At (k0_part10 (F := F)) c v230 v287
          let ⟨v358, v359⟩ : Σ' (v358 : FVec F S256x1 .f32), FVec F S256x256 .bf16 ← At (k0_part11 (F := F)) v304 v323
          let ⟨v393, v395⟩ : Σ' (v393 : FVec F S256x128 .bf16), FVec F S256x128 .bf16 ← At (k0_part12 (F := F)) v304 v358 v359
          let v433 : FVec F S256x128 .bf16 ← At (k0_part13 (F := F)) v304 v393 v395
          let ⟨v468, v469⟩ : Σ' (v468 : FVec F S256x1 .f32), FVec F S256x256 .bf16 ← At (k0_part14 (F := F)) v304 v433
          let ⟨v495, v504⟩ : Σ' (v495 : BitVec 32), BitVec 1 ← At (k0_part15 (F := F)) c v2 v235 v237 v468 v469
          k v230 v235 v237 v495 v504) Q) := by
  iintro ⟨#HR, #HL, HO, Hw0, Hw1, Hks, Hvs, Hxp, H7, H8, H9, ⟨%Y0, Ha0⟩, ⟨%Y1, Ha1⟩, Ht⟩ Hk
  ihave Hxp := (owns_pt c xpM (XP c X)) $$ Hxp
  icases Hxp with ⟨%f6, %h6, H6⟩
  delta At wpc; beta_reduce
  sl_exec_parts
  iapply (wp_waitW c 0 (ORs c 0) (mayWait_low' c _ rfl) (wS_sem _ 0 rfl) rfl _) $$ [Hw0 HO]
  · isplitr; · iexact HL
    isplitl [Hw0] <;> iassumption
  iintro ⟨⟨Hqv, Hq0⟩, Hv0, HO⟩
  iapply (wp_fullLoad c qvM WQ) $$ Hqv
  iintro Hqv
  delta wpc; try rw [ret_bind]
  sl_exec_parts
  iapply (wp_waitW c 1 (ORs c 0) (mayWait_low' c _ rfl) (wS_sem _ 1 rfl) rfl _) $$ [Hw1 HO]
  · isplitr; · iexact HL
    isplitl [Hw1] <;> iassumption
  iintro ⟨⟨Hov, Hq1⟩, Hv1, HO⟩
  iapply (wp_fullLoad c ovM WO) $$ Hov
  iintro Hov
  delta wpc; try rw [ret_bind]
  sl_exec_parts
  iapply (wp_chLoad acM c (ch c 0) fullShare Y0 (accOff c 0 0)) $$ Ha0
  iintro Ha0
  delta wpc; try rw [ret_bind]
  iapply (wp_chStoreV acM c (ch c 0) Y0 (accOff c 0 0) ((acc_val c fk fv f6 kpM.view.junk vpM.view.junk (k0_pay19 WQ) (k0_pay20 WO) X WQ WO h6 rfl rfl ctM.view.junk 0 0).trans (hacc 0).symm)) $$ Ha0
  iintro Ha0
  delta wpc; try rw [ret_bind]
  iapply (wp_send ACC RED K c (ch c 0) (cond1 c) (ORs c 1) _
    (fun h => wp_rs ACC RED K c (ch c 0) _ ((cond1 c).1 h) (dest1 c h) (nums1 c).2 (land1 c h).2 (rsS_sem _ _ (nums1 c).1) (rsR_sem _ _ (land1 c h).1) (ORs c 1))
    (fun _ => rfl)) $$ [HO Ha0 Ht]
  · isplitr; · iexact HR
    isplitl [Ha0]; · iexact Ha0
    isplitl [Ht]; · iexact Ht
    iexact HO
  iintro ⟨Ha0, HO⟩
  delta wpc
  try rw [ret_bind]
  sl_exec_parts
  iapply (wp_chLoad acM c (ch c 1) fullShare Y1 (accOff c 0 1)) $$ Ha1
  iintro Ha1
  iapply (wp_chStoreV acM c (ch c 1) Y1 (accOff c 0 1) ((acc_val c fk fv f6 kpM.view.junk vpM.view.junk (k0_pay19 WQ) (k0_pay20 WO) X WQ WO h6 rfl rfl ctM.view.junk 0 1).trans (hacc 1).symm)) $$ Ha1
  iintro Ha1
  delta wpc; try rw [ret_bind]
  sl_exec_parts
  unfold seg_a.sl.v230 seg_a.sl.v235
  unfold k0_pay19 k0_pay20
  iapply Hk
  isplitl [HO]; · iexact HO
  isplitl [Hv0]; · iexact Hv0
  isplitl [Hv1]; · iexact Hv1
  isplitl [Hqv]; · iexact Hqv
  isplitl [Hq0]; · iexact Hq0
  isplitl [Hov]; · iexact Hov
  isplitl [Hq1]; · iexact Hq1
  isplitl [Hks]; · iexact Hks
  isplitl [Hvs]; · iexact Hvs
  isplitl [H6]; · iapply (owns_of_pt c xpM f6 _ h6); iexact H6
  isplitl [H7]; · iexists _; iexact H7
  isplitl [H8]; · iexists _; iexact H8
  isplitl [H9]; · iexists _; iexact H9
  isplitl [Ha0] <;> iassumption

end Cert.AttnProof
-- ==== Proof.SegB.lean ====
module

public import proofs.«01_k».proof.Proof.SegA

/-! # The other three residues

Parts 16 to 39 of the body: the second block leaves, then for each further residue its context, its two blocks and their copies;
at the end the device's own block is read and the first block of another device arrives. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

omit [FloatOps F] [Named F] in
theorem pt_any {sh : Shape} {e : EltTy} (c : Dev nD) (m : Memref sig .tc .vmem sh e) (f) : (pt (F := F) c m f : sProp 𝕄) ⊢ iprop(∃ f, pt c m f) := by
  iintro H; iexists f; iexact H

set_option maxHeartbeats 2000000 in
theorem seg_b (c : Dev nD) (v2 v5 v237 v495 : BitVec 32) (v504 : BitVec 1) (k : FVec F S128x1024 .f32 → Prog (TpuEff nD τ sig (Elt F) Λ₀ .tc) (Dev nD))
    (fk) (fv) (X WQ WO : Vec F S1024x1024 .f32) (f7) (f8) (f9) (Q : Dev nD → sProp 𝕄)
    (hacc : ∀ n, ACC c (ch c n) = ACCn c X (ksM.view.read (Elt F) fk) (vsM.view.read (Elt F) fv) WQ WO n) :
    iprop(records ACC RED K ∗ levAts L lv ∗ ow c (ORs c 1)
        ∗ pt c ksM fk ∗ pt c vsM fv ∗ owns (c : Thread nD τ) xpM fullShare (XP c X) ∗ pt c kpM f7 ∗ pt c vpM f8 ∗ pt c ctM f9
        ∗ fin ACC c (ch c 0) ∗ chunk acM c (ch c 1) fullShare (ACC c (ch c 1)) ∗ (∃ X, chunk acM c (ch c 2) fullShare X) ∗ (∃ X, chunk acM c (ch c 3) fullShare X)
        ∗ (∃ X, chunk acM c (ch c 4) fullShare X) ∗ (∃ X, chunk acM c (ch c 5) fullShare X) ∗ (∃ X, chunk acM c (ch c 6) fullShare X) ∗ (∃ X, chunk acM c (ch c 7) fullShare X)
        ∗ todo c (ch c 1) ∗ todo c (ch c 2) ∗ todo c (ch c 3) ∗ todo c (ch c 4) ∗ todo c (ch c 5) ∗ todo c (ch c 6) ∗ todo c (ch c 7)
        ∗ cred (tallyAt (rsRC c 0) () N) ∗ atPos ER (rsRC c 0) 0 ∅ 0)
      ⊢ iprop(((ow c (OAg c 0) ∗ pt c ksM fk ∗ pt c vsM fv ∗ owns (c : Thread nD τ) xpM fullShare (XP c X) ∗ (∃ f, pt c kpM f) ∗ (∃ f, pt c vpM f) ∗ (∃ f, pt c ctM f)
          ∗ bigSep Finset.univ (fun r => fin ACC c r) ∗ semVal (rsRC c 0) 0 ∗ slot c 0 (ACC (nx c 0) c)) -∗ wpc c (k (k0_pay142 (ACC c c) (unsq (ACC (nx c 0) c)))) Q)
        -∗ wpc c (do
          let ⟨v508, v536⟩ : Σ' (v508 : BitVec 32), FVec F S64x8x128 .f32 ← At (k0_part16 (F := F)) c v2 v5 v495 v504
          let v568 : Vec F S64x8x128 .f32 ← At (k0_part17 (F := F)) c v508 v536
          let ⟨v575, v602, cst_379⟩ : Σ' (v575 : FVec F S256x1024 .bf16) (v602 : FVec F S256x256 .f32), F .f32 ← At (k0_part18 (F := F)) (k0_pay19 WQ) v568
          let v638 : FVec F S256x128 .bf16 ← At (k0_part19 (F := F)) v575 v602 cst_379
          let ⟨v673, v674, v676⟩ : Σ' (v673 : FVec F S256x1 .f32) (v674 : FVec F S256x256 .bf16), FVec F S256x128 .bf16 ← At (k0_part20 (F := F)) v575 v638
          let ⟨v712, cst_444⟩ : Σ' (v712 : FVec F S256x256 .f32), F .f32 ← At (k0_part21 (F := F)) v575 v673 v674 v676
          let v748 : FVec F S256x128 .bf16 ← At (k0_part22 (F := F)) v575 v712 cst_444
          let ⟨v779, v781, v783⟩ : Σ' (v779 : BitVec 32) (v781 : BitVec 32), Vec F S64x8x128 .f32 ← At (k0_part23 (F := F)) c v2 v5 (k0_pay20 WO) v508 v748
          let ⟨v813, v815⟩ : Σ' (v813 : BitVec 32), Vec F S64x8x128 .f32 ← At (k0_part24 (F := F)) c v779 v781 v783
          let ⟨v846, v847⟩ : Σ' (v846 : FVec F S256x1024 .bf16), FVec F S256x128 .bf16 ← At (k0_part25 (F := F)) c (k0_pay19 WQ) v779 v813 v815
          let ⟨v878, v882, v883⟩ : Σ' (v878 : FVec F S256x1 .f32) (v882 : FVec F S256x128 .f32), FVec F S256x1 .f32 ← At (k0_part26 (F := F)) v846 v847
          let v920 : FVec F S256x256 .f32 ← At (k0_part27 (F := F)) v846 v878 v882 v883
          let v957 : FVec F S256x128 .bf16 ← At (k0_part28 (F := F)) v846 v920
          let ⟨v988, v992, v993⟩ : Σ' (v988 : FVec F S256x1 .f32) (v992 : FVec F S256x128 .f32), FVec F S256x1 .f32 ← At (k0_part29 (F := F)) v846 v957
          let ⟨v1024, v1027⟩ : Σ' (v1024 : BitVec 32), FVec F S128x1024 .bf16 ← At (k0_part30 (F := F)) (k0_pay20 WO) v779 v846 v988 v992 v993
          let ⟨v1050, v1063⟩ : Σ' (v1050 : BitVec 32), FVec F S64x8x128 .bf16 ← At (k0_part31 (F := F)) c v2 v5 (k0_pay20 WO) v779 v1024 v1027
          let v1095 : FVec F S64x8x128 .bf16 ← At (k0_part32 (F := F)) c v1050 v1063
          let ⟨v1117, v1127, v1128⟩ : Σ' (v1117 : FVec F S256x1024 .bf16) (v1127 : FVec F S256x1 .f32), FVec F S256x256 .bf16 ← At (k0_part33 (F := F)) c (k0_pay19 WQ) v1050 v1095
          let ⟨v1162, v1164⟩ : Σ' (v1162 : FVec F S256x128 .bf16), FVec F S256x128 .bf16 ← At (k0_part34 (F := F)) v1117 v1127 v1128
          let v1202 : FVec F S256x128 .bf16 ← At (k0_part35 (F := F)) v1117 v1162 v1164
          let ⟨v1237, v1238⟩ : Σ' (v1237 : FVec F S256x1 .f32), FVec F S256x256 .bf16 ← At (k0_part36 (F := F)) v1117 v1202
          let ⟨v1272, v1274⟩ : Σ' (v1272 : FVec F S256x128 .bf16), FVec F S256x128 .bf16 ← At (k0_part37 (F := F)) v1117 v1237 v1238
          let ⟨v1308, v1309⟩ : Σ' (v1308 : BitVec 32), Vec F S128x1024 .bf16 ← At (k0_part38 (F := F)) c v2 (k0_pay20 WO) v1050 v1272 v1274
          let v1335 ← At (k0_part39 (F := F)) c v2 (k0_pay20 WO) v1308 v1309
          k v1335) Q) := by
  iintro ⟨#HR, #HL, HO, Hks, Hvs, Hxp, H7, H8, H9, Ha0, Ha1, ⟨%Y2, Ha2⟩, ⟨%Y3, Ha3⟩, ⟨%Y4, Ha4⟩, ⟨%Y5, Ha5⟩, ⟨%Y6, Ha6⟩, ⟨%Y7, Ha7⟩, Ht1, Ht2, Ht3, Ht4, Ht5, Ht6, Ht7, Hcr, Hat⟩ Hk
  ihave Hxp := (owns_pt c xpM (XP c X)) $$ Hxp
  icases Hxp with ⟨%f6, %h6, H6⟩
  delta At wpc; beta_reduce
  sl_exec_parts
  iapply (wp_send ACC RED K c (ch c 1) (cond2 c) (ORs c 2) _
    (fun h => wp_rs ACC RED K c (ch c 1) _ ((cond2 c).1 h) (dest2 c h) (nums2 c).2 (land2 c h).2 (rsS_sem _ _ (nums2 c).1) (rsR_sem _ _ (land2 c h).1) (ORs c 2))
    (fun _ => rfl)) $$ [HO Ha1 Ht1]
  · isplitr; · iexact HR
    isplitl [Ha1]; · iexact Ha1
    isplitl [Ht1]; · iexact Ht1
    iexact HO
  iintro ⟨Ha1, HO⟩
  delta wpc; try rw [ret_bind]
  sl_exec_parts
  iapply (wp_chLoad acM c (ch c 2) fullShare Y2 (accOff c 1 0)) $$ Ha2
  iintro Ha2
  delta wpc; try rw [ret_bind]
  iapply (wp_chStoreV acM c (ch c 2) Y2 (accOff c 1 0) ((acc_val c fk fv f6 kpM.view.junk vpM.view.junk (k0_pay19 WQ) (k0_pay20 WO) X WQ WO h6 rfl rfl ctM.view.junk 1 0).trans (hacc 2).symm)) $$ Ha2
  iintro Ha2
  delta wpc; try rw [ret_bind]
  iapply (wp_send ACC RED K c (ch c 2) (cond3 c) (ORs c 3) _
    (fun h => wp_rs ACC RED K c (ch c 2) _ ((cond3 c).1 h) (dest3 c h) (nums3 c).2 (land3 c h).2 (rsS_sem _ _ (nums3 c).1) (rsR_sem _ _ (land3 c h).1) (ORs c 3))
    (fun _ => rfl)) $$ [HO Ha2 Ht2]
  · isplitr; · iexact HR
    isplitl [Ha2]; · iexact Ha2
    isplitl [Ht2]; · iexact Ht2
    iexact HO
  iintro ⟨Ha2, HO⟩
  delta wpc; try rw [ret_bind]
  sl_exec_parts
  iapply (wp_chLoad acM c (ch c 3) fullShare Y3 (accOff c 1 1)) $$ Ha3
  iintro Ha3
  delta wpc; try rw [ret_bind]
  iapply (wp_chStoreV acM c (ch c 3) Y3 (accOff c 1 1) ((acc_val c fk fv f6 kpM.view.junk vpM.view.junk (k0_pay19 WQ) (k0_pay20 WO) X WQ WO h6 rfl rfl ctM.view.junk 1 1).trans (hacc 3).symm)) $$ Ha3
  iintro Ha3
  delta wpc; try rw [ret_bind]
  iapply (wp_send ACC RED K c (ch c 3) (cond4 c) (ORs c 4) _
    (fun h => wp_rs ACC RED K c (ch c 3) _ ((cond4 c).1 h) (dest4 c h) (nums4 c).2 (land4 c h).2 (rsS_sem _ _ (nums4 c).1) (rsR_sem _ _ (land4 c h).1) (ORs c 4))
    (fun _ => rfl)) $$ [HO Ha3 Ht3]
  · isplitr; · iexact HR
    isplitl [Ha3]; · iexact Ha3
    isplitl [Ht3]; · iexact Ht3
    iexact HO
  iintro ⟨Ha3, HO⟩
  delta wpc; try rw [ret_bind]
  ihave H7 := (pt_any c kpM _) $$ H7
  icases H7 with ⟨%g7, H7⟩
  ihave H8 := (pt_any c vpM _) $$ H8
  icases H8 with ⟨%g8, H8⟩
  ihave H9 := (pt_any c ctM _) $$ H9
  icases H9 with ⟨%g9, H9⟩
  sl_exec_parts
  iapply (wp_chLoad acM c (ch c 4) fullShare Y4 (accOff c 2 0)) $$ Ha4
  iintro Ha4
  delta wpc; try rw [ret_bind]
  iapply (wp_chStoreV acM c (ch c 4) Y4 (accOff c 2 0) ((acc_val c fk fv f6 kpM.view.junk vpM.view.junk (k0_pay19 WQ) (k0_pay20 WO) X WQ WO h6 rfl rfl ctM.view.junk 2 0).trans (hacc 4).symm)) $$ Ha4
  iintro Ha4
  delta wpc; try rw [ret_bind]
  iapply (wp_send ACC RED K c (ch c 4) (cond5 c) (ORs c 5) _
    (fun h => wp_rs ACC RED K c (ch c 4) _ ((cond5 c).1 h) (dest5 c h) (nums5 c).2 (land5 c h).2 (rsS_sem _ _ (nums5 c).1) (rsR_sem _ _ (land5 c h).1) (ORs c 5))
    (fun _ => rfl)) $$ [HO Ha4 Ht4]
  · isplitr; · iexact HR
    isplitl [Ha4]; · iexact Ha4
    isplitl [Ht4]; · iexact Ht4
    iexact HO
  iintro ⟨Ha4, HO⟩
  delta wpc; try rw [ret_bind]
  sl_exec_parts
  iapply (wp_chLoad acM c (ch c 5) fullShare Y5 (accOff c 2 1)) $$ Ha5
  iintro Ha5
  delta wpc; try rw [ret_bind]
  iapply (wp_chStoreV acM c (ch c 5) Y5 (accOff c 2 1) ((acc_val c fk fv f6 kpM.view.junk vpM.view.junk (k0_pay19 WQ) (k0_pay20 WO) X WQ WO h6 rfl rfl ctM.view.junk 2 1).trans (hacc 5).symm)) $$ Ha5
  iintro Ha5
  delta wpc; try rw [ret_bind]
  iapply (wp_send ACC RED K c (ch c 5) (cond6 c) (ORs c 6) _
    (fun h => wp_rs ACC RED K c (ch c 5) _ ((cond6 c).1 h) (dest6 c h) (nums6 c).2 (land6 c h).2 (rsS_sem _ _ (nums6 c).1) (rsR_sem _ _ (land6 c h).1) (ORs c 6))
    (fun _ => rfl)) $$ [HO Ha5 Ht5]
  · isplitr; · iexact HR
    isplitl [Ha5]; · iexact Ha5
    isplitl [Ht5]; · iexact Ht5
    iexact HO
  iintro ⟨Ha5, HO⟩
  delta wpc; try rw [ret_bind]
  ihave H7 := (pt_any c kpM _) $$ H7
  icases H7 with ⟨%g7, H7⟩
  ihave H8 := (pt_any c vpM _) $$ H8
  icases H8 with ⟨%g8, H8⟩
  ihave H9 := (pt_any c ctM _) $$ H9
  icases H9 with ⟨%g9, H9⟩
  sl_exec_parts
  iapply (wp_chLoad acM c (ch c 6) fullShare Y6 (accOff c 3 0)) $$ Ha6
  iintro Ha6
  delta wpc; try rw [ret_bind]
  iapply (wp_chStoreV acM c (ch c 6) Y6 (accOff c 3 0) ((acc_val c fk fv f6 kpM.view.junk vpM.view.junk (k0_pay19 WQ) (k0_pay20 WO) X WQ WO h6 rfl rfl ctM.view.junk 3 0).trans (hacc 6).symm)) $$ Ha6
  iintro Ha6
  delta wpc; try rw [ret_bind]
  iapply (wp_send ACC RED K c (ch c 6) (cond7 c) (ORs c 7) _
    (fun h => wp_rs ACC RED K c (ch c 6) _ ((cond7 c).1 h) (dest7 c h) (nums7 c).2 (land7 c h).2 (rsS_sem _ _ (nums7 c).1) (rsR_sem _ _ (land7 c h).1) (ORs c 7))
    (fun _ => rfl)) $$ [HO Ha6 Ht6]
  · isplitr; · iexact HR
    isplitl [Ha6]; · iexact Ha6
    isplitl [Ht6]; · iexact Ht6
    iexact HO
  iintro ⟨Ha6, HO⟩
  delta wpc; try rw [ret_bind]
  sl_exec_parts
  iapply (wp_chLoad acM c (ch c 7) fullShare Y7 (accOff c 3 1)) $$ Ha7
  iintro Ha7
  delta wpc; try rw [ret_bind]
  iapply (wp_chStoreV acM c (ch c 7) Y7 (accOff c 3 1) ((acc_val c fk fv f6 kpM.view.junk vpM.view.junk (k0_pay19 WQ) (k0_pay20 WO) X WQ WO h6 rfl rfl ctM.view.junk 3 1).trans (hacc 7).symm)) $$ Ha7
  iintro Ha7
  delta wpc; try rw [ret_bind]
  iapply (wp_send ACC RED K c (ch c 7) (cond8 c) (ORs c 8) _
    (fun h => wp_rs ACC RED K c (ch c 7) _ ((cond8 c).1 h) (dest8 c h) (nums8 c).2 (land8 c h).2 (rsS_sem _ _ (nums8 c).1) (rsR_sem _ _ (land8 c h).1) (ORs c 8))
    (fun _ => rfl)) $$ [HO Ha7 Ht7]
  · isplitr; · iexact HR
    isplitl [Ha7]; · iexact Ha7
    isplitl [Ht7]; · iexact Ht7
    iexact HO
  iintro ⟨Ha7, HO⟩
  delta wpc; try rw [ret_bind]
  ihave Hfin := (Entails.of_eq (byTurn c (fun r => fin ACC c r)).symm) $$ [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6] <;> iassumption
  ihave Hfin := (fin_own ACC c) $$ Hfin
  icases Hfin with ⟨Hown, Hback⟩
  iapply (wp_chLoad acM c c fullShare (ACC c c) (k0_off38_eq c)) $$ Hown
  iintro Hown
  delta wpc; try rw [ret_bind]
  iapply (wp_waitD ACC RED K c (nRsR 0) (rsR 0) rfl _ (duties_rsR ACC RED c 0) (payload_rsR ACC RED c 0 0) (OAg c 0) (mayWait_rsR c 0) (rsR_sem _ 0 rfl) rfl) $$ [HO Hcr Hat]
  · isplitr; · iexact HR
    isplitr; · iexact HL
    isplitl [HO]; · iexact HO
    isplitl [Hcr] <;> iassumption
  iintro ⟨HO, Hv, Hs⟩
  iapply (wp_slotLoad c 0 (ACC (nx c 0) c) rfl) $$ Hs
  iintro Hs
  delta wpc; try rw [ret_bind]
  sl_exec_parts
  iapply Hk
  isplitl [HO]; · iexact HO
  isplitl [Hks]; · iexact Hks
  isplitl [Hvs]; · iexact Hvs
  isplitl [H6]; · iapply (owns_of_pt c xpM f6 _ h6); iexact H6
  isplitl [H7]; · iexists _; iexact H7
  isplitl [H8]; · iexists _; iexact H8
  isplitl [H9]; · iexists _; iexact H9
  isplitl [Hown Hback]
  · iapply Hback; iexact Hown
  isplitl [Hv] <;> iassumption

end Cert.AttnProof
-- ==== Proof.SegC.lean ====
module

public import proofs.«01_k».proof.Proof.SegB

/-! # The reduction and the gather's copies

Parts 40 to 45 of the body: the other devices' blocks arrive and are added, the sum is rounded and stored, and seven copies of it
leave. Each copy reads the block under its own share. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

omit [FloatOps F] [Named F] in
theorem sepMono {I : Type} {s : Finset I} {Φ Ψ : I → sProp 𝕄} (h : ∀ i ∈ s, Φ i ⊢ Ψ i) : bigSep s Φ ⊢ bigSep s Ψ := bigSep_mono h

omit [FloatOps F] [Named F] in
/-- A whole holding dealt into seven reading shares and a rest. -/
theorem chunk_deal (b : Memref sig .tc .vmem S1024x1024 .bf16) (c r : Dev nD) (X : Blk F) : (chunk b c r fullShare X : sProp 𝕄)
    ⊢ iprop(chunk b c r (Transfers.shareDrop fullShare 7) X ∗ bigSep Finset.univ (fun k : Fin 7 => chunk b c r (Transfers.shareTok fullShare 7 k) X)) := by
  unfold chunk owns
  iintro ⟨%f, %hf, H⟩
  ihave H := (Transfers.pointsTo_toks_split fullShare 7) $$ H
  icases H with ⟨H, Ht⟩
  isplitl [H]
  · iexists f; isplitr; · ipureintro; exact hf
    iexact H
  · have hm : ∀ k ∈ (Finset.univ : Finset (Fin 7)), ((chunkM b r).view.loc (c : Thread nD τ) ↦[(chunkM b r).view.set]{Transfers.shareTok fullShare 7 k} f : sProp 𝕄)
        ⊢ iprop(∃ f, ⌜(chunkM b r).view.read (Elt F) f = X⌝ ∗ ((chunkM b r).view.loc (c : Thread nD τ) ↦[(chunkM b r).view.set]{Transfers.shareTok fullShare 7 k} f)) := by
      intro k _
      iintro H; iexists f; isplitr; · ipureintro; exact hf
      iexact H
    iapply (sepMono hm); iexact Ht

omit [FloatOps F] [Named F] in
/-- A holding of known values, at one chosen contents. -/
theorem chunk_at (b : Memref sig .tc .vmem S1024x1024 .bf16) (c r : Dev nD) (q : PosShare TreeShare) (X : Blk F)
    (g : (chunkM b r).view.ty.Contents (Elt F)) (hg : (chunkM b r).view.read (Elt F) g = X) :
    (chunk b c r q X : sProp 𝕄) ⊢ ((chunkM b r).view.loc (c : Thread nD τ) ↦[(chunkM b r).view.set]{q} g) := by
  unfold chunk owns
  iintro ⟨%f, %hf, H⟩
  have key : ∀ i ∈ (chunkM b r).view.set, f i = g i := fun i hi => by
    have e := (chunkM b r).view.write_read_eq_piecewise (Val := Elt F) g f Finset.univ
    have e' := (chunkM b r).view.write_read_eq_piecewise (Val := Elt F) g g Finset.univ
    rw [hf, ← hg] at e
    have h := congrFun (e.symm.trans e') i
    rw [Finset.piecewise_eq_of_mem _ _ _ (show i ∈ (chunkM b r).view.setOn Finset.univ from hi), Finset.piecewise_eq_of_mem _ _ _ (show i ∈ (chunkM b r).view.setOn Finset.univ from hi)] at h
    exact h
  ihave H := (Entails.of_eq (pointsTo_congr key)) $$ H
  iexact H

theorem chunk_undeal (b : Memref sig .tc .vmem S1024x1024 .bf16) (c r : Dev nD) (X : Blk F) :
    iprop(chunk b c r (Transfers.shareDrop fullShare 7) X ∗ bigSep Finset.univ (fun k : Fin 7 => chunk b c r (Transfers.shareTok fullShare 7 k) X))
      ⊢ (chunk b c r fullShare X : sProp 𝕄) := by
  have hg : (chunkM b r).view.read (Elt F) ((chunkM b r).view.write (Elt F) (chunkM b r).view.junk X Finset.univ) = X := View.read_write_univ _ _
  have hm := fun (k : Fin 7) (_ : k ∈ (Finset.univ : Finset (Fin 7))) => chunk_at (F := F) b c r (Transfers.shareTok fullShare 7 k) X _ hg
  iintro ⟨H, Ht⟩
  ihave H := (chunk_at b c r _ X _ hg) $$ H
  ihave Ht := (sepMono hm) $$ Ht
  unfold chunk owns
  iexists _
  isplitr; · ipureintro; exact hg
  iapply (Transfers.pointsTo_toks_join fullShare 7)
  isplitl [H] <;> iassumption

/-- The device the `k`-th copy of the reduced block goes to. -/
theorem gdest (c : Dev nD) (k : Fin 7) : (⟨(![k0_dev16 c, k0_dev17 c, k0_dev18 c, k0_dev19 c, k0_dev20 c, k0_dev21 c, k0_dev22 c] : Fin 7 → ℕ) k, by revert c k; decide⟩ : Dev nD) = nx c k := by
  revert c k; decide

set_option maxHeartbeats 2000000 in
theorem seg_c (c : Dev nD) (v2 : BitVec 32) (k : Vec F S64x1024 .bf16 → BitVec 32 → Prog (TpuEff nD τ sig (Elt F) Λ₀ .tc) (Dev nD)) (Q : Dev nD → sProp 𝕄)
    (hred : RED c = k0_pay145 (k0_pay144 (k0_pay143 (k0_pay142 (ACC c c) (unsq (ACC (nx c 0) c))) (unsq (ACC (nx c 1) c)) (unsq (ACC (nx c 2) c)))
      (unsq (ACC (nx c 3) c)) (unsq (ACC (nx c 4) c)) (unsq (ACC (nx c 5) c))) (unsq (ACC (nx c 6) c))) :
    iprop(records ACC RED K ∗ levAts L lv ∗ ow c (OAg c 0)
        ∗ ((cred (tallyAt (rsRC c 1) () N) ∗ atPos ER (rsRC c 1) 0 ∅ 0) ∗ (cred (tallyAt (rsRC c 2) () N) ∗ atPos ER (rsRC c 2) 0 ∅ 0) ∗ (cred (tallyAt (rsRC c 3) () N) ∗ atPos ER (rsRC c 3) 0 ∅ 0) ∗ (cred (tallyAt (rsRC c 4) () N) ∗ atPos ER (rsRC c 4) 0 ∅ 0) ∗ (cred (tallyAt (rsRC c 5) () N) ∗ atPos ER (rsRC c 5) 0 ∅ 0) ∗ (cred (tallyAt (rsRC c 6) () N) ∗ atPos ER (rsRC c 6) 0 ∅ 0))
        ∗ (∃ X, chunk rdM c c fullShare X)
        ∗ (((∃ X, chunk rdM (nx c 0) c fullShare X) ∗ dutyTok ER (agSC c 0) 0 0 ∗ dutyTok ER (agRC (nx c 0) (Fin.rev 0)) 0 0) ∗ ((∃ X, chunk rdM (nx c 1) c fullShare X) ∗ dutyTok ER (agSC c 1) 0 0 ∗ dutyTok ER (agRC (nx c 1) (Fin.rev 1)) 0 0) ∗ ((∃ X, chunk rdM (nx c 2) c fullShare X) ∗ dutyTok ER (agSC c 2) 0 0 ∗ dutyTok ER (agRC (nx c 2) (Fin.rev 2)) 0 0) ∗ ((∃ X, chunk rdM (nx c 3) c fullShare X) ∗ dutyTok ER (agSC c 3) 0 0 ∗ dutyTok ER (agRC (nx c 3) (Fin.rev 3)) 0 0) ∗ ((∃ X, chunk rdM (nx c 4) c fullShare X) ∗ dutyTok ER (agSC c 4) 0 0 ∗ dutyTok ER (agRC (nx c 4) (Fin.rev 4)) 0 0) ∗ ((∃ X, chunk rdM (nx c 5) c fullShare X) ∗ dutyTok ER (agSC c 5) 0 0 ∗ dutyTok ER (agRC (nx c 5) (Fin.rev 5)) 0 0) ∗ ((∃ X, chunk rdM (nx c 6) c fullShare X) ∗ dutyTok ER (agSC c 6) 0 0 ∗ dutyTok ER (agRC (nx c 6) (Fin.rev 6)) 0 0)))
      ⊢ iprop((∀ w, (ow c (OAg c 7) ∗ chunk rdM c c (Transfers.shareDrop fullShare 7) (RED c) ∗ ((semVal (rsRC c 1) 0 ∗ slot c 1 (ACC (nx c 1) c)) ∗ (semVal (rsRC c 2) 0 ∗ slot c 2 (ACC (nx c 2) c)) ∗ (semVal (rsRC c 3) 0 ∗ slot c 3 (ACC (nx c 3) c)) ∗ (semVal (rsRC c 4) 0 ∗ slot c 4 (ACC (nx c 4) c)) ∗ (semVal (rsRC c 5) 0 ∗ slot c 5 (ACC (nx c 5) c)) ∗ (semVal (rsRC c 6) 0 ∗ slot c 6 (ACC (nx c 6) c))) ∗ (cred (tallyAt (agSC c 0) () N) ∗ cred (tallyAt (agSC c 1) () N) ∗ cred (tallyAt (agSC c 2) () N) ∗ cred (tallyAt (agSC c 3) () N) ∗ cred (tallyAt (agSC c 4) () N) ∗ cred (tallyAt (agSC c 5) () N) ∗ cred (tallyAt (agSC c 6) () N)))
          -∗ wpc c (k (half (RED c) 0) w) Q)
        -∗ wpc c (do
          let v1359 : FVec F S128x1024 .f32 ← At (k0_part40 (F := F)) v2 (k0_pay142 (ACC c c) (unsq (ACC (nx c 0) c)))
          let v1395 : FVec F S128x1024 .f32 ← At (k0_part41 (F := F)) v2 v1359
          At (k0_part42 (F := F)) c v2 v1395
          let v1458 ← At (k0_part43 (F := F)) c v2
          let v1487 ← At (k0_part44 (F := F)) c v2 v1458
          let ⟨v1520, v1521⟩ : Σ' (v1520 : Vec F S64x1024 .bf16), BitVec 32 ← At (k0_part45 (F := F)) c v2 v1487
          k v1520 v1521) Q) := by
  iintro ⟨#HR, #HL, HO, ⟨⟨Hc1, Hp1⟩, ⟨Hc2, Hp2⟩, ⟨Hc3, Hp3⟩, ⟨Hc4, Hp4⟩, ⟨Hc5, Hp5⟩, ⟨Hc6, Hp6⟩⟩, ⟨%Y, Hr⟩, ⟨⟨Hx0, Hd0, He0⟩, ⟨Hx1, Hd1, He1⟩, ⟨Hx2, Hd2, He2⟩, ⟨Hx3, Hd3, He3⟩, ⟨Hx4, Hd4, He4⟩, ⟨Hx5, Hd5, He5⟩, ⟨Hx6, Hd6, He6⟩⟩⟩ Hk
  delta At wpc; beta_reduce
  sl_exec_parts
  iapply (wp_waitD ACC RED K c (nRsR 1) (rsR 1) rfl _ (duties_rsR ACC RED c 1) (payload_rsR ACC RED c 1 0) (OAg c 0) (mayWait_rsR c 1) (rsR_sem _ 1 rfl) (rfl : (slotM 1).view.dmaCredit = N)) $$ [HO Hc1 Hp1]
  · isplitr; · iexact HR
    isplitr; · iexact HL
    isplitl [HO]; · iexact HO
    isplitl [Hc1] <;> iassumption
  iintro ⟨HO, Hp1, Hc1⟩
  delta wpc; try rw [ret_bind]
  iapply (wp_slotLoad c 1 (ACC (nx c 1) c) rfl) $$ Hc1
  iintro Hc1
  delta wpc; try rw [ret_bind]
  iapply (wp_waitD ACC RED K c (nRsR 2) (rsR 2) rfl _ (duties_rsR ACC RED c 2) (payload_rsR ACC RED c 2 0) (OAg c 0) (mayWait_rsR c 2) (rsR_sem _ 2 rfl) (rfl : (slotM 2).view.dmaCredit = N)) $$ [HO Hc2 Hp2]
  · isplitr; · iexact HR
    isplitr; · iexact HL
    isplitl [HO]; · iexact HO
    isplitl [Hc2] <;> iassumption
  iintro ⟨HO, Hp2, Hc2⟩
  delta wpc; try rw [ret_bind]
  iapply (wp_slotLoad c 2 (ACC (nx c 2) c) rfl) $$ Hc2
  iintro Hc2
  delta wpc; try rw [ret_bind]
  iapply (wp_waitD ACC RED K c (nRsR 3) (rsR 3) rfl _ (duties_rsR ACC RED c 3) (payload_rsR ACC RED c 3 0) (OAg c 0) (mayWait_rsR c 3) (rsR_sem _ 3 rfl) (rfl : (slotM 3).view.dmaCredit = N)) $$ [HO Hc3 Hp3]
  · isplitr; · iexact HR
    isplitr; · iexact HL
    isplitl [HO]; · iexact HO
    isplitl [Hc3] <;> iassumption
  iintro ⟨HO, Hp3, Hc3⟩
  delta wpc; try rw [ret_bind]
  sl_exec_parts
  iapply (wp_slotLoad c 3 (ACC (nx c 3) c) rfl) $$ Hc3
  iintro Hc3
  delta wpc; try rw [ret_bind]
  iapply (wp_waitD ACC RED K c (nRsR 4) (rsR 4) rfl _ (duties_rsR ACC RED c 4) (payload_rsR ACC RED c 4 0) (OAg c 0) (mayWait_rsR c 4) (rsR_sem _ 4 rfl) (rfl : (slotM 4).view.dmaCredit = N)) $$ [HO Hc4 Hp4]
  · isplitr; · iexact HR
    isplitr; · iexact HL
    isplitl [HO]; · iexact HO
    isplitl [Hc4] <;> iassumption
  iintro ⟨HO, Hp4, Hc4⟩
  delta wpc; try rw [ret_bind]
  iapply (wp_slotLoad c 4 (ACC (nx c 4) c) rfl) $$ Hc4
  iintro Hc4
  delta wpc; try rw [ret_bind]
  iapply (wp_waitD ACC RED K c (nRsR 5) (rsR 5) rfl _ (duties_rsR ACC RED c 5) (payload_rsR ACC RED c 5 0) (OAg c 0) (mayWait_rsR c 5) (rsR_sem _ 5 rfl) (rfl : (slotM 5).view.dmaCredit = N)) $$ [HO Hc5 Hp5]
  · isplitr; · iexact HR
    isplitr; · iexact HL
    isplitl [HO]; · iexact HO
    isplitl [Hc5] <;> iassumption
  iintro ⟨HO, Hp5, Hc5⟩
  delta wpc; try rw [ret_bind]
  iapply (wp_slotLoad c 5 (ACC (nx c 5) c) rfl) $$ Hc5
  iintro Hc5
  delta wpc; try rw [ret_bind]
  sl_exec_parts
  iapply (wp_waitD ACC RED K c (nRsR 6) (rsR 6) rfl _ (duties_rsR ACC RED c 6) (payload_rsR ACC RED c 6 0) (OAg c 0) (mayWait_rsR c 6) (rsR_sem _ 6 rfl) (rfl : (slotM 6).view.dmaCredit = N)) $$ [HO Hc6 Hp6]
  · isplitr; · iexact HR
    isplitr; · iexact HL
    isplitl [HO]; · iexact HO
    isplitl [Hc6] <;> iassumption
  iintro ⟨HO, Hp6, Hc6⟩
  delta wpc; try rw [ret_bind]
  iapply (wp_slotLoad c 6 (ACC (nx c 6) c) rfl) $$ Hc6
  iintro Hc6
  delta wpc; try rw [ret_bind]
  iapply (wp_chLoad rdM c c fullShare Y (k0_off38_eq c)) $$ Hr
  iintro Hr
  delta wpc; try rw [ret_bind]
  iapply (wp_chStoreV rdM c c Y (k0_off38_eq c) hred.symm) $$ Hr
  iintro Hr
  delta wpc; try rw [ret_bind]
  ihave Hr := (chunk_deal rdM c c (RED c)) $$ Hr
  icases Hr with ⟨Hr, Ht⟩
  ihave Ht := (Entails.of_eq (bySeven (fun k : Fin 7 => chunk rdM c c (Transfers.shareTok fullShare 7 k) (RED c)))) $$ Ht
  icases Ht with ⟨Ht0, Ht1, Ht2, Ht3, Ht4, Ht5, Ht6⟩
  iapply (wp_ag ACC RED K c _ 0 (gdest c 0) (k0_off39_eq c) (agS_sem _ 0 rfl) (agR_sem _ 6 rfl) (OAg c 1)) $$ [HO Ht0 Hx0 Hd0 He0]
  · isplitr; · iexact HR
    isplitl [Ht0]; · iexact Ht0
    isplitl [Hx0]; · iexact Hx0
    isplitl [HO]; · iexact HO
    isplitl [Hd0] <;> iassumption
  iintro ⟨Hd0, HO⟩
  delta wpc; try rw [ret_bind]
  sl_exec_parts
  iapply (wp_ag ACC RED K c _ 1 (gdest c 1) (k0_off39_eq c) (agS_sem _ 1 rfl) (agR_sem _ 5 rfl) (OAg c 2)) $$ [HO Ht1 Hx1 Hd1 He1]
  · isplitr; · iexact HR
    isplitl [Ht1]; · iexact Ht1
    isplitl [Hx1]; · iexact Hx1
    isplitl [HO]; · iexact HO
    isplitl [Hd1] <;> iassumption
  iintro ⟨Hd1, HO⟩
  delta wpc; try rw [ret_bind]
  iapply (wp_ag ACC RED K c _ 2 (gdest c 2) (k0_off39_eq c) (agS_sem _ 2 rfl) (agR_sem _ 4 rfl) (OAg c 3)) $$ [HO Ht2 Hx2 Hd2 He2]
  · isplitr; · iexact HR
    isplitl [Ht2]; · iexact Ht2
    isplitl [Hx2]; · iexact Hx2
    isplitl [HO]; · iexact HO
    isplitl [Hd2] <;> iassumption
  iintro ⟨Hd2, HO⟩
  delta wpc; try rw [ret_bind]
  sl_exec_parts
  iapply (wp_ag ACC RED K c _ 3 (gdest c 3) (k0_off39_eq c) (agS_sem _ 3 rfl) (agR_sem _ 3 rfl) (OAg c 4)) $$ [HO Ht3 Hx3 Hd3 He3]
  · isplitr; · iexact HR
    isplitl [Ht3]; · iexact Ht3
    isplitl [Hx3]; · iexact Hx3
    isplitl [HO]; · iexact HO
    isplitl [Hd3] <;> iassumption
  iintro ⟨Hd3, HO⟩
  delta wpc; try rw [ret_bind]
  iapply (wp_ag ACC RED K c _ 4 (gdest c 4) (k0_off39_eq c) (agS_sem _ 4 rfl) (agR_sem _ 2 rfl) (OAg c 5)) $$ [HO Ht4 Hx4 Hd4 He4]
  · isplitr; · iexact HR
    isplitl [Ht4]; · iexact Ht4
    isplitl [Hx4]; · iexact Hx4
    isplitl [HO]; · iexact HO
    isplitl [Hd4] <;> iassumption
  iintro ⟨Hd4, HO⟩
  delta wpc; try rw [ret_bind]
  sl_exec_parts
  iapply (wp_ag ACC RED K c _ 5 (gdest c 5) (k0_off39_eq c) (agS_sem _ 5 rfl) (agR_sem _ 1 rfl) (OAg c 6)) $$ [HO Ht5 Hx5 Hd5 He5]
  · isplitr; · iexact HR
    isplitl [Ht5]; · iexact Ht5
    isplitl [Hx5]; · iexact Hx5
    isplitl [HO]; · iexact HO
    isplitl [Hd5] <;> iassumption
  iintro ⟨Hd5, HO⟩
  delta wpc; try rw [ret_bind]
  iapply (wp_ag ACC RED K c _ 6 (gdest c 6) (k0_off39_eq c) (agS_sem _ 6 rfl) (agR_sem _ 0 rfl) (OAg c 7)) $$ [HO Ht6 Hx6 Hd6 He6]
  · isplitr; · iexact HR
    isplitl [Ht6]; · iexact Ht6
    isplitl [Hx6]; · iexact Hx6
    isplitl [HO]; · iexact HO
    isplitl [Hd6] <;> iassumption
  iintro ⟨Hd6, HO⟩
  delta wpc; try rw [ret_bind]
  iapply (wp_halfLoad rdM c c 0 (Transfers.shareDrop fullShare 7) (RED c) (k0_off40_eq c 0)) $$ Hr
  iintro Hr
  delta wpc; try rw [ret_bind]
  sl_exec_parts
  unfold seg_c.sl.r_1
  iapply Hk
  isplitl [HO]; · iexact HO
  isplitl [Hr]; · iexact Hr
  isplitl [Hp1 Hc1 Hp2 Hc2 Hp3 Hc3 Hp4 Hc4 Hp5 Hc5 Hp6 Hc6]
  · isplitl [Hp1 Hc1]; · isplitl [Hp1] <;> iassumption
    isplitl [Hp2 Hc2]; · isplitl [Hp2] <;> iassumption
    isplitl [Hp3 Hc3]; · isplitl [Hp3] <;> iassumption
    isplitl [Hp4 Hc4]; · isplitl [Hp4] <;> iassumption
    isplitl [Hp5 Hc5]; · isplitl [Hp5] <;> iassumption
    isplitl [Hp6] <;> iassumption
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  iexact Hd6

end Cert.AttnProof
-- ==== Proof.Outs.lean ====
module

public import proofs.«01_k».proof.Proof.SegC

/-! # Writing the result

A block of the reduced rows goes to the result in two halves, each to the place its rows have in the natural order. What has been
written is kept as the set of halves done; when all sixteen are, the result is the one array `OUT`. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

/-- The row block of the result that half `u` of block `r` fills. -/
def oOff (r : Dev nD) (u : Fin 2) : Fin 2 → ℕ := ![64 * ((2 * r.val + u.val) / 4) + 256 * ((2 * r.val + u.val) % 4), 0]

theorem oOff_inb (r : Dev nD) (u : Fin 2) : ∀ a, oOff r u a + S64x1024.size a ≤ S1024x1024.size a := by revert r u; decide

abbrev oR (r : Dev nD) (u : Fin 2) : Rect S1024x1024 := Rect.unit (s := S1024x1024) (oOff r u) S64x1024.size (oOff_inb r u)

/-- The half, counted over all blocks, that row `p` of the result comes from. -/
def gOf (p : ℕ) : ℕ := 4 * (p / 64 % 4) + p / 256

theorem gOf_lt {p : ℕ} (h : p < 1024) : gOf p < 16 := by unfold gOf; omega

def oDev (p : Fin 1024) : Dev nD := ⟨gOf p.val / 2, by have := gOf_lt p.isLt; show _ < 8; omega⟩
def oRow (p : Fin 1024) : Fin 128 := ⟨64 * (gOf p.val % 2) + p.val % 64, by omega⟩

/-- The result: every row taken from the reduced block that holds it. -/
def OUT : S1024x1024.Idx → Elt F .bf16 := fun y =>
  RED (oDev (y (0 : Fin 2))) (fun a => match a with | (0 : Fin 2) => oRow (y (0 : Fin 2)) | (1 : Fin 2) => y (1 : Fin 2))

omit [FloatOps F] [Named F] in
theorem OUT_piece (r : Dev nD) (u : Fin 2) (x : S64x1024.Idx) : half (RED r) u x = OUT RED ((oR r u).emb x) := by
  have hx : (x (0 : Fin 2)).val < 64 := (x (0 : Fin 2)).isLt
  have hr : r.val < 8 := r.isLt
  have hu := u.isLt
  have h0 : ((oR r u).emb x (0 : Fin 2)).val = 64 * ((2 * r.val + u.val) / 4) + 256 * ((2 * r.val + u.val) % 4) + (x (0 : Fin 2)).val := unit_emb_val (s := S1024x1024) (oOff r u) S64x1024.size (oOff_inb r u) x (0 : Fin 2)
  have h1 : ((oR r u).emb x (1 : Fin 2)).val = 0 + (x (1 : Fin 2)).val := unit_emb_val (s := S1024x1024) (oOff r u) S64x1024.size (oOff_inb r u) x (1 : Fin 2)
  have hg : gOf ((oR r u).emb x (0 : Fin 2)).val = 2 * r.val + u.val := by
    rw [h0]
    have hw : (2 * r.val + u.val) % 4 < 4 := Nat.mod_lt _ (by decide)
    have hq : (2 * r.val + u.val) / 4 < 4 := by omega
    have hs : 4 * ((2 * r.val + u.val) / 4) + (2 * r.val + u.val) % 4 = 2 * r.val + u.val := Nat.div_add_mod _ _
    generalize (2 * r.val + u.val) / 4 = q at hs hq ⊢
    generalize (2 * r.val + u.val) % 4 = w at hs hw ⊢
    have e1 : (64 * q + 256 * w + (x (0 : Fin 2)).val) / 64 = q + 4 * w := by omega
    have e2 : (64 * q + 256 * w + (x (0 : Fin 2)).val) / 256 = w := by omega
    unfold gOf; rw [e1, e2]; omega
  have hd : oDev ((oR r u).emb x (0 : Fin 2)) = r := Fin.ext (by show gOf _ / 2 = _; rw [hg]; omega)
  unfold OUT half
  rw [hd]
  congr 1
  funext a
  match a with
  | (0 : Fin 2) => exact Fin.ext (by show 64 * u.val + (x (0 : Fin 2)).val = 64 * (gOf _ % 2) + ((oR r u).emb x (0 : Fin 2)).val % 64; rw [hg, h0]; omega)
  | (1 : Fin 2) => exact Fin.ext (by show (x (1 : Fin 2)).val = ((oR r u).emb x (1 : Fin 2)).val; rw [h1]; omega)

/-- The result's buffer with the halves of `S` in place. -/
def outs (c : Dev nD) (S : Finset (Dev nD × Fin 2)) : sProp 𝕄 :=
  iprop(∃ f, ∃ L : List (View.Piece (Elt F) S1024x1024 .bf16), ⌜(∀ p ∈ L, ∀ x : p.1.shape.Idx, p.2 x = OUT RED (p.1.emb x)) ∧ ∀ ru ∈ S, ∃ p ∈ L, p.1 = oR ru.1 ru.2⌝
    ∗ pt c osM (osM.view.writes (Elt F) f L))

omit [FloatOps F] [Named F] in
theorem outs_start (c : Dev nD) (f) : (pt c osM f : sProp 𝕄) ⊢ outs RED c ∅ := by
  unfold outs
  iintro H; iexists f, []
  isplitr
  · ipureintro; exact ⟨fun p hp => absurd hp List.not_mem_nil, fun p hp => absurd hp (Finset.notMem_empty _)⟩
  iexact H

theorem outs_done (c : Dev nD) (S : Finset (Dev nD × Fin 2)) (hS : S = Finset.univ) : outs RED c S ⊢ (owns (c : Thread nD τ) osM fullShare (OUT RED) : sProp 𝕄) := by
  subst hS
  unfold outs
  iintro ⟨%f, %L, %h, H⟩
  iapply (owns_of_pt c osM _ _ (funext fun y => View.read_writes_apply_of_pieces osM.view f (OUT RED) L h.1 y (by
    have hy : (y (0 : Fin 2)).val < 1024 := (y (0 : Fin 2)).isLt
    have hy1 : (y (1 : Fin 2)).val < 1024 := (y (1 : Fin 2)).isLt
    obtain ⟨p, hp, e⟩ := h.2 (oDev (y (0 : Fin 2)), ⟨gOf (y (0 : Fin 2)).val % 2, Nat.mod_lt _ (by decide)⟩) (Finset.mem_univ _)
    refine ⟨p, hp, ?_⟩
    rw [e]
    refine Rect.mem_set_unit.mpr fun a => ?_
    have hg := gOf_lt hy
    match a with
    | (0 : Fin 2) =>
      show 64 * ((2 * (gOf (y (0 : Fin 2)).val / 2) + gOf (y (0 : Fin 2)).val % 2) / 4) + 256 * ((2 * (gOf (y (0 : Fin 2)).val / 2) + gOf (y (0 : Fin 2)).val % 2) % 4) ≤ (y (0 : Fin 2)).val
        ∧ (y (0 : Fin 2)).val < 64 * ((2 * (gOf (y (0 : Fin 2)).val / 2) + gOf (y (0 : Fin 2)).val % 2) / 4) + 256 * ((2 * (gOf (y (0 : Fin 2)).val / 2) + gOf (y (0 : Fin 2)).val % 2) % 4) + 64
      rw [Nat.div_add_mod]
      have e1 : gOf (y (0 : Fin 2)).val / 4 = (y (0 : Fin 2)).val / 64 % 4 := by unfold gOf; omega
      have e2 : gOf (y (0 : Fin 2)).val % 4 = (y (0 : Fin 2)).val / 256 := by unfold gOf; omega
      rw [e1, e2]; omega
    | (1 : Fin 2) => exact ⟨Nat.zero_le _, by show (y (1 : Fin 2)).val < 0 + 1024; omega⟩)))
  iexact H

theorem wp_outLoad (c : Dev nD) (S : Finset (Dev nD × Fin 2)) {r : Rect S1024x1024} {hl : osM.view.LoadsAt r.toLoadRect}
    {α : Type} {Q : α → sProp 𝕄} {cont : Vec F r.toLoadRect.shape .bf16 → Prog (TpuEff nD τ sig (Elt F) Λ₀ .tc) α} :
    outs RED c S ⊢ iprop((∀ v, outs RED c S -∗ wpc c (cont v) Q) -∗ wpc c (.op (.load osM r.toLoadRect hl) cont) Q) := by
  unfold outs
  iintro ⟨%f, %L, %h, H⟩ Hk
  iapply (wp_load V0 (c : Thread nD τ) none Set.univ (m := osM) (f := osM.view.writes (Elt F) f L) (S := osM.view.set) (Finset.map_subset_map.mpr (Finset.subset_univ _))) $$ H
  iintro H
  iapply Hk
  iexists f, L
  isplitr; · ipureintro; exact h
  iexact H

theorem wp_outStore (c : Dev nD) (S : Finset (Dev nD × Fin 2)) (r : Dev nD) (u : Fin 2) {off : Fin 2 → ℕ} (h : off = oOff r u)
    {inb : ∀ a, off a + S64x1024.size a ≤ S1024x1024.size a} {hx} {hm}
    {α : Type} {Q : α → sProp 𝕄} {cont : PUnit → Prog (TpuEff nD τ sig (Elt F) Λ₀ .tc) α} :
    outs RED c S ⊢ iprop((outs RED c (insert (r, u) S) -∗ wpc c (cont ⟨⟩) Q)
      -∗ wpc c (.op (.store osM (Rect.unit (s := S1024x1024) off S64x1024.size inb) (half (RED r) u) Finset.univ hx hm) cont) Q) := by
  subst h
  unfold outs
  iintro ⟨%f, %L, %h, H⟩ Hk
  iapply (wp_store V0 (c : Thread nD τ) none Set.univ (m := osM) (r := oR r u) (S := osM.view.set) (f := osM.view.writes (Elt F) f L)
    (by show (osM.view.slice (oR r u)).set ⊆ _; rw [View.set_slice]; exact Finset.map_subset_map.mpr (Finset.subset_univ _))) $$ H
  iintro H
  iapply Hk
  iexists f, (⟨oR r u, half (RED r) u⟩ :: L)
  isplitr
  · ipureintro
    refine ⟨fun p hp => ?_, fun ru hru => ?_⟩
    · rcases List.mem_cons.mp hp with rfl | hp
      · exact OUT_piece RED r u
      · exact h.1 p hp
    · rcases Finset.mem_insert.mp hru with rfl | hru
      · exact ⟨_, List.mem_cons_self, rfl⟩
      · obtain ⟨p, hp, e⟩ := h.2 ru hru; exact ⟨p, List.mem_cons_of_mem _ hp, e⟩
  iexact H

end Cert.AttnProof
-- ==== Proof.SegD.lean ====
module

public import proofs.«01_k».proof.Proof.Outs

/-! # The gathering

Parts 46 to 55 of the body, and the last three waits: the other devices' blocks arrive and go to the result; then the device waits
for its own copies. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

/-- One half of a block goes to the result. -/
theorem wp_turn (c r : Dev nD) (u : Fin 2) (S : Finset (Dev nD × Fin 2)) {off off' : Fin 2 → ℕ} (h : off = ![128 * r.val + 64 * u.val, 0]) (h' : off' = oOff r u)
    {inb : ∀ a, off a + S64x1024.size a ≤ S1024x1024.size a} {hl : rdM.view.LoadsAt (Rect.unit (s := S1024x1024) off S64x1024.size inb).toLoadRect}
    {r' : Rect S1024x1024} {hl' : osM.view.LoadsAt r'.toLoadRect} {inb' : ∀ a, off' a + S64x1024.size a ≤ S1024x1024.size a} {hx} {hm}
    {α : Type} {Q : α → sProp 𝕄} {cont : PUnit → Prog (TpuEff nD τ sig (Elt F) Λ₀ .tc) α} :
    iprop(chunk rdM c r fullShare (RED r) ∗ outs RED c S) ⊢ iprop(((chunk rdM c r fullShare (RED r) ∗ outs RED c (insert (r, u) S)) -∗ wpc c (cont ⟨⟩) Q)
      -∗ wpc c (.op (.load rdM (Rect.unit (s := S1024x1024) off S64x1024.size inb).toLoadRect hl) fun v =>
        .op (.load osM r'.toLoadRect hl') fun _ => .op (.store osM (Rect.unit (s := S1024x1024) off' S64x1024.size inb') v Finset.univ hx hm) cont) Q) := by
  iintro ⟨Hr, Ho⟩ Hk
  iapply (wp_halfLoad rdM c r u fullShare (RED r) h) $$ Hr
  iintro Hr
  iapply (wp_outLoad RED c S) $$ Ho
  iintro %v Ho
  iapply (wp_outStore RED c S r u h') $$ Ho
  iintro Ho
  iapply Hk
  isplitl [Hr] <;> iassumption

theorem off43 (c : Dev nD) (k : Fin 7) (u : Fin 2) : k0_off43 c (BitVec.ofNat 32 k.val) (BitVec.ofNat 32 u.val) = ![128 * (nx c k).val + 64 * u.val, 0] := by
  revert c k u; decide +kernel
theorem off44 (c : Dev nD) (k : Fin 7) (u : Fin 2) : k0_off44 c (BitVec.ofNat 32 k.val) (BitVec.ofNat 32 u.val) = oOff (nx c k) u := by
  revert c k u; decide +kernel
theorem off41 (c : Dev nD) (u : Fin 2) : k0_off41 c (BitVec.ofNat 32 u.val) = oOff c u := by revert c u; decide +kernel

/-- The amount a wait for a block's copy asks for, wherever the block lies. -/
theorem credit_rd {off : Fin 2 → ℕ} (inb : ∀ a, off a + S128x1024.size a ≤ S1024x1024.size a) :
    (rdM.slice (Rect.unit (s := S1024x1024) off S128x1024.size inb) (fun _ => rfl)).view.dmaCredit = N := rfl

/-- The device's number as the body computes it. -/
abbrev w2 (c : Dev nD) : BitVec 32 := Scalar.remsi (Scalar.divsi (Dev.word c) 1#32) 8#32

theorem guard_iff (c i : Dev nD) :
    (Scalar.cmpi .ne (Scalar.extui (Scalar.cmpi .ne (w2 c) (BitVec.ofNat 32 i.val))) 0#32 : BitVec 1) = 1#1 ↔ i ≠ c := by
  revert c i; decide +kernel

/-- The wait for the copy of block `i`, which is left out for the device's own. -/
theorem wp_guard (c i : Dev nD) {p : Prop} [Decidable p] (hp : p ↔ i ≠ c) (O : CellTallies nD τ sig Unit) {α : Type} {Q : α → sProp 𝕄}
    {A : p → Prog (TpuEff nD τ sig (Elt F) Λ₀ .tc) α} {A' : ¬ p → Prog (TpuEff nD τ sig (Elt F) Λ₀ .tc) α} (B : Prog (TpuEff nD τ sig (Elt F) Λ₀ .tc) α)
    (hA : ∀ h : p, iprop(records ACC RED K ∗ levAts L lv ∗ ow c O ∗ cred (tallyAt (rsSC c i) () N) ∗ atPos ER (rsSC c i) 0 ∅ 0)
      ⊢ iprop(((ow c O ∗ semVal (rsSC c i) 0 ∗ chunk acM c i fullShare (ACC c i)) -∗ wpc c B Q) -∗ wpc c (A h) Q))
    (hA' : ∀ h : ¬ p, A' h = B) :
    iprop(records ACC RED K ∗ levAts L lv ∗ ow c O ∗ fin ACC c i ∗ atPos ER (rsSC c i) 0 ∅ 0)
      ⊢ iprop(((ow c O ∗ semVal (rsSC c i) 0 ∗ chunk acM c i fullShare (ACC c i)) -∗ wpc c B Q) -∗ wpc c (if h : p then A h else A' h) Q) := by
  by_cases h : i = c
  · have hn : ¬ p := fun hp' => hp.1 hp' h
    subst h
    rw [dif_neg hn, hA' hn]
    unfold fin
    rw [if_pos rfl]
    iintro ⟨#HR, #HL, HO, Hf, Ha⟩ Hk
    imod (own_close ACC RED K i) $$ [Ha] with Hv
    · isplitr; · iexact HR
      iexact Ha
    iapply Hk
    isplitl [HO]; · iexact HO
    isplitl [Hv] <;> iassumption
  · have hn : p := hp.2 h
    rw [dif_pos hn]
    unfold fin
    rw [if_neg h]
    exact hA hn

theorem all_halves (c : Dev nD) : insert (nx c 6, 1) (insert (nx c 6, 0) (insert (nx c 5, 1) (insert (nx c 5, 0) (insert (nx c 4, 1) (insert (nx c 4, 0) (insert (nx c 3, 1) (insert (nx c 3, 0) (insert (nx c 2, 1) (insert (nx c 2, 0) (insert (nx c 1, 1) (insert (nx c 1, 0) (insert (nx c 0, 1) (insert (nx c 0, 0) (insert (c, 1) (insert (c, 0) (∅ : Finset (Dev nD × Fin 2))))))))))))))))) = Finset.univ := by
  revert c; decide +kernel

set_option maxHeartbeats 4000000 in
theorem seg_d (c : Dev nD) (w : BitVec 32) (k : Prog (TpuEff nD τ sig (Elt F) Λ₀ .tc) (Dev nD)) (Q : Dev nD → sProp 𝕄) :
    iprop(records ACC RED K
        ∗ levAts L lv
        ∗ ow c (OAg c 7)
        ∗ chunk rdM c c (Transfers.shareDrop fullShare 7) (RED c)
        ∗ outs RED c ∅
        ∗ bigSep Finset.univ (fun k : Fin 7 => iprop(cred (tallyAt (agRC c k) () N) ∗ atPos ER (agRC c k) 0 ∅ 0))
        ∗ bigSep Finset.univ (fun i : Dev nD => iprop(fin ACC c i ∗ atPos ER (rsSC c i) 0 ∅ 0))
        ∗ ((cred (tallyAt (agSC c 0) () N) ∗ atPos ER (agSC c 0) 0 ∅ 0) ∗ (cred (tallyAt (agSC c 1) () N) ∗ atPos ER (agSC c 1) 0 ∅ 0) ∗ (cred (tallyAt (agSC c 2) () N) ∗ atPos ER (agSC c 2) 0 ∅ 0) ∗ (cred (tallyAt (agSC c 3) () N) ∗ atPos ER (agSC c 3) 0 ∅ 0)))
      ⊢ iprop(((ow c (OAg c 7)
          ∗ chunk rdM c c (Transfers.shareDrop fullShare 7) (RED c)
          ∗ owns (c : Thread nD τ) osM fullShare (OUT RED)
          ∗ bigSep Finset.univ (fun k : Fin 7 => iprop(semVal (agRC c k) 0 ∗ chunk rdM c (nx c k) fullShare (RED (nx c k))))
          ∗ bigSep Finset.univ (fun i : Dev nD => iprop(semVal (rsSC c i) 0 ∗ chunk acM c i fullShare (ACC c i)))
          ∗ ((semVal (agSC c 0) 0 ∗ chunk rdM c c (Transfers.shareTok fullShare 7 0) (RED c)) ∗ (semVal (agSC c 1) 0 ∗ chunk rdM c c (Transfers.shareTok fullShare 7 1) (RED c)) ∗ (semVal (agSC c 2) 0 ∗ chunk rdM c c (Transfers.shareTok fullShare 7 2) (RED c)) ∗ (semVal (agSC c 3) 0 ∗ chunk rdM c c (Transfers.shareTok fullShare 7 3) (RED c)))) -∗ wpc c k Q)
        -∗ wpc c (do
          let ⟨v1539, v1549, v1550, v1551, c4⟩ : Σ' (v1539 : BitVec 32) (v1549 : BitVec 32) (v1550 : BitVec 32) (v1551 : BitVec 32), BitVec 32 ← At (k0_part46 (F := F)) c (w2 c) (half (RED c) 0) w
          let v1575 ← At (k0_part47 (F := F)) c (w2 c) v1539 v1549 v1550 v1551 c4
          let ⟨v1611, v1614⟩ : Σ' (v1611 : BitVec 32), BitVec 32 ← At (k0_part48 (F := F)) c (w2 c) v1575
          let ⟨v1646, c8⟩ : Σ' (v1646 : BitVec 32), BitVec 32 ← At (k0_part49 (F := F)) c (w2 c) v1611 v1614
          let v1676 : Vec F S64x1024 .bf16 ← At (k0_part50 (F := F)) c (w2 c) v1646 c8
          let ⟨v1705, v1709⟩ : Σ' (v1705 : BitVec 32), BitVec 32 ← At (k0_part51 (F := F)) c (w2 c) v1676
          let v1740 ← At (k0_part52 (F := F)) c (w2 c) v1705 v1709
          let ⟨v1755, v1769⟩ : Σ' (v1755 : BitVec 32), BitVec 32 ← At (k0_part53 (F := F)) c (w2 c) v1740
          let c5 ← At (k0_part54 (F := F)) c (w2 c) v1755 v1769
          At (k0_part55 (F := F)) c (w2 c) c5
          k) Q) := by
  iintro ⟨#HR, #HL, HO, Hown, Ho, HG, HF, ⟨⟨Hs0, Hq0⟩, ⟨Hs1, Hq1⟩, ⟨Hs2, Hq2⟩, ⟨Hs3, Hq3⟩⟩⟩ Hk
  ihave HG := (Entails.of_eq (bySeven (fun k : Fin 7 => iprop(cred (tallyAt (agRC c k) () N) ∗ atPos ER (agRC c k) 0 ∅ 0)))) $$ HG
  icases HG with ⟨⟨Hc0, Hp0⟩, ⟨Hc1, Hp1⟩, ⟨Hc2, Hp2⟩, ⟨Hc3, Hp3⟩, ⟨Hc4, Hp4⟩, ⟨Hc5, Hp5⟩, ⟨Hc6, Hp6⟩⟩
  ihave HF := (Entails.of_eq (byDev (fun i : Dev nD => iprop(fin ACC c i ∗ atPos ER (rsSC c i) 0 ∅ 0)))) $$ HF
  icases HF with ⟨⟨Hf0, Ha0⟩, ⟨Hf1, Ha1⟩, ⟨Hf2, Ha2⟩, ⟨Hf3, Ha3⟩, ⟨Hf4, Ha4⟩, ⟨Hf5, Ha5⟩, ⟨Hf6, Ha6⟩, ⟨Hf7, Ha7⟩⟩
  delta At wpc; beta_reduce
  sl_exec_parts
  iapply (wp_outLoad RED c _) $$ Ho
  iintro %_ Ho
  delta wpc; try rw [ret_bind]
  iapply (wp_outStore RED c _ c 0 (off41 c 0)) $$ Ho
  iintro Ho
  delta wpc; try rw [ret_bind]
  iapply (wp_halfLoad rdM c c 1 (Transfers.shareDrop fullShare 7) (RED c) (k0_off40_eq c 1)) $$ Hown
  iintro Hown
  delta wpc; try rw [ret_bind]
  iapply (wp_outLoad RED c _) $$ Ho
  iintro %_ Ho
  delta wpc; try rw [ret_bind]
  iapply (wp_outStore RED c _ c 1 (off41 c 1)) $$ Ho
  iintro Ho
  delta wpc; try rw [ret_bind]
  iapply (wp_waitD ACC RED K c (nAgR 0) (agR 0) rfl _ (duties_agR ACC RED c 0) (payload_agR ACC RED c 0 0) (OAg c 7) (mayWait_end c _) (agR_sem _ 0 rfl) (credit_rd _)) $$ [HO Hc0 Hp0]
  · isplitr; · iexact HR
    isplitr; · iexact HL
    isplitl [HO]; · iexact HO
    isplitl [Hc0] <;> iassumption
  iintro ⟨HO, Hp0, Hc0⟩
  delta wpc; try rw [ret_bind]
  sl_exec_parts
  iapply (wp_turn RED c (nx c 0) 0 _ (off43 c 0 0) (off44 c 0 0)) $$ [Hc0 Ho]
  · isplitl [Hc0] <;> iassumption
  iintro ⟨Hc0, Ho⟩
  delta wpc; try rw [ret_bind]
  iapply (wp_turn RED c (nx c 0) 1 _ (off43 c 0 1) (off44 c 0 1)) $$ [Hc0 Ho]
  · isplitl [Hc0] <;> iassumption
  iintro ⟨Hc0, Ho⟩
  delta wpc; try rw [ret_bind]
  iapply (wp_waitD ACC RED K c (nAgR 1) (agR 1) rfl _ (duties_agR ACC RED c 1) (payload_agR ACC RED c 1 0) (OAg c 7) (mayWait_end c _) (agR_sem _ 1 rfl) (credit_rd _)) $$ [HO Hc1 Hp1]
  · isplitr; · iexact HR
    isplitr; · iexact HL
    isplitl [HO]; · iexact HO
    isplitl [Hc1] <;> iassumption
  iintro ⟨HO, Hp1, Hc1⟩
  delta wpc; try rw [ret_bind]
  sl_exec_parts
  iapply (wp_turn RED c (nx c 1) 0 _ (off43 c 1 0) (off44 c 1 0)) $$ [Hc1 Ho]
  · isplitl [Hc1] <;> iassumption
  iintro ⟨Hc1, Ho⟩
  delta wpc; try rw [ret_bind]
  iapply (wp_turn RED c (nx c 1) 1 _ (off43 c 1 1) (off44 c 1 1)) $$ [Hc1 Ho]
  · isplitl [Hc1] <;> iassumption
  iintro ⟨Hc1, Ho⟩
  delta wpc; try rw [ret_bind]
  sl_exec_parts
  iapply (wp_waitD ACC RED K c (nAgR 2) (agR 2) rfl _ (duties_agR ACC RED c 2) (payload_agR ACC RED c 2 0) (OAg c 7) (mayWait_end c _) (agR_sem _ 2 rfl) (credit_rd _)) $$ [HO Hc2 Hp2]
  · isplitr; · iexact HR
    isplitr; · iexact HL
    isplitl [HO]; · iexact HO
    isplitl [Hc2] <;> iassumption
  iintro ⟨HO, Hp2, Hc2⟩
  delta wpc; try rw [ret_bind]
  iapply (wp_turn RED c (nx c 2) 0 _ (off43 c 2 0) (off44 c 2 0)) $$ [Hc2 Ho]
  · isplitl [Hc2] <;> iassumption
  iintro ⟨Hc2, Ho⟩
  delta wpc; try rw [ret_bind]
  iapply (wp_turn RED c (nx c 2) 1 _ (off43 c 2 1) (off44 c 2 1)) $$ [Hc2 Ho]
  · isplitl [Hc2] <;> iassumption
  iintro ⟨Hc2, Ho⟩
  delta wpc; try rw [ret_bind]
  sl_exec_parts
  iapply (wp_waitD ACC RED K c (nAgR 3) (agR 3) rfl _ (duties_agR ACC RED c 3) (payload_agR ACC RED c 3 0) (OAg c 7) (mayWait_end c _) (agR_sem _ 3 rfl) (credit_rd _)) $$ [HO Hc3 Hp3]
  · isplitr; · iexact HR
    isplitr; · iexact HL
    isplitl [HO]; · iexact HO
    isplitl [Hc3] <;> iassumption
  iintro ⟨HO, Hp3, Hc3⟩
  delta wpc; try rw [ret_bind]
  iapply (wp_turn RED c (nx c 3) 0 _ (off43 c 3 0) (off44 c 3 0)) $$ [Hc3 Ho]
  · isplitl [Hc3] <;> iassumption
  iintro ⟨Hc3, Ho⟩
  delta wpc; try rw [ret_bind]
  iapply (wp_halfLoad rdM c (nx c 3) 1 fullShare (RED (nx c 3)) (off43 c 3 1)) $$ Hc3
  iintro Hc3
  delta wpc; try rw [ret_bind]
  sl_exec_parts
  iapply (wp_outLoad RED c _) $$ Ho
  iintro %_ Ho
  delta wpc; try rw [ret_bind]
  iapply (wp_outStore RED c _ (nx c 3) 1 (off44 c 3 1)) $$ Ho
  iintro Ho
  delta wpc; try rw [ret_bind]
  iapply (wp_waitD ACC RED K c (nAgR 4) (agR 4) rfl _ (duties_agR ACC RED c 4) (payload_agR ACC RED c 4 0) (OAg c 7) (mayWait_end c _) (agR_sem _ 4 rfl) (credit_rd _)) $$ [HO Hc4 Hp4]
  · isplitr; · iexact HR
    isplitr; · iexact HL
    isplitl [HO]; · iexact HO
    isplitl [Hc4] <;> iassumption
  iintro ⟨HO, Hp4, Hc4⟩
  delta wpc; try rw [ret_bind]
  iapply (wp_turn RED c (nx c 4) 0 _ (off43 c 4 0) (off44 c 4 0)) $$ [Hc4 Ho]
  · isplitl [Hc4] <;> iassumption
  iintro ⟨Hc4, Ho⟩
  delta wpc; try rw [ret_bind]
  sl_exec_parts
  iapply (wp_turn RED c (nx c 4) 1 _ (off43 c 4 1) (off44 c 4 1)) $$ [Hc4 Ho]
  · isplitl [Hc4] <;> iassumption
  iintro ⟨Hc4, Ho⟩
  delta wpc; try rw [ret_bind]
  iapply (wp_waitD ACC RED K c (nAgR 5) (agR 5) rfl _ (duties_agR ACC RED c 5) (payload_agR ACC RED c 5 0) (OAg c 7) (mayWait_end c _) (agR_sem _ 5 rfl) (credit_rd _)) $$ [HO Hc5 Hp5]
  · isplitr; · iexact HR
    isplitr; · iexact HL
    isplitl [HO]; · iexact HO
    isplitl [Hc5] <;> iassumption
  iintro ⟨HO, Hp5, Hc5⟩
  delta wpc; try rw [ret_bind]
  iapply (wp_turn RED c (nx c 5) 0 _ (off43 c 5 0) (off44 c 5 0)) $$ [Hc5 Ho]
  · isplitl [Hc5] <;> iassumption
  iintro ⟨Hc5, Ho⟩
  delta wpc; try rw [ret_bind]
  sl_exec_parts
  iapply (wp_turn RED c (nx c 5) 1 _ (off43 c 5 1) (off44 c 5 1)) $$ [Hc5 Ho]
  · isplitl [Hc5] <;> iassumption
  iintro ⟨Hc5, Ho⟩
  delta wpc; try rw [ret_bind]
  iapply (wp_waitD ACC RED K c (nAgR 6) (agR 6) rfl _ (duties_agR ACC RED c 6) (payload_agR ACC RED c 6 0) (OAg c 7) (mayWait_end c _) (agR_sem _ 6 rfl) (credit_rd _)) $$ [HO Hc6 Hp6]
  · isplitr; · iexact HR
    isplitr; · iexact HL
    isplitl [HO]; · iexact HO
    isplitl [Hc6] <;> iassumption
  iintro ⟨HO, Hp6, Hc6⟩
  delta wpc; try rw [ret_bind]
  sl_exec_parts
  iapply (wp_turn RED c (nx c 6) 0 _ (off43 c 6 0) (off44 c 6 0)) $$ [Hc6 Ho]
  · isplitl [Hc6] <;> iassumption
  iintro ⟨Hc6, Ho⟩
  delta wpc; try rw [ret_bind]
  iapply (wp_turn RED c (nx c 6) 1 _ (off43 c 6 1) (off44 c 6 1)) $$ [Hc6 Ho]
  · isplitl [Hc6] <;> iassumption
  iintro ⟨Hc6, Ho⟩
  delta wpc; try rw [ret_bind]
  iapply (wp_guard ACC RED K c 0 (guard_iff c 0) (OAg c 7) _
    (fun h => wp_waitD ACC RED K c (nRsS 0) (rsS 0) rfl _ (duties_rsS ACC RED ((guard_iff c 0).1 h)) (payload_rsS ACC RED c 0 0) (OAg c 7) (mayWait_end c _) (rsS_sem _ 0 rfl) (rfl : (chunkM acM 0).view.dmaCredit = N))
    (fun _ => rfl)) $$ [HO Hf0 Ha0]
  · isplitr; · iexact HR
    isplitr; · iexact HL
    isplitl [HO]; · iexact HO
    isplitl [Hf0] <;> iassumption
  iintro ⟨HO, Ha0, Hf0⟩
  delta wpc; try rw [ret_bind]
  iapply (wp_guard ACC RED K c 1 (guard_iff c 1) (OAg c 7) _
    (fun h => wp_waitD ACC RED K c (nRsS 1) (rsS 1) rfl _ (duties_rsS ACC RED ((guard_iff c 1).1 h)) (payload_rsS ACC RED c 1 0) (OAg c 7) (mayWait_end c _) (rsS_sem _ 1 rfl) (rfl : (chunkM acM 1).view.dmaCredit = N))
    (fun _ => rfl)) $$ [HO Hf1 Ha1]
  · isplitr; · iexact HR
    isplitr; · iexact HL
    isplitl [HO]; · iexact HO
    isplitl [Hf1] <;> iassumption
  iintro ⟨HO, Ha1, Hf1⟩
  delta wpc; try rw [ret_bind]
  iapply (wp_guard ACC RED K c 2 (guard_iff c 2) (OAg c 7) _
    (fun h => wp_waitD ACC RED K c (nRsS 2) (rsS 2) rfl _ (duties_rsS ACC RED ((guard_iff c 2).1 h)) (payload_rsS ACC RED c 2 0) (OAg c 7) (mayWait_end c _) (rsS_sem _ 2 rfl) (rfl : (chunkM acM 2).view.dmaCredit = N))
    (fun _ => rfl)) $$ [HO Hf2 Ha2]
  · isplitr; · iexact HR
    isplitr; · iexact HL
    isplitl [HO]; · iexact HO
    isplitl [Hf2] <;> iassumption
  iintro ⟨HO, Ha2, Hf2⟩
  delta wpc; try rw [ret_bind]
  iapply (wp_guard ACC RED K c 3 (guard_iff c 3) (OAg c 7) _
    (fun h => wp_waitD ACC RED K c (nRsS 3) (rsS 3) rfl _ (duties_rsS ACC RED ((guard_iff c 3).1 h)) (payload_rsS ACC RED c 3 0) (OAg c 7) (mayWait_end c _) (rsS_sem _ 3 rfl) (rfl : (chunkM acM 3).view.dmaCredit = N))
    (fun _ => rfl)) $$ [HO Hf3 Ha3]
  · isplitr; · iexact HR
    isplitr; · iexact HL
    isplitl [HO]; · iexact HO
    isplitl [Hf3] <;> iassumption
  iintro ⟨HO, Ha3, Hf3⟩
  delta wpc; try rw [ret_bind]
  iapply (wp_guard ACC RED K c 4 (guard_iff c 4) (OAg c 7) _
    (fun h => wp_waitD ACC RED K c (nRsS 4) (rsS 4) rfl _ (duties_rsS ACC RED ((guard_iff c 4).1 h)) (payload_rsS ACC RED c 4 0) (OAg c 7) (mayWait_end c _) (rsS_sem _ 4 rfl) (rfl : (chunkM acM 4).view.dmaCredit = N))
    (fun _ => rfl)) $$ [HO Hf4 Ha4]
  · isplitr; · iexact HR
    isplitr; · iexact HL
    isplitl [HO]; · iexact HO
    isplitl [Hf4] <;> iassumption
  iintro ⟨HO, Ha4, Hf4⟩
  delta wpc; try rw [ret_bind]
  sl_exec_parts
  iapply (wp_guard ACC RED K c 5 (guard_iff c 5) (OAg c 7) _
    (fun h => wp_waitD ACC RED K c (nRsS 5) (rsS 5) rfl _ (duties_rsS ACC RED ((guard_iff c 5).1 h)) (payload_rsS ACC RED c 5 0) (OAg c 7) (mayWait_end c _) (rsS_sem _ 5 rfl) (rfl : (chunkM acM 5).view.dmaCredit = N))
    (fun _ => rfl)) $$ [HO Hf5 Ha5]
  · isplitr; · iexact HR
    isplitr; · iexact HL
    isplitl [HO]; · iexact HO
    isplitl [Hf5] <;> iassumption
  iintro ⟨HO, Ha5, Hf5⟩
  delta wpc; try rw [ret_bind]
  iapply (wp_guard ACC RED K c 6 (guard_iff c 6) (OAg c 7) _
    (fun h => wp_waitD ACC RED K c (nRsS 6) (rsS 6) rfl _ (duties_rsS ACC RED ((guard_iff c 6).1 h)) (payload_rsS ACC RED c 6 0) (OAg c 7) (mayWait_end c _) (rsS_sem _ 6 rfl) (rfl : (chunkM acM 6).view.dmaCredit = N))
    (fun _ => rfl)) $$ [HO Hf6 Ha6]
  · isplitr; · iexact HR
    isplitr; · iexact HL
    isplitl [HO]; · iexact HO
    isplitl [Hf6] <;> iassumption
  iintro ⟨HO, Ha6, Hf6⟩
  delta wpc; try rw [ret_bind]
  iapply (wp_guard ACC RED K c 7 (guard_iff c 7) (OAg c 7) _
    (fun h => wp_waitD ACC RED K c (nRsS 7) (rsS 7) rfl _ (duties_rsS ACC RED ((guard_iff c 7).1 h)) (payload_rsS ACC RED c 7 0) (OAg c 7) (mayWait_end c _) (rsS_sem _ 7 rfl) (rfl : (chunkM acM 7).view.dmaCredit = N))
    (fun _ => rfl)) $$ [HO Hf7 Ha7]
  · isplitr; · iexact HR
    isplitr; · iexact HL
    isplitl [HO]; · iexact HO
    isplitl [Hf7] <;> iassumption
  iintro ⟨HO, Ha7, Hf7⟩
  delta wpc; try rw [ret_bind]
  iapply (wp_waitD ACC RED K c (nAgS 0) (agS 0) rfl _ (duties_agS ACC RED c 0) (payload_agS ACC RED c 0 0) (OAg c 7) (mayWait_end c _) (agS_sem _ 0 rfl) (credit_rd _)) $$ [HO Hs0 Hq0]
  · isplitr; · iexact HR
    isplitr; · iexact HL
    isplitl [HO]; · iexact HO
    isplitl [Hs0] <;> iassumption
  iintro ⟨HO, Hq0, Hs0⟩
  delta wpc; try rw [ret_bind]
  iapply (wp_waitD ACC RED K c (nAgS 1) (agS 1) rfl _ (duties_agS ACC RED c 1) (payload_agS ACC RED c 1 0) (OAg c 7) (mayWait_end c _) (agS_sem _ 1 rfl) (credit_rd _)) $$ [HO Hs1 Hq1]
  · isplitr; · iexact HR
    isplitr; · iexact HL
    isplitl [HO]; · iexact HO
    isplitl [Hs1] <;> iassumption
  iintro ⟨HO, Hq1, Hs1⟩
  delta wpc; try rw [ret_bind]
  iapply (wp_waitD ACC RED K c (nAgS 2) (agS 2) rfl _ (duties_agS ACC RED c 2) (payload_agS ACC RED c 2 0) (OAg c 7) (mayWait_end c _) (agS_sem _ 2 rfl) (credit_rd _)) $$ [HO Hs2 Hq2]
  · isplitr; · iexact HR
    isplitr; · iexact HL
    isplitl [HO]; · iexact HO
    isplitl [Hs2] <;> iassumption
  iintro ⟨HO, Hq2, Hs2⟩
  delta wpc; try rw [ret_bind]
  iapply (wp_waitD ACC RED K c (nAgS 3) (agS 3) rfl _ (duties_agS ACC RED c 3) (payload_agS ACC RED c 3 0) (OAg c 7) (mayWait_end c _) (agS_sem _ 3 rfl) (credit_rd _)) $$ [HO Hs3 Hq3]
  · isplitr; · iexact HR
    isplitr; · iexact HL
    isplitl [HO]; · iexact HO
    isplitl [Hs3] <;> iassumption
  iintro ⟨HO, Hq3, Hs3⟩
  delta wpc; try rw [ret_bind]
  sl_exec_parts
  iapply Hk
  isplitl [HO]; · iexact HO
  isplitl [Hown]; · iexact Hown
  isplitl [Ho]; · iapply (outs_done RED c _ (all_halves c)); iexact Ho
  isplitl [Hp0 Hc0 Hp1 Hc1 Hp2 Hc2 Hp3 Hc3 Hp4 Hc4 Hp5 Hc5 Hp6 Hc6]
  · iapply (Entails.of_eq (bySeven (fun k : Fin 7 => iprop(semVal (agRC c k) 0 ∗ chunk rdM c (nx c k) fullShare (RED (nx c k))))).symm)
    isplitl [Hp0 Hc0]; · isplitl [Hp0] <;> iassumption
    isplitl [Hp1 Hc1]; · isplitl [Hp1] <;> iassumption
    isplitl [Hp2 Hc2]; · isplitl [Hp2] <;> iassumption
    isplitl [Hp3 Hc3]; · isplitl [Hp3] <;> iassumption
    isplitl [Hp4 Hc4]; · isplitl [Hp4] <;> iassumption
    isplitl [Hp5 Hc5]; · isplitl [Hp5] <;> iassumption
    isplitl [Hp6] <;> iassumption
  isplitl [Ha0 Hf0 Ha1 Hf1 Ha2 Hf2 Ha3 Hf3 Ha4 Hf4 Ha5 Hf5 Ha6 Hf6 Ha7 Hf7]
  · iapply (Entails.of_eq (byDev (fun i : Dev nD => iprop(semVal (rsSC c i) 0 ∗ chunk acM c i fullShare (ACC c i)))).symm)
    isplitl [Ha0 Hf0]; · isplitl [Ha0] <;> iassumption
    isplitl [Ha1 Hf1]; · isplitl [Ha1] <;> iassumption
    isplitl [Ha2 Hf2]; · isplitl [Ha2] <;> iassumption
    isplitl [Ha3 Hf3]; · isplitl [Ha3] <;> iassumption
    isplitl [Ha4 Hf4]; · isplitl [Ha4] <;> iassumption
    isplitl [Ha5 Hf5]; · isplitl [Ha5] <;> iassumption
    isplitl [Ha6 Hf6]; · isplitl [Ha6] <;> iassumption
    isplitl [Ha7] <;> iassumption
  isplitl [Hq0 Hs0]; · isplitl [Hq0] <;> iassumption
  isplitl [Hq1 Hs1]; · isplitl [Hq1] <;> iassumption
  isplitl [Hq2 Hs2]; · isplitl [Hq2] <;> iassumption
  isplitl [Hq3] <;> iassumption

end Cert.AttnProof
-- ==== Proof.SegO.lean ====
module

public import proofs.«01_k».proof.Proof.SegD

/-! # The opening and the last waits

Parts 1 and 2 of the body: the two weight blocks are fetched by local copies, every other device is told that this one is ready, and
the device waits for all of them. Then the three waits the body ends with. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

/-- The device the `k`-th signal goes to. -/
theorem sdest (c : Dev nD) (k : Fin 7) : (⟨(![k0_dev1 c, k0_dev2 c, k0_dev3 c, k0_dev4 c, k0_dev5 c, k0_dev6 c, k0_dev7 c] : Fin 7 → ℕ) k, by revert c k; decide +kernel⟩ : Dev nD) = nx c k := by
  revert c k; decide +kernel

/-- The device's columns of the query weights, and its rows of the output weights. -/
abbrev wqC (c : Dev nD) : Memref sig .tc .hbm S1024x1024 .f32 :=
  wqM.slice (Rect.unit (s := S1024x8192) (k0_off1 c) S1024x1024.size (k0_off1_inb c)) (fun _ => rfl)
abbrev woC (c : Dev nD) : Memref sig .tc .hbm S1024x1024 .f32 :=
  woM.slice (Rect.unit (s := S8192x1024) (k0_off2 c) S1024x1024.size (k0_off2_inb c)) (fun _ => rfl)

theorem read_whole {sp : Space} (m : Memref sig .tc sp S1024x1024 .f32) (f : m.view.ty.Contents (Elt F)) (X : S1024x1024.Idx → Elt F .f32) :
    m.view.read (Elt F) (m.view.writes (Elt F) f [⟨Rect.whole S1024x1024, X⟩]) = X := by
  funext y
  refine View.read_writes_apply_of_pieces m.view f X _ ?_ y ⟨_, List.mem_singleton_self _, ?_⟩
  · intro p hp x
    rw [List.mem_singleton] at hp; subst hp
    show X x = X ((Rect.whole S1024x1024).emb x)
    rw [Rect.emb_whole_apply]
  · show y ∈ (Rect.whole S1024x1024).set
    rw [Rect.set_whole]; exact Finset.mem_univ y

theorem fetched (c : Dev nD) {src : Memref sig .tc .hbm S1024x1024 .f32} {dst : Memref sig .tc .vmem S1024x1024 .f32} (fs : src.view.ty.Contents (Elt F)) (fd : dst.view.ty.Contents (Elt F)) :
    iprop(pt c dst (dst.view.writes (Elt F) fd [⟨Rect.whole S1024x1024, src.view.read (Elt F) fs⟩]) ∗ pt c src fs)
      ⊢ (iprop(owns (c : Thread nD τ) dst fullShare (src.view.read (Elt F) fs) ∗ pt c src fs) : sProp 𝕄) := by
  iintro ⟨Hd, Hs⟩
  isplitl [Hd]
  · iapply (owns_of_pt c dst _ _ (read_whole _ _ _)); iexact Hd
  · iexact Hs

theorem fetching (c : Dev nD) (i : Fin 2) {src : Memref sig .tc .hbm S1024x1024 .f32} {dst : Memref sig .tc .vmem S1024x1024 .f32} (fs : src.view.ty.Contents (Elt F)) (fd : dst.view.ty.Contents (Elt F))
    {n : ℕ} (hn : dst.view.dmaCredit = n) :
    (Transfers.Flight EC (c : Thread nD τ) (.dma (wS i)) () n iprop(pt c dst (dst.view.writes (Elt F) fd [⟨Rect.whole S1024x1024, src.view.read (Elt F) fs⟩]) ∗ pt c src fs) : sProp 𝕄)
      ⊢ Transfers.Flight EC (c : Thread nD τ) (.dma (wS i)) () dst.view.dmaCredit iprop(owns (c : Thread nD τ) dst fullShare (src.view.read (Elt F) fs) ∗ pt c src fs) := by
  subst hn; exact Transfers.Flight_mono EC (c : Thread nD τ) (fetched c fs fd)

theorem credit_q : qvM.view.dmaCredit = 131072 := by decide +kernel
theorem credit_o : ovM.view.dmaCredit = 131072 := by decide +kernel

omit [FloatOps F] [Named F] in
/-- A block lent out of a whole buffer. -/
theorem pt_lend (c : Dev nD) {sp : Space} {sh : Shape} {e : EltTy} (m : Memref sig .tc sp sh e) (r : Rect sh) (hu : ∀ a, r.stride a = 1) (f : m.view.ty.Contents (Elt F)) :
    (m.view.loc (c : Thread nD τ) ↦[m.view.set]{fullShare} f : sProp 𝕄)
      ⊢ iprop((m.view.loc (c : Thread nD τ) ↦[(m.view.slice r).set]{fullShare} f) ∗ ((m.view.loc (c : Thread nD τ) ↦[(m.view.slice r).set]{fullShare} f) -∗ (m.view.loc (c : Thread nD τ) ↦[m.view.set]{fullShare} f))) := by
  have hsub : (m.view.slice r).set ⊆ m.view.set := by
    rw [View.set_slice]; exact Finset.map_subset_map.mpr (Finset.subset_univ _)
  have h : (m.view.loc (c : Thread nD τ) ↦[m.view.set]{fullShare} f : sProp 𝕄) ⊣⊢ iprop((m.view.loc (c : Thread nD τ) ↦[(m.view.slice r).set]{fullShare} f) ∗ m.view.loc (c : Thread nD τ) ↦[m.view.set \ (m.view.slice r).set]{fullShare} f) := pointsTo_split_subset hsub
  iintro H
  ihave H := h.1 $$ H
  icases H with ⟨H, Hr⟩
  isplitl [H]; · iexact H
  iintro H
  iapply h.2
  isplitl [H] <;> iassumption

/-- What the `k`-th signal needs: its duty, and the slot and the block it hands over. -/
def sigOf (c : Dev nD) (k : Fin 7) : sProp 𝕄 :=
  iprop(dutyTok ER (barC (nx c k)) 0 k ∗ (∃ X, slot c k X) ∗ (∃ X, chunk rdM c (nx c k) fullShare X))

set_option maxHeartbeats 2000000 in
theorem seg_0 (c : Dev nD) (k : Dev nD → BitVec 32 → BitVec 32 → BitVec 32 → Prog (TpuEff nD τ sig (Elt F) Λ₀ .tc) (Dev nD)) (fq : wqM.view.ty.Contents (Elt F)) (fo : woM.view.ty.Contents (Elt F)) (f13) (f14) (Q : Dev nD → sProp 𝕄) :
    iprop(records ACC RED K ∗ levAts L lv ∗ ow c (OBar c 0) ∗ (bigSep Finset.univ fun k => sigOf c k) ∗ cred (tallyAt (barC c) () 7) ∗ atPos ER (barC c) 0 ∅ 0
        ∗ pt c (wqC c) fq ∗ pt c (woC c) fo ∗ pt c qvM f13 ∗ pt c ovM f14 ∗ semVal (wSC c 0) 0 ∗ semVal (wSC c 1) 0)
      ⊢ iprop((∀ v5 v51, (ow c (ORs c 0) ∗ semVal (barC c) 0 ∗ (bigSep Finset.univ fun k => barPay c k)
          ∗ Transfers.Flight EC (c : Thread nD τ) (.dma (wS 0)) () qvM.view.dmaCredit iprop(owns (c : Thread nD τ) qvM fullShare ((wqC c).view.read (Elt F) fq) ∗ pt c (wqC c) fq)
          ∗ Transfers.Flight EC (c : Thread nD τ) (.dma (wS 1)) () ovM.view.dmaCredit iprop(owns (c : Thread nD τ) ovM fullShare ((woC c).view.read (Elt F) fo) ∗ pt c (woC c) fo))
          -∗ wpc c (k c (w2 c) v5 v51) Q)
        -∗ wpc c (do
          let ⟨d0, v2, v5, v14, v27⟩ : Σ' (d0 : Dev nD) (v2 : BitVec 32) (v5 : BitVec 32) (v14 : Sems sig S_), BitVec 32 ← At (k0_part1 (F := F))
          let v51 ← At (k0_part2 (F := F)) d0 v2 v5 v14 v27
          k d0 v2 v5 v51) Q) := by
  iintro ⟨#HR, #HL, HO, HS, Hcb, Hab, Hwq, Hwo, Hqv, Hov, Hv0, Hv1⟩ Hk
  ihave HS := (Entails.of_eq (bySeven (fun k : Fin 7 => sigOf c k))) $$ HS
  unfold sigOf
  icases HS with ⟨⟨Hd0, Hs0, Hr0⟩, ⟨Hd1, Hs1, Hr1⟩, ⟨Hd2, Hs2, Hr2⟩, ⟨Hd3, Hs3, Hr3⟩, ⟨Hd4, Hs4, Hr4⟩, ⟨Hd5, Hs5, Hr5⟩, ⟨Hd6, Hs6, Hr6⟩⟩
  delta At wpc; beta_reduce
  sl_exec_parts
  iapply (wp_sig ACC RED K c _ 0 (sdest c 0) rfl (OBar c 1) rfl) $$ [HO Hd0 Hs0 Hr0]
  · isplitr; · iexact HR
    isplitl [HO]; · iexact HO
    isplitl [Hd0]; · iexact Hd0
    isplitl [Hs0] <;> iassumption
  iintro HO
  delta wpc; try rw [ret_bind]
  sl_exec_parts
  iapply (wp_sig ACC RED K c _ 1 (sdest c 1) rfl (OBar c 2) rfl) $$ [HO Hd1 Hs1 Hr1]
  · isplitr; · iexact HR
    isplitl [HO]; · iexact HO
    isplitl [Hd1]; · iexact Hd1
    isplitl [Hs1] <;> iassumption
  iintro HO
  delta wpc; try rw [ret_bind]
  sl_exec_parts
  iapply (wp_sig ACC RED K c _ 2 (sdest c 2) rfl (OBar c 3) rfl) $$ [HO Hd2 Hs2 Hr2]
  · isplitr; · iexact HR
    isplitl [HO]; · iexact HO
    isplitl [Hd2]; · iexact Hd2
    isplitl [Hs2] <;> iassumption
  iintro HO
  delta wpc; try rw [ret_bind]
  sl_exec_parts
  iapply (wp_sig ACC RED K c _ 3 (sdest c 3) rfl (OBar c 4) rfl) $$ [HO Hd3 Hs3 Hr3]
  · isplitr; · iexact HR
    isplitl [HO]; · iexact HO
    isplitl [Hd3]; · iexact Hd3
    isplitl [Hs3] <;> iassumption
  iintro HO
  delta wpc; try rw [ret_bind]
  sl_exec_parts
  iapply (wp_sig ACC RED K c _ 4 (sdest c 4) rfl (OBar c 5) rfl) $$ [HO Hd4 Hs4 Hr4]
  · isplitr; · iexact HR
    isplitl [HO]; · iexact HO
    isplitl [Hd4]; · iexact Hd4
    isplitl [Hs4] <;> iassumption
  iintro HO
  delta wpc; try rw [ret_bind]
  sl_exec_parts
  iapply (wp_sig ACC RED K c _ 5 (sdest c 5) rfl (OBar c 6) rfl) $$ [HO Hd5 Hs5 Hr5]
  · isplitr; · iexact HR
    isplitl [HO]; · iexact HO
    isplitl [Hd5]; · iexact Hd5
    isplitl [Hs5] <;> iassumption
  iintro HO
  delta wpc; try rw [ret_bind]
  sl_exec_parts
  iapply (wp_sig ACC RED K c _ 6 (sdest c 6) rfl (OBar c 7) rfl) $$ [HO Hd6 Hs6 Hr6]
  · isplitr; · iexact HR
    isplitl [HO]; · iexact HO
    isplitl [Hd6]; · iexact Hd6
    isplitl [Hs6] <;> iassumption
  iintro HO
  delta wpc; try rw [ret_bind]
  sl_exec_parts
  iapply (wp_bar ACC RED K c rfl) $$ [HO Hcb Hab]
  · isplitr; · iexact HR
    isplitr; · iexact HL
    isplitl [HO]; · iexact HO
    isplitl [Hcb] <;> iassumption
  iintro ⟨HO, Hb, HB⟩
  delta wpc; try rw [ret_bind]
  sl_exec_parts
  unfold seg_0.sl.v2 seg_0.sl.v1
  iapply Hk
  isplitl [HO]; · iexact HO
  isplitl [Hb]; · iexact Hb
  isplitl [HB]; · iexact HB
  isplitl [Hv0]
  · iapply (fetching c 0 (src := wqC c) (dst := qvM) fq f13 credit_q); iexact Hv0
  · iapply (fetching c 1 (src := woC c) (dst := ovM) fo f14 credit_o); iexact Hv1

/-- What the body does after its parts. -/
def tailOf (d0 : Dev nD) : Prog (TpuEff nD τ sig (Elt F) Λ₀ .tc) PUnit := do
  Prog.lift (.waitDma2 ((cc0_scratch11.slice (Rect.unit (s := S7) ![4] S1.size inb_S7_S1_4)).squeeze S_ squeezes_S1_S_).sem
    (rdM.slice (Rect.unit (s := S1024x1024) (k0_off39 d0) S128x1024.size (k0_off39_inb d0)) (fun _ => rfl)) (rdM.slice (Rect.unit (s := S1024x1024) (k0_off39 d0) S128x1024.size (k0_off39_inb d0)) (fun _ => rfl))
    ((Memref.isWhole_whole _).wordExact_slice rfl _ (k0_off39_wordsbf16 d0)) ((Memref.isWhole_whole _).wordExact_slice rfl _ (k0_off39_wordsbf16 d0)))
  Prog.lift (.waitDma2 ((cc0_scratch11.slice (Rect.unit (s := S7) ![5] S1.size inb_S7_S1_5)).squeeze S_ squeezes_S1_S_).sem
    (rdM.slice (Rect.unit (s := S1024x1024) (k0_off39 d0) S128x1024.size (k0_off39_inb d0)) (fun _ => rfl)) (rdM.slice (Rect.unit (s := S1024x1024) (k0_off39 d0) S128x1024.size (k0_off39_inb d0)) (fun _ => rfl))
    ((Memref.isWhole_whole _).wordExact_slice rfl _ (k0_off39_wordsbf16 d0)) ((Memref.isWhole_whole _).wordExact_slice rfl _ (k0_off39_wordsbf16 d0)))
  Prog.lift (.waitDma2 ((cc0_scratch11.slice (Rect.unit (s := S7) ![6] S1.size inb_S7_S1_6)).squeeze S_ squeezes_S1_S_).sem
    (rdM.slice (Rect.unit (s := S1024x1024) (k0_off39 d0) S128x1024.size (k0_off39_inb d0)) (fun _ => rfl)) (rdM.slice (Rect.unit (s := S1024x1024) (k0_off39 d0) S128x1024.size (k0_off39_inb d0)) (fun _ => rfl))
    ((Memref.isWhole_whole _).wordExact_slice rfl _ (k0_off39_wordsbf16 d0)) ((Memref.isWhole_whole _).wordExact_slice rfl _ (k0_off39_wordsbf16 d0)))
  pure ⟨⟩

/-- The last three waits. -/
theorem seg_e (c : Dev nD) (Q : PUnit → sProp 𝕄) :
    iprop(records ACC RED K ∗ levAts L lv ∗ ow c (OAg c 7) ∗ ((cred (tallyAt (agSC c 4) () N) ∗ atPos ER (agSC c 4) 0 ∅ 0) ∗ (cred (tallyAt (agSC c 5) () N) ∗ atPos ER (agSC c 5) 0 ∅ 0) ∗ (cred (tallyAt (agSC c 6) () N) ∗ atPos ER (agSC c 6) 0 ∅ 0)))
      ⊢ iprop(((ow c (OAg c 7) ∗ ((semVal (agSC c 4) 0 ∗ chunk rdM c c (Transfers.shareTok fullShare 7 4) (RED c)) ∗ (semVal (agSC c 5) 0 ∗ chunk rdM c c (Transfers.shareTok fullShare 7 5) (RED c)) ∗ (semVal (agSC c 6) 0 ∗ chunk rdM c c (Transfers.shareTok fullShare 7 6) (RED c)))) -∗ Q ⟨⟩)
        -∗ wpc c (tailOf (F := F) c) Q) := by
  iintro ⟨#HR, #HL, HO, ⟨Hs4, Hq4⟩, ⟨Hs5, Hq5⟩, ⟨Hs6, Hq6⟩⟩ Hk
  unfold tailOf
  delta wpc
  simp only [Prog.lift, Prog.bind_op, Prog.bind_ret, Prog.pure_eq_ret]
  iapply (wp_waitD ACC RED K c (nAgS 4) (agS 4) rfl _ (duties_agS ACC RED c 4) (payload_agS ACC RED c 4 0) (OAg c 7) (mayWait_end c _) (agS_sem _ 4 rfl) (credit_rd _)) $$ [HO Hs4 Hq4]
  · isplitr; · iexact HR
    isplitr; · iexact HL
    isplitl [HO]; · iexact HO
    isplitl [Hs4] <;> iassumption
  iintro ⟨HO, Hq4, Hs4⟩
  delta wpc; try rw [ret_bind]
  iapply (wp_waitD ACC RED K c (nAgS 5) (agS 5) rfl _ (duties_agS ACC RED c 5) (payload_agS ACC RED c 5 0) (OAg c 7) (mayWait_end c _) (agS_sem _ 5 rfl) (credit_rd _)) $$ [HO Hs5 Hq5]
  · isplitr; · iexact HR
    isplitr; · iexact HL
    isplitl [HO]; · iexact HO
    isplitl [Hs5] <;> iassumption
  iintro ⟨HO, Hq5, Hs5⟩
  delta wpc; try rw [ret_bind]
  iapply (wp_waitD ACC RED K c (nAgS 6) (agS 6) rfl _ (duties_agS ACC RED c 6) (payload_agS ACC RED c 6 0) (OAg c 7) (mayWait_end c _) (agS_sem _ 6 rfl) (credit_rd _)) $$ [HO Hs6 Hq6]
  · isplitr; · iexact HR
    isplitr; · iexact HL
    isplitl [HO]; · iexact HO
    isplitl [Hs6] <;> iassumption
  iintro ⟨HO, Hq6, Hs6⟩
  delta wpc; try rw [ret_bind]
  sl_exec_parts
  rw [wp_ret]
  imodintro
  iapply Hk
  isplitl [HO]; · iexact HO
  isplitl [Hq4 Hs4]; · isplitl [Hq4] <;> iassumption
  isplitl [Hq5 Hs5]; · isplitl [Hq5] <;> iassumption
  isplitl [Hq6] <;> iassumption

end Cert.AttnProof
-- ==== Proof.Deal.lean ====
module

public import proofs.«01_k».proof.Proof.SegO

/-! # Who holds what at the start

Each device's tokens, positions and credits, and how they are regrouped: by the peer a token names instead of by the device that is
paid. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

/-! ## All devices: this one and its seven peers -/

/-- The permutation of the devices that steps `k + 1` places on. -/
def stepBy (k : Fin 7) : Dev nD ≃ Dev nD where
  toFun c := nx c k
  invFun c := pv c k
  left_inv c := pv_nx c k
  right_inv c := nx_pv c k

omit [FloatOps F] [Named F] in
theorem byPv (c : Dev nD) (Φ : Dev nD → sProp 𝕄) : bigSep Finset.univ Φ = iprop(Φ c ∗ bigSep Finset.univ fun j : Fin 7 => Φ (pv c j)) := by
  rw [bySeven (fun j : Fin 7 => Φ (pv c j)),
    bigSep_univ_eq_bigSepL [c, pv c 0, pv c 1, pv c 2, pv c 3, pv c 4, pv c 5, pv c 6] (by revert c; decide) (by revert c; decide)]
  rfl

omit [FloatOps F] [Named F] in
theorem byNx (c : Dev nD) (Φ : Dev nD → sProp 𝕄) : bigSep Finset.univ Φ = iprop(Φ c ∗ bigSep Finset.univ fun k : Fin 7 => Φ (nx c k)) := by
  rw [bySeven (fun j : Fin 7 => Φ (nx c j)),
    bigSep_univ_eq_bigSepL [c, nx c 0, nx c 1, nx c 2, nx c 3, nx c 4, nx c 5, nx c 6] (by revert c; decide) (by revert c; decide)]
  rfl

omit [FloatOps F] [Named F] in
theorem byRev (Φ : Fin 7 → sProp 𝕄) : bigSep Finset.univ Φ = bigSep Finset.univ fun k : Fin 7 => Φ k.rev :=
  bigSep_univ_equiv Fin.revPerm Φ

omit [FloatOps F] [Named F] in
theorem sep_three (P Q R : sProp 𝕄) : iprop((P ∗ Q) ∗ R) = iprop(P ∗ Q ∗ R) := equiv_iff.mp ⟨BI.sep_assoc, BI.sep_assoc'⟩

omit [FloatOps F] [Named F] in
/-- The thirty cells of a device, by family. -/
theorem cells30 (c : Dev nD) (Φ : GSem nD τ sig → sProp 𝕄) : (bigSep Finset.univ fun n : Fin 30 => Φ (kcell (c, n)))
    = iprop(Φ (barC c) ∗ (bigSep Finset.univ fun i : Dev nD => Φ (rsSC c i)) ∗ (bigSep Finset.univ fun j : Fin 7 => Φ (rsRC c j))
      ∗ (bigSep Finset.univ fun k : Fin 7 => Φ (agSC c k)) ∗ bigSep Finset.univ fun j : Fin 7 => Φ (agRC c j)) := by
  rw [bigSep_univ_eq_bigSepL [(0 : Fin 30), 1, 2, 3, 4, 5, 6, 7, 8, 9, 10, 11, 12, 13, 14, 15, 16, 17, 18, 19, 20, 21, 22, 23, 24, 25, 26, 27, 28, 29] (by decide) (by decide),
    byDev, bySeven, bySeven, bySeven]
  simp only [sep_three]
  rfl

/-! ## What a device starts with -/

/-- Its positions at its own cells, and the tokens of everything it will pay. -/
def deal (c : Dev nD) : sProp 𝕄 :=
  iprop((bigSep Finset.univ fun n : Fin 30 => atPos ER (kcell (c, n)) 0 ∅ 0)
    ∗ (bigSep Finset.univ fun k : Fin 7 => dutyTok ER (barC (nx c k)) 0 k)
    ∗ (bigSep Finset.univ fun i : Dev nD => dutyTok ER (rsSC c i) 0 0) ∗ (bigSep Finset.univ fun j : Fin 7 => dutyTok ER (rsRC (pv c j) j) 0 0)
    ∗ (bigSep Finset.univ fun k : Fin 7 => dutyTok ER (agSC c k) 0 0) ∗ (bigSep Finset.univ fun j : Fin 7 => dutyTok ER (agRC (pv c j) j) 0 0))

/-- The credits it starts with: what the other devices owe its cells. -/
def loan (c : Dev nD) : sProp 𝕄 :=
  iprop(cred (tallyAt (barC c) () 7) ∗ (bigSep Finset.univ fun j : Fin 7 => cred (tallyAt (rsRC c j) () N))
    ∗ bigSep Finset.univ fun j : Fin 7 => cred (tallyAt (agRC c j) () N))

/-- A device hands out its seven slots and the blocks of its last buffer that are not its own. -/
theorem sigs_intro (c : Dev nD) :
    iprop((bigSep Finset.univ fun k : Fin 7 => dutyTok ER (barC (nx c k)) 0 k) ∗ (∃ X, owns (c : Thread nD τ) rsM fullShare X) ∗ (∃ X, owns (c : Thread nD τ) rdM fullShare X))
      ⊢ (iprop((bigSep Finset.univ fun k => sigOf c k) ∗ (∃ X, chunk rdM c c fullShare X)) : sProp 𝕄) := by
  iintro ⟨Hd, Hs, Hr⟩
  ihave Hs := (slots_split c) $$ Hs
  ihave Hr := (chunks_split rdM c) $$ Hr
  ihave Hr := (Entails.of_eq (byNx c fun r : Dev nD => iprop(∃ X, chunk rdM c r fullShare X))) $$ Hr
  icases Hr with ⟨Hc, Hr⟩
  isplitr [Hc]
  · unfold sigOf
    rw [bigSep_sep', bigSep_sep']
    isplitl [Hd]; · iexact Hd
    isplitl [Hs] <;> iassumption
  · iexact Hc

omit [FloatOps F] [Named F] in
theorem todo_self (c : Dev nD) : (todo c c : sProp 𝕄) = iprop(emp) := by unfold todo; rw [if_pos rfl]

omit [FloatOps F] [Named F] in
theorem sl_pv (c : Dev nD) (j : Fin 7) : sl c (pv c j) = j := by revert c j; decide
omit [FloatOps F] [Named F] in
theorem pv_ne (c : Dev nD) (j : Fin 7) : pv c j ≠ c := by revert c j; decide

omit [FloatOps F] [Named F] in
theorem todo_pv (c : Dev nD) (j : Fin 7) : (todo c (pv c j) : sProp 𝕄)
    = iprop((∃ X, slot (pv c j) j X) ∗ dutyTok ER (rsSC c (pv c j)) 0 0 ∗ dutyTok ER (rsRC (pv c j) j) 0 0) := by
  unfold todo; rw [if_neg (pv_ne c j), sl_pv]

omit [FloatOps F] [Named F] in
theorem ag_rev (c : Dev nD) (k : Fin 7) : (iprop((∃ X, chunk rdM (pv c k.rev) c fullShare X) ∗ dutyTok ER (agRC (pv c k.rev) k.rev) 0 0) : sProp 𝕄)
    = iprop((∃ X, chunk rdM (nx c k) c fullShare X) ∗ dutyTok ER (agRC (nx c k) k.rev) 0 0) := by
  rw [pv_rev]

omit [FloatOps F] [Named F] in
/-- Once all peers are ready: the tokens and the room for every copy. -/
theorem todos_intro (c : Dev nD) :
    iprop((bigSep Finset.univ fun k => barPay c k)
        ∗ (bigSep Finset.univ fun i : Dev nD => dutyTok ER (rsSC c i) 0 0) ∗ (bigSep Finset.univ fun j : Fin 7 => dutyTok ER (rsRC (pv c j) j) 0 0)
        ∗ (bigSep Finset.univ fun k : Fin 7 => dutyTok ER (agSC c k) 0 0) ∗ (bigSep Finset.univ fun j : Fin 7 => dutyTok ER (agRC (pv c j) j) 0 0))
      ⊢ (iprop((bigSep Finset.univ fun r => todo c r)
        ∗ bigSep Finset.univ fun k : Fin 7 => iprop((∃ X, chunk rdM (nx c k) c fullShare X) ∗ dutyTok ER (agSC c k) 0 0 ∗ dutyTok ER (agRC (nx c k) k.rev) 0 0)) : sProp 𝕄) := by
  have e1 : (bigSep Finset.univ fun r => todo c r : sProp 𝕄) = _ := byPv c fun r => todo c r
  rw [e1, todo_self, bigSep_congr fun j _ => todo_pv c j, bigSep_sep', bigSep_sep', bigSep_sep', bigSep_sep']
  unfold barPay
  rw [bigSep_sep']
  iintro ⟨⟨Hs, Hc⟩, Ht1, Ht2, Ht3, Ht4⟩
  ihave Ht1 := (Entails.of_eq (byPv c fun i : Dev nD => (dutyTok ER (rsSC c i) 0 0 : sProp 𝕄))) $$ Ht1
  icases Ht1 with ⟨-, Ht1⟩
  ihave Hr := (Entails.of_eq (((bigSep_sep' Finset.univ (fun k : Fin 7 => iprop(∃ X, chunk rdM (pv c k) c fullShare X)) (fun j : Fin 7 => (dutyTok ER (agRC (pv c j) j) 0 0 : sProp 𝕄))).symm.trans
    (byRev _)).trans ((bigSep_congr fun k _ => ag_rev c k).trans (bigSep_sep' _ _ _)))) $$ [Hc Ht4]
  · isplitl [Hc] <;> iassumption
  icases Hr with ⟨Hc, Ht4⟩
  isplitr [Hc Ht3 Ht4]
  · isplitr; · iempintro
    isplitl [Hs]; · iexact Hs
    isplitl [Ht1] <;> iassumption
  · isplitl [Hc]; · iexact Hc
    isplitl [Ht3] <;> iassumption

/-! ## Whole buffers -/

theorem any_owns (c : Dev nD) {sp : Space} {sh : Shape} {e : EltTy} (m : Memref sig .tc sp sh e) : (iprop(∃ f, pt (F := F) c m f) : sProp 𝕄) ⊢ iprop(∃ X, owns (c : Thread nD τ) m fullShare X) := by
  iintro ⟨%f, H⟩; iexists _; iapply (owns_of_pt c m f _ rfl); iexact H

theorem owns_any (c : Dev nD) {sp : Space} {sh : Shape} {e : EltTy} (m : Memref sig .tc sp sh e) : (iprop(∃ X, owns (c : Thread nD τ) m fullShare X) : sProp 𝕄) ⊢ iprop(∃ f, pt (F := F) c m f) := by
  iintro ⟨%X, H⟩
  ihave H := (owns_pt c m X) $$ H
  icases H with ⟨%f, -, H⟩
  iexists f; iexact H

/-- The scratch buffers, with anything in them. -/
def scratch (c : Dev nD) : sProp 𝕄 :=
  iprop((∃ f, pt (F := F) c xpM f) ∗ (∃ f, pt (F := F) c kpM f) ∗ (∃ f, pt (F := F) c vpM f) ∗ (∃ f, pt (F := F) c ctM f) ∗ (∃ f, pt (F := F) c acM f)
    ∗ (∃ f, pt (F := F) c rdM f) ∗ (∃ f, pt (F := F) c rsM f) ∗ (∃ f, pt (F := F) c qvM f) ∗ (∃ f, pt (F := F) c ovM f))

end Cert.AttnProof
-- ==== Proof.Body.lean ====
module

public import proofs.«01_k».proof.Proof.Deal

/-! # The whole body

The segments one after the other, at a symbolic device: from its launch holdings to the filled result block, with every buffer it lent
back and every semaphore it used at zero. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F] [Named F]

local notation "𝕄" => MT nD τ sig Unit (Elt F) ℕ UU ℕ

variable (ACC : Dev nD → Dev nD → Blk F) (RED : Dev nD → Blk F) (K : Dev nD × Fin 30 → ℕ)

/-! ## The parts of the program the segments leave for later -/

def restD (c : Dev nD) (v2 : BitVec 32) (v1520 : Vec F S64x1024 .bf16) (w : BitVec 32) : Prog (TpuEff nD τ sig (Elt F) Λ₀ .tc) (Dev nD) := do
  let ⟨v1539, v1549, v1550, v1551, c4⟩ : Σ' (v1539 : BitVec 32) (v1549 : BitVec 32) (v1550 : BitVec 32) (v1551 : BitVec 32), BitVec 32 ← At (k0_part46 (F := F)) c v2 v1520 w
  let v1575 ← At (k0_part47 (F := F)) c v2 v1539 v1549 v1550 v1551 c4
  let ⟨v1611, v1614⟩ : Σ' (v1611 : BitVec 32), BitVec 32 ← At (k0_part48 (F := F)) c v2 v1575
  let ⟨v1646, c8⟩ : Σ' (v1646 : BitVec 32), BitVec 32 ← At (k0_part49 (F := F)) c v2 v1611 v1614
  let v1676 : Vec F S64x1024 .bf16 ← At (k0_part50 (F := F)) c v2 v1646 c8
  let ⟨v1705, v1709⟩ : Σ' (v1705 : BitVec 32), BitVec 32 ← At (k0_part51 (F := F)) c v2 v1676
  let v1740 ← At (k0_part52 (F := F)) c v2 v1705 v1709
  let ⟨v1755, v1769⟩ : Σ' (v1755 : BitVec 32), BitVec 32 ← At (k0_part53 (F := F)) c v2 v1740
  let c5 ← At (k0_part54 (F := F)) c v2 v1755 v1769
  At (k0_part55 (F := F)) c v2 c5
  pure c

def restC (c : Dev nD) (v2 : BitVec 32) (v1335 : FVec F S128x1024 .f32) : Prog (TpuEff nD τ sig (Elt F) Λ₀ .tc) (Dev nD) := do
  let v1359 : FVec F S128x1024 .f32 ← At (k0_part40 (F := F)) v2 v1335
  let v1395 : FVec F S128x1024 .f32 ← At (k0_part41 (F := F)) v2 v1359
  At (k0_part42 (F := F)) c v2 v1395
  let v1458 ← At (k0_part43 (F := F)) c v2
  let v1487 ← At (k0_part44 (F := F)) c v2 v1458
  let ⟨v1520, v1521⟩ : Σ' (v1520 : Vec F S64x1024 .bf16), BitVec 32 ← At (k0_part45 (F := F)) c v2 v1487
  restD c v2 v1520 v1521

def restB (c : Dev nD) (v2 v5 : BitVec 32) (v230 v235 : FVec F S1024x1024 .bf16) (v237 v495 : BitVec 32) (v504 : BitVec 1) : Prog (TpuEff nD τ sig (Elt F) Λ₀ .tc) (Dev nD) := do
  let ⟨v508, v536⟩ : Σ' (v508 : BitVec 32), FVec F S64x8x128 .f32 ← At (k0_part16 (F := F)) c v2 v5 v495 v504
  let v568 : Vec F S64x8x128 .f32 ← At (k0_part17 (F := F)) c v508 v536
  let ⟨v575, v602, cst_379⟩ : Σ' (v575 : FVec F S256x1024 .bf16) (v602 : FVec F S256x256 .f32), F .f32 ← At (k0_part18 (F := F)) v230 v568
  let v638 : FVec F S256x128 .bf16 ← At (k0_part19 (F := F)) v575 v602 cst_379
  let ⟨v673, v674, v676⟩ : Σ' (v673 : FVec F S256x1 .f32) (v674 : FVec F S256x256 .bf16), FVec F S256x128 .bf16 ← At (k0_part20 (F := F)) v575 v638
  let ⟨v712, cst_444⟩ : Σ' (v712 : FVec F S256x256 .f32), F .f32 ← At (k0_part21 (F := F)) v575 v673 v674 v676
  let v748 : FVec F S256x128 .bf16 ← At (k0_part22 (F := F)) v575 v712 cst_444
  let ⟨v779, v781, v783⟩ : Σ' (v779 : BitVec 32) (v781 : BitVec 32), Vec F S64x8x128 .f32 ← At (k0_part23 (F := F)) c v2 v5 v235 v508 v748
  let ⟨v813, v815⟩ : Σ' (v813 : BitVec 32), Vec F S64x8x128 .f32 ← At (k0_part24 (F := F)) c v779 v781 v783
  let ⟨v846, v847⟩ : Σ' (v846 : FVec F S256x1024 .bf16), FVec F S256x128 .bf16 ← At (k0_part25 (F := F)) c v230 v779 v813 v815
  let ⟨v878, v882, v883⟩ : Σ' (v878 : FVec F S256x1 .f32) (v882 : FVec F S256x128 .f32), FVec F S256x1 .f32 ← At (k0_part26 (F := F)) v846 v847
  let v920 : FVec F S256x256 .f32 ← At (k0_part27 (F := F)) v846 v878 v882 v883
  let v957 : FVec F S256x128 .bf16 ← At (k0_part28 (F := F)) v846 v920
  let ⟨v988, v992, v993⟩ : Σ' (v988 : FVec F S256x1 .f32) (v992 : FVec F S256x128 .f32), FVec F S256x1 .f32 ← At (k0_part29 (F := F)) v846 v957
  let ⟨v1024, v1027⟩ : Σ' (v1024 : BitVec 32), FVec F S128x1024 .bf16 ← At (k0_part30 (F := F)) v235 v779 v846 v988 v992 v993
  let ⟨v1050, v1063⟩ : Σ' (v1050 : BitVec 32), FVec F S64x8x128 .bf16 ← At (k0_part31 (F := F)) c v2 v5 v235 v779 v1024 v1027
  let v1095 : FVec F S64x8x128 .bf16 ← At (k0_part32 (F := F)) c v1050 v1063
  let ⟨v1117, v1127, v1128⟩ : Σ' (v1117 : FVec F S256x1024 .bf16) (v1127 : FVec F S256x1 .f32), FVec F S256x256 .bf16 ← At (k0_part33 (F := F)) c v230 v1050 v1095
  let ⟨v1162, v1164⟩ : Σ' (v1162 : FVec F S256x128 .bf16), FVec F S256x128 .bf16 ← At (k0_part34 (F := F)) v1117 v1127 v1128
  let v1202 : FVec F S256x128 .bf16 ← At (k0_part35 (F := F)) v1117 v1162 v1164
  let ⟨v1237, v1238⟩ : Σ' (v1237 : FVec F S256x1 .f32), FVec F S256x256 .bf16 ← At (k0_part36 (F := F)) v1117 v1202
  let ⟨v1272, v1274⟩ : Σ' (v1272 : FVec F S256x128 .bf16), FVec F S256x128 .bf16 ← At (k0_part37 (F := F)) v1117 v1237 v1238
  let ⟨v1308, v1309⟩ : Σ' (v1308 : BitVec 32), Vec F S128x1024 .bf16 ← At (k0_part38 (F := F)) c v2 v235 v1050 v1272 v1274
  let v1335 ← At (k0_part39 (F := F)) c v2 v235 v1308 v1309
  restC c v2 v1335

def restA (c : Dev nD) (v2 v5 : BitVec 32) : Prog (TpuEff nD τ sig (Elt F) Λ₀ .tc) (Dev nD) := do
  let ⟨v230, v235, v237, v255⟩ : Σ' (v230 : FVec F S1024x1024 .bf16) (v235 : FVec F S1024x1024 .bf16) (v237 : BitVec 32), BitVec 32 ← At (k0_part8 (F := F)) c v5
  let v287 ← At (k0_part9 (F := F)) c v237 v255
  let ⟨v304, v323⟩ : Σ' (v304 : FVec F S256x1024 .bf16), FVec F S256x128 .bf16 ← At (k0_part10 (F := F)) c v230 v287
  let ⟨v358, v359⟩ : Σ' (v358 : FVec F S256x1 .f32), FVec F S256x256 .bf16 ← At (k0_part11 (F := F)) v304 v323
  let ⟨v393, v395⟩ : Σ' (v393 : FVec F S256x128 .bf16), FVec F S256x128 .bf16 ← At (k0_part12 (F := F)) v304 v358 v359
  let v433 : FVec F S256x128 .bf16 ← At (k0_part13 (F := F)) v304 v393 v395
  let ⟨v468, v469⟩ : Σ' (v468 : FVec F S256x1 .f32), FVec F S256x256 .bf16 ← At (k0_part14 (F := F)) v304 v433
  let ⟨v495, v504⟩ : Σ' (v495 : BitVec 32), BitVec 1 ← At (k0_part15 (F := F)) c v2 v235 v237 v468 v469
  restB c v2 v5 v230 v235 v237 v495 v504

def restX (c : Dev nD) (v2 v5 v51 : BitVec 32) : Prog (TpuEff nD τ sig (Elt F) Λ₀ .tc) (Dev nD) := do
  let ⟨v85, c64⟩ : Σ' (v85 : BitVec 32), BitVec 32 ← At (k0_part3 (F := F)) c v5 v51
  At (k0_part4 (F := F)) c v5 v85 c64
  let v156 : FVec F S64x1024 .bf16 ← At (k0_part5 (F := F)) c v5
  let ⟨v189, v190⟩ : Σ' (v189: FVec F S64x1024 .bf16), Vec F S64x1024 .bf16 ← At (k0_part6 (F := F)) c v5 v156
  At (k0_part7 (F := F)) c v5 v189 v190
  restA c v2 v5

def allParts : Prog (TpuEff nD τ sig (Elt F) Λ₀ .tc) (Dev nD) := do
  let ⟨d0, v2, v5, v14, v27⟩ : Σ' (d0 : Dev nD) (v2 : BitVec 32) (v5 : BitVec 32) (v14 : Sems sig S_), BitVec 32 ← At (k0_part1 (F := F))
  let v51 ← At (k0_part2 (F := F)) d0 v2 v5 v14 v27
  restX d0 v2 v5 v51

set_option maxRecDepth 65536 in
/-- The printed body is the parts in their order, and the last three waits. -/
theorem parts_eq : At (cc0_body (F := F)) = (allParts (F := F)) >>= fun d0 => tailOf d0 := by
  delta At
  rw [cc0_body_eq_skeleton]
  unfold cc0_body_skel
  rw [k0_part56_eq_skeleton]
  rfl

/-! ## The run of the body -/

/-- What a device's body starts with, besides the launch's records. -/
def bodyIn (c : Dev nD) (fx : xsM.view.ty.Contents (Elt F)) (fk : ksM.view.ty.Contents (Elt F)) (fv : vsM.view.ty.Contents (Elt F)) (fo : osM.view.ty.Contents (Elt F)) (fq : wqM.view.ty.Contents (Elt F)) (fw : woM.view.ty.Contents (Elt F)) : sProp 𝕄 :=
  iprop(deal c ∗ loan c ∗ pt c xsM fx ∗ pt c ksM fk ∗ pt c vsM fv ∗ pt c osM fo ∗ pt c wqM fq ∗ pt c woM fw ∗ scratch c ∗ semVal (wSC c 0) 0 ∗ semVal (wSC c 1) 0)

/-- What it ends with: the result block written, all else back. -/
def bodyOut (RED : Dev nD → Blk F) (c : Dev nD) (fx : xsM.view.ty.Contents (Elt F)) (fk : ksM.view.ty.Contents (Elt F)) (fv : vsM.view.ty.Contents (Elt F)) (fq : wqM.view.ty.Contents (Elt F)) (fw : woM.view.ty.Contents (Elt F)) : sProp 𝕄 :=
  iprop(pt c xsM fx ∗ pt c ksM fk ∗ pt c vsM fv ∗ owns (c : Thread nD τ) osM fullShare (OUT RED) ∗ pt c wqM fq ∗ pt c woM fw ∗ scratch c
    ∗ semVal (wSC c 0) 0 ∗ semVal (wSC c 1) 0 ∗ bigSep Finset.univ fun n : Fin 30 => semVal (kcell (c, n)) 0)

set_option maxHeartbeats 2000000 in
theorem body_run (c : Dev nD) (fx : xsM.view.ty.Contents (Elt F)) (fk : ksM.view.ty.Contents (Elt F)) (fv : vsM.view.ty.Contents (Elt F)) (fo : osM.view.ty.Contents (Elt F)) (fq : wqM.view.ty.Contents (Elt F)) (fw : woM.view.ty.Contents (Elt F)) (Q : PUnit → sProp 𝕄)
    (hacc : ∀ n, ACC c (ch c n) = ACCn c (xsM.view.read (Elt F) fx) (ksM.view.read (Elt F) fk) (vsM.view.read (Elt F) fv)
      ((wqC c).view.read (Elt F) fq) ((woC c).view.read (Elt F) fw) n)
    (hred : RED c = k0_pay145 (k0_pay144 (k0_pay143 (k0_pay142 (ACC c c) (unsq (ACC (nx c 0) c))) (unsq (ACC (nx c 1) c)) (unsq (ACC (nx c 2) c)))
      (unsq (ACC (nx c 3) c)) (unsq (ACC (nx c 4) c)) (unsq (ACC (nx c 5) c))) (unsq (ACC (nx c 6) c))) :
    iprop(records ACC RED K ∗ levAts L lv ∗ ow c (OBar c 0) ∗ bodyIn c fx fk fv fo fq fw)
      ⊢ iprop(((ow c (OAg c 7) ∗ bodyOut RED c fx fk fv fq fw) -∗ Q ⟨⟩) -∗ wpc c (At (cc0_body (F := F))) Q) := by
  rw [parts_eq]
  delta wpc
  rw [wp_bind]
  unfold bodyIn deal loan scratch
  iintro ⟨#HR, #HL, HO, ⟨Hat, Ht0, Ht1, Ht2, Ht3, Ht4⟩, ⟨Hc0, Hc1, Hc2⟩, Hx, Hk, Hv, Ho, Hq, Hw, ⟨⟨%f6, H6⟩, ⟨%f7, H7⟩, ⟨%f8, H8⟩, ⟨%f9, H9⟩, Hac, Hrd, Hrs, ⟨%f13, H13⟩, ⟨%f14, H14⟩⟩, Hz0, Hz1⟩ HQ
  ihave Hac := (any_owns c acM) $$ Hac
  ihave Hac := (chunks_split acM c) $$ Hac
  ihave Hac := (Entails.of_eq (byTurn c fun r : Dev nD => iprop(∃ X, chunk acM c r fullShare X))) $$ Hac
  icases Hac with ⟨Ha0, Ha1, Ha2, Ha3, Ha4, Ha5, Ha6, Ha7⟩
  ihave Hrd := (any_owns c rdM) $$ Hrd
  ihave Hrs := (any_owns c rsM) $$ Hrs
  ihave Hs := (sigs_intro c) $$ [Ht0 Hrd Hrs]
  · isplitl [Ht0]; · iexact Ht0
    isplitl [Hrs] <;> iassumption
  icases Hs with ⟨Hs, Hown⟩
  ihave Hat := (Entails.of_eq (cells30 c fun g => atPos ER g 0 ∅ 0)) $$ Hat
  icases Hat with ⟨Hp0, Hp1, Hp2, Hp3, Hp4⟩
  ihave Hq := (pt_lend c wqM (Rect.unit (s := S1024x8192) (k0_off1 c) S1024x1024.size (k0_off1_inb c)) (fun _ => rfl) fq) $$ Hq
  icases Hq with ⟨Hq, Hqb⟩
  ihave Hw := (pt_lend c woM (Rect.unit (s := S8192x1024) (k0_off2 c) S1024x1024.size (k0_off2_inb c)) (fun _ => rfl) fw) $$ Hw
  icases Hw with ⟨Hw, Hwb⟩
  unfold allParts
  iapply (seg_0 ACC RED K c (fun d0 v2 v5 v51 => restX d0 v2 v5 v51) fq fw f13 f14) $$ [HO Hs Hc0 Hp0 Hq Hw H13 H14 Hz0 Hz1]
  · isplitr; · iexact HR
    isplitr; · iexact HL
    isplitl [HO]; · iexact HO
    isplitl [Hs]; · iexact Hs
    isplitl [Hc0]; · iexact Hc0
    isplitl [Hp0]; · iexact Hp0
    isplitl [Hq]; · iexact Hq
    isplitl [Hw]; · iexact Hw
    isplitl [H13]; · iexact H13
    isplitl [H14]; · iexact H14
    isplitl [Hz0] <;> iassumption
  iintro %v5 %v51 ⟨HO, Hb, Hpay, Hf0, Hf1⟩
  ihave Ht := (todos_intro c) $$ [Hpay Ht1 Ht2 Ht3 Ht4]
  · isplitl [Hpay]; · iexact Hpay
    isplitl [Ht1]; · iexact Ht1
    isplitl [Ht2]; · iexact Ht2
    isplitl [Ht3] <;> iassumption
  icases Ht with ⟨Ht, Hg⟩
  ihave Ht := (Entails.of_eq (byTurn c fun r : Dev nD => todo c r)) $$ Ht
  icases Ht with ⟨Ht0, Ht1, Ht2, Ht3, Ht4, Ht5, Ht6, Ht7⟩
  unfold restX
  iapply (seg_x c v5 v51 (restA c (w2 c) v5) fx f6) $$ [Hx H6]
  · isplitl [Hx] <;> iassumption
  iintro ⟨Hx, H6⟩
  unfold restA
  iapply (seg_a ACC RED K c (w2 c) v5 (fun v230 v235 v237 v495 v504 => restB c (w2 c) v5 v230 v235 v237 v495 v504) fk fv (xsM.view.read (Elt F) fx) ((wqC c).view.read (Elt F) fq) ((woC c).view.read (Elt F) fw) f7 f8 f9 _ _ _ hacc)
    $$ [HO Hf0 Hf1 Hk Hv H6 H7 H8 H9 Ha0 Ha1 Ht0]
  · isplitr; · iexact HR
    isplitr; · iexact HL
    isplitl [HO]; · iexact HO
    isplitl [Hf0]; · iexact Hf0
    isplitl [Hf1]; · iexact Hf1
    isplitl [Hk]; · iexact Hk
    isplitl [Hv]; · iexact Hv
    isplitl [H6]; · iexact H6
    isplitl [H7]; · iexact H7
    isplitl [H8]; · iexact H8
    isplitl [H9]; · iexact H9
    isplitl [Ha0]; · iexact Ha0
    isplitl [Ha1] <;> iassumption
  iintro %va %vb %vd ⟨HO, Hz0, Hz1, H13, Hq, H14, Hw, Hk, Hv, H6, ⟨%g7, H7⟩, ⟨%g8, H8⟩, ⟨%g9, H9⟩, Hfin, Ha1⟩
  ihave Hc1 := (Entails.of_eq ((bigSep_sep' Finset.univ (fun j : Fin 7 => cred (tallyAt (rsRC c j) () N)) (fun j : Fin 7 => (atPos ER (rsRC c j) 0 ∅ 0 : sProp 𝕄))).symm.trans (bySeven _))) $$ [Hc1 Hp2]
  · isplitl [Hc1] <;> iassumption
  icases Hc1 with ⟨⟨Hc10, Hp20⟩, Hc1⟩
  unfold restB
  iapply (seg_b ACC RED K c (w2 c) v5 va vb vd (fun v1335 => restC c (w2 c) v1335) fk fv (xsM.view.read (Elt F) fx) ((wqC c).view.read (Elt F) fq) ((woC c).view.read (Elt F) fw) g7 g8 g9 _ hacc)
    $$ [HO Hk Hv H6 H7 H8 H9 Hfin Ha1 Ha2 Ha3 Ha4 Ha5 Ha6 Ha7 Ht1 Ht2 Ht3 Ht4 Ht5 Ht6 Ht7 Hc10 Hp20]
  · isplitr; · iexact HR
    isplitr; · iexact HL
    isplitl [HO]; · iexact HO
    isplitl [Hk]; · iexact Hk
    isplitl [Hv]; · iexact Hv
    isplitl [H6]; · iexact H6
    isplitl [H7]; · iexact H7
    isplitl [H8]; · iexact H8
    isplitl [H9]; · iexact H9
    isplitl [Hfin]; · iexact Hfin
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hc10] <;> iassumption
  iintro ⟨HO, Hk, Hv, H6, H7, H8, H9, Hfin, Hv0, Hs0⟩
  unfold restC
  ihave Hg := (Entails.of_eq (bySeven _)) $$ Hg
  iapply (seg_c ACC RED K c (w2 c) (fun v1520 v1521 => restD c (w2 c) v1520 v1521) _ hred) $$ [HO Hc1 Hown Hg]
  · isplitr; · iexact HR
    isplitr; · iexact HL
    isplitl [HO]; · iexact HO
    isplitl [Hc1]; · iexact Hc1
    isplitl [Hown]; · iexact Hown
    iexact Hg
  iintro %w ⟨HO, Hdrop, ⟨⟨Hv1, Hs1⟩, ⟨Hv2, Hs2⟩, ⟨Hv3, Hs3⟩, ⟨Hv4, Hs4⟩, ⟨Hv5, Hs5⟩, ⟨Hv6, Hs6⟩⟩, ⟨He0, He1, He2, He3, He4, He5, He6⟩⟩
  ihave Ho := (outs_start RED c fo) $$ Ho
  ihave Hp3 := (Entails.of_eq (bySeven _)) $$ Hp3
  icases Hp3 with ⟨Hg0, Hg1, Hg2, Hg3, Hg4, Hg5, Hg6⟩
  unfold restD
  iapply (seg_d ACC RED K c w (pure c)) $$ [HO Hdrop Ho Hc2 Hp4 Hfin Hp1 He0 He1 He2 He3 Hg0 Hg1 Hg2 Hg3]
  · isplitr; · iexact HR
    isplitr; · iexact HL
    isplitl [HO]; · iexact HO
    isplitl [Hdrop]; · iexact Hdrop
    isplitl [Ho]; · iexact Ho
    rw [bigSep_sep', bigSep_sep']
    isplitl [Hc2 Hp4]
    · isplitl [Hc2] <;> iassumption
    isplitl [Hfin Hp1]
    · isplitl [Hfin] <;> iassumption
    isplitl [He0 Hg0]
    · isplitl [He0] <;> iassumption
    isplitl [He1 Hg1]
    · isplitl [He1] <;> iassumption
    isplitl [He2 Hg2]
    · isplitl [He2] <;> iassumption
    isplitl [He3] <;> iassumption
  iintro ⟨HO, Hdrop, Ho, Hag, Hac, ⟨Hx0, Hk0⟩, ⟨Hx1, Hk1⟩, ⟨Hx2, Hk2⟩, ⟨Hx3, Hk3⟩⟩
  delta wpc
  rw [Prog.pure_eq_ret, wp_ret]; imodintro
  iapply (seg_e ACC RED K c Q) $$ [HO He4 He5 He6 Hg4 Hg5 Hg6]
  · isplitr; · iexact HR
    isplitr; · iexact HL
    isplitl [HO]; · iexact HO
    isplitl [He4 Hg4]
    · isplitl [He4] <;> iassumption
    isplitl [He5 Hg5]
    · isplitl [He5] <;> iassumption
    isplitl [He6] <;> iassumption
  iintro ⟨HO, ⟨Hx4, Hk4⟩, ⟨Hx5, Hk5⟩, ⟨Hx6, Hk6⟩⟩
  iapply HQ
  isplitl [HO]; · iexact HO
  ihave Hag := (Entails.of_eq (bigSep_sep' _ _ _)) $$ Hag
  icases Hag with ⟨Hy, Hrd⟩
  ihave Hac := (Entails.of_eq (bigSep_sep' _ _ _)) $$ Hac
  icases Hac with ⟨Hz, Hac⟩
  unfold bodyOut scratch
  rw [cells30 c fun g => semVal g 0, bySeven fun j => semVal (rsRC c j) 0, bySeven fun j => semVal (agSC c j) 0]
  isplitl [Hx]; · iexact Hx
  isplitl [Hk]; · iexact Hk
  isplitl [Hv]; · iexact Hv
  isplitl [Ho]; · iexact Ho
  isplitl [Hq Hqb]; · iapply Hqb; iexact Hq
  isplitl [Hw Hwb]; · iapply Hwb; iexact Hw
  isplitl [H6 H7 H8 H9 Hac Hrd Hdrop Hk0 Hk1 Hk2 Hk3 Hk4 Hk5 Hk6 Hs0 Hs1 Hs2 Hs3 Hs4 Hs5 Hs6 H13 H14]
  · isplitl [H6]; · iapply (owns_any c xpM); iexists _; iexact H6
    isplitl [H7]; · iexact H7
    isplitl [H8]; · iexact H8
    isplitl [H9]; · iexact H9
    isplitl [Hac]
    · iapply (owns_any c acM); iapply (chunks_join acM c)
      iapply (sepMono (s := Finset.univ) (Φ := fun i : Dev nD => chunk acM c i fullShare (ACC c i)) (Ψ := fun i : Dev nD => iprop(∃ X, chunk acM c i fullShare X)) fun i _ => exists_intro (Φ := fun X => chunk acM c i fullShare X) _)
      iexact Hac
    isplitl [Hrd Hdrop Hk0 Hk1 Hk2 Hk3 Hk4 Hk5 Hk6]
    · iapply (owns_any c rdM); iapply (chunks_join rdM c)
      iapply (sepMono (s := Finset.univ) (Φ := fun i : Dev nD => chunk rdM c i fullShare (RED i)) (Ψ := fun i : Dev nD => iprop(∃ X, chunk rdM c i fullShare X)) fun i _ => exists_intro (Φ := fun X => chunk rdM c i fullShare X) _)
      iapply (Entails.of_eq (byNx c fun i : Dev nD => chunk rdM c i fullShare (RED i)).symm)
      isplitr [Hrd]
      · iapply (chunk_undeal rdM c c (RED c))
        isplitl [Hdrop]; · iexact Hdrop
        rw [bySeven]
        isplitl [Hk0]; · iexact Hk0
        isplitl [Hk1]; · iexact Hk1
        isplitl [Hk2]; · iexact Hk2
        isplitl [Hk3]; · iexact Hk3
        isplitl [Hk4]; · iexact Hk4
        isplitl [Hk5] <;> iassumption
      · iexact Hrd
    isplitl [Hs0 Hs1 Hs2 Hs3 Hs4 Hs5 Hs6]
    · iapply (owns_any c rsM); iapply (slots_join c)
      rw [bySeven]
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      iexists _; iexact Hs6
    isplitl [H13]; · iapply (owns_any c qvM); iexists _; iexact H13
    iapply (owns_any c ovM); iexists _; iexact H14
  isplitl [Hz0]; · iexact Hz0
  isplitl [Hz1]; · iexact Hz1
  isplitl [Hb]; · iexact Hb
  isplitl [Hz]; · iexact Hz
  isplitl [Hv0 Hv1 Hv2 Hv3 Hv4 Hv5 Hv6]
  · isplitl [Hv0]; · iexact Hv0
    isplitl [Hv1]; · iexact Hv1
    isplitl [Hv2]; · iexact Hv2
    isplitl [Hv3]; · iexact Hv3
    isplitl [Hv4]; · iexact Hv4
    isplitl [Hv5] <;> iassumption
  isplitr [Hy]
  · isplitl [Hx0]; · iexact Hx0
    isplitl [Hx1]; · iexact Hx1
    isplitl [Hx2]; · iexact Hx2
    isplitl [Hx3]; · iexact Hx3
    isplitl [Hx4]; · iexact Hx4
    isplitl [Hx5] <;> iassumption
  iexact Hy

end Cert.AttnProof
-- ==== Proof.Launch.lean ====
module

public import proofs.«01_k».proof.Proof.Body
public import proofs.«01_k».proof.Proof.Gen.KernelIdeal.Launch
public import Idealize.ShloMosaic.Lib.Pipeline.Launch
public import Idealize.ShloMosaic.Lib.Pipeline.Kit

/-! # The run of the whole program

The contents every buffer of the protocol holds, as functions of the arguments; the launch's tokens and credits; and the run of `main` on
the eight devices, with each device's result block. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The initial state: any memory, any register, every counter at zero. -/
def s₀ : MemSt nD τ sig (Elt F) := ⟨m, fun _ => 0, ρ⟩

/-! ## Contents -/

/-- The three staged arguments of device `c`. -/
def xstg (c : Dev nD) : (cc0_stg0_0 : Ref sig .tc).ty.Contents (Elt F) := (win0_0.blk (0 : Fin 1)).view.read (Elt F) ((s₀ m ρ).mem ((c : Thread nD τ).loc main_arg0))
def kstg (c : Dev nD) : (cc0_stg1_0 : Ref sig .tc).ty.Contents (Elt F) := (win0_1.blk (0 : Fin 1)).view.read (Elt F) ((s₀ m ρ).mem ((c : Thread nD τ).loc main_arg2))
def vstg (c : Dev nD) : (cc0_stg2_0 : Ref sig .tc).ty.Contents (Elt F) := (win0_2.blk (0 : Fin 1)).view.read (Elt F) ((s₀ m ρ).mem ((c : Thread nD τ).loc main_arg3))
/-- The two weight arrays, whole. -/
def wqB (c : Dev nD) : (main_arg1 : Ref sig .tc).ty.Contents (Elt F) := (s₀ m ρ).mem ((c : Thread nD τ).loc main_arg1)
def woB (c : Dev nD) : (main_arg4 : Ref sig .tc).ty.Contents (Elt F) := (s₀ m ρ).mem ((c : Thread nD τ).loc main_arg4)

/-- Which of its eight turns device `c` computes block `r` in. -/
def turn (c r : Dev nD) : Fin 8 := ⟨(r.val + 8 - (2 * ((c.val / 2 + 1) % 4))) % 8, Nat.mod_lt _ (by decide)⟩
theorem turn_ch (c : Dev nD) (n : Fin 8) : turn c (ch c n) = n := by revert c n; decide

/-- Device `c`'s partial block `r`. -/
def accOf (c r : Dev nD) : Blk F :=
  ACCn c (xsM.view.read (Elt F) (xstg m ρ c)) (ksM.view.read (Elt F) (kstg m ρ c)) (vsM.view.read (Elt F) (vstg m ρ c))
    ((wqC c).view.read (Elt F) (wqB m ρ c)) ((woC c).view.read (Elt F) (woB m ρ c)) (turn c r)

/-- Block `c` of the sum, as device `c` adds it up. -/
def redOf (c : Dev nD) : Blk F :=
  k0_pay145 (k0_pay144 (k0_pay143 (k0_pay142 (accOf m ρ c c) (unsq (accOf m ρ (nx c 0) c))) (unsq (accOf m ρ (nx c 1) c)) (unsq (accOf m ρ (nx c 2) c)))
    (unsq (accOf m ρ (nx c 3) c)) (unsq (accOf m ρ (nx c 4) c)) (unsq (accOf m ρ (nx c 5) c))) (unsq (accOf m ρ (nx c 6) c))

theorem accOf_ch (c : Dev nD) (n : Fin 8) : accOf m ρ c (ch c n)
    = ACCn c (xsM.view.read (Elt F) (xstg m ρ c)) (ksM.view.read (Elt F) (kstg m ρ c)) (vsM.view.read (Elt F) (vstg m ρ c))
      ((wqC c).view.read (Elt F) (wqB m ρ c)) ((woC c).view.read (Elt F) (woB m ρ c)) n := by
  unfold accOf; rw [turn_ch]

/-- Every device's result. -/
def outOf : S1024x1024.Idx → Elt F .bf16 := OUT (redOf m ρ)

/-! ## The pipeline's proof data -/

def start (c : Dev nD) : sProp 𝕄 :=
  iprop((∃ K, records (accOf m ρ) (redOf m ρ) K ∗ deal c) ∗ loan c ∗ levAts L lv ∗ pt c wqM (wqB m ρ c) ∗ pt c woM (woB m ρ c) ∗ semVal (wSC c 0) 0 ∗ semVal (wSC c 1) 0)

/-- Before the one grid point: all of `start`, and the scratch buffers. -/
def Φ₀ (c : Dev nD) : sProp 𝕄 := iprop(start m ρ c ∗ scratch c)
/-- After it: all semaphores at zero, the weights as they were, the scratch buffers. -/
def Φ₁ (c : Dev nD) : sProp 𝕄 :=
  iprop(pt c wqM (wqB m ρ c) ∗ pt c woM (woB m ρ c) ∗ scratch c ∗ semVal (wSC c 0) 0 ∗ semVal (wSC c 1) 0 ∗ bigSep Finset.univ fun n : Fin 30 => semVal (kcell (c, n)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => vstg m ρ c
    | ⟨3, _⟩ => outOf m ρ
  Φ t := match t with
    | ⟨0, _⟩ => Φ₀ m ρ c
    | ⟨_ + 1, _⟩ => Φ₁ m ρ c
  q _ := fullShare
  owed t := match t with
    | ⟨0, _⟩ => OBar c 0
    | ⟨_ + 1, _⟩ => 0

omit [FloatOps F] [Named F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 : (cfg0.win (0 : Fin 4)).fetch t0_0 = true := rfl
theorem fetch_1 : (cfg0.win (1 : Fin 4)).fetch t0_0 = true := rfl
theorem fetch_2 : (cfg0.win (2 : Fin 4)).fetch t0_0 = true := rfl

/-- A whole buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem pt_whole (c : Dev nD) (b : Ref sig .tc) (f : b.ty.Contents (Elt F)) :
    (pt c (Memref.whole b) f : sProp 𝕄) = (((c : Thread nD τ).loc b) ↦{fullShare} f) := by
  unfold pt; simp only [Memref.view_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (kstg m ρ c) ∗ stg c cc0_stg2_0 (vstg m ρ c) ∗ stg c cc0_stg3_0 (outOf m ρ))

set_option maxRecDepth 4000 in
theorem body_sound (c : Dev nD) : bodyPre m ρ c ⊢ wpc c (At (cc0_body (F := F))) (fun _ => bodyPost m ρ c) := by
  unfold bodyPre Φ₀ start
  iintro ⟨⟨⟨⟨%K, #HR, Hdeal⟩, Hloan, #HL, Hq, Hw, Hz0, Hz1⟩, Hscr⟩, HO, ⟨%d0, %g0, %hg0, Hx⟩, ⟨%d1, %g1, %hg1, Hk⟩, ⟨%d2, %g2, %hg2, Hv⟩, ⟨%d3, %g3, %hg3, Ho⟩⟩
  have hx : g0 = xstg m ρ c := by rw [hg0]; unfold Dat.before; rw [if_pos fetch_0]; rfl
  have hk : g1 = kstg m ρ c := by rw [hg1]; unfold Dat.before; rw [if_pos fetch_1]; rfl
  have hv : g2 = vstg m ρ c := by rw [hg2]; unfold Dat.before; rw [if_pos fetch_2]; rfl
  subst hx hk hv
  unfold Dat.owesAt Pipeline.owesWithin
  icases HO with ⟨%W, %hW, HO⟩
  rw [show (dats m ρ 0 c).owed t0_0.castSucc = OBar c 0 from rfl]
  iapply (body_run (accOf m ρ) (redOf m ρ) K c (xstg m ρ c) (kstg m ρ c) (vstg m ρ c) g3 (wqB m ρ c) (woB m ρ c) (fun _ => bodyPost m ρ c) (accOf_ch m ρ c) rfl) $$ [HO Hdeal Hloan Hq Hw Hz0 Hz1 Hscr Hx Hk Hv Ho]
  · isplitr; · iexact HR
    isplitr; · iexact HL
    isplitl [HO]; · unfold ow; iexists W; iexact HO
    unfold bodyIn
    rw [pt_whole c cc0_stg0_0, pt_whole c cc0_stg1_0, pt_whole c cc0_stg2_0, pt_whole c cc0_stg3_0]
    isplitl [Hdeal]; · iexact Hdeal
    isplitl [Hloan]; · iexact Hloan
    isplitl [Hx]; · iexact Hx
    isplitl [Hk]; · iexact Hk
    isplitl [Hv]; · iexact Hv
    isplitl [Ho]; · iexact Ho
    isplitl [Hq]; · iexact Hq
    isplitl [Hw]; · iexact Hw
    isplitl [Hscr]; · iexact Hscr
    isplitl [Hz0] <;> iassumption
  unfold bodyOut ow bodyPost Φ₁ Dat.owesAt Pipeline.owesWithin
  rw [pt_whole c cc0_stg0_0, pt_whole c cc0_stg1_0, pt_whole c cc0_stg2_0, owns_stg c cc0_stg3_0]
  iintro ⟨⟨%W', HO⟩, Hx, Hk, Hv, Ho, Hq, Hw, Hscr, Hz0, Hz1, Hz⟩
  rw [show (dats m ρ 0 c).owed t0_0.succ = OAg c 7 from rfl]
  isplitl [Hq Hw Hscr Hz0 Hz1 Hz]
  · isplitl [Hq]; · iexact Hq
    isplitl [Hw]; · iexact Hw
    isplitl [Hscr]; · iexact Hscr
    isplitl [Hz0]; · iexact Hz0
    isplitl [Hz1] <;> iassumption
  isplitl [HO]
  · iexists W'
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  isplitl [Hv]
  · iexists _; isplitr; · (ipureintro; rfl)
    iexact Hv
  iexact Ho

set_option maxRecDepth 4000 in
/-- The library's body obligation. -/
theorem body_obligation (c : Dev nD) : BodyObligation (dats (F := F) m ρ 0 c) (defs₀ (F := F)) V0 () Set.univ := fun t => by
  rw [fin_N0 t]
  rw [bigSep_W, bigSep_W]
  have e (b : Ref sig .tc) (X : b.ty.Contents (Elt F)) := owns_stg (F := F) c b X
  simp only [e]
  exact body_sound m ρ c

end Cert.AttnProof

end
-- ==== Proof.Dealing.lean ====
module

public import proofs.«01_k».proof.Proof.Launch

/-! # What the launch hands each device

The tokens, the positions and the records of every cell, and the credits against what the devices owe each other. -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

local notation "𝕄" => MT nD τ sig Unit (Elt F) ℕ UU ℕ

/-- The kernel's own semaphores: those of its copies between devices, and the two of its local copies. -/
abbrev osem : Fin 31 → SemLoc sig := fun i => .dma ⟨i.val + 4, by have := i.isLt; show _ < 35; omega⟩

theorem ownSemFacts : Pipeline.OwnSemFacts cfg0.spec osem := by decide

/-! ## Cells and tokens -/

theorem csem_injective : ∀ i j : Fin 30, csem i = csem j → i = j := by decide +kernel

theorem kcell_injective : Function.Injective (kcell : Dev nD × Fin 30 → GSem nD τ sig) := by
  rintro ⟨c, k⟩ ⟨c', k'⟩ h
  have h1 : c = c' := congrArg (fun g : GSem nD τ sig => g.1.1) h
  have h2 : k = k' := csem_injective k k' (congrArg Prod.snd h)
  rw [h1, h2]
def kCells : Finset (GSem nD τ sig) := Finset.univ.map ⟨kcell, kcell_injective⟩

/-- The tokens device `c` pays with: its seven signals, its own eight and seven send duties, the fourteen landings it makes elsewhere. -/
def tokOf (x : Dev nD × Fin 36) : GSem nD τ sig × ℕ × Fin 7 :=
  if h : x.2.val < 7 then (barC (nx x.1 ⟨x.2.val, h⟩), 0, ⟨x.2.val, h⟩)
  else if h : x.2.val < 15 then (rsSC x.1 (Fin.ofNat 8 (x.2.val - 7)), 0, 0)
  else if h : x.2.val < 22 then (rsRC (pv x.1 (Fin.ofNat 7 (x.2.val - 15))) (Fin.ofNat 7 (x.2.val - 15)), 0, 0)
  else if h : x.2.val < 29 then (agSC x.1 (Fin.ofNat 7 (x.2.val - 22)), 0, 0)
  else (agRC (pv x.1 (Fin.ofNat 7 (x.2.val - 29))) (Fin.ofNat 7 (x.2.val - 29)), 0, 0)

/-- The payer and the place of a token, read back off its cell. -/
def tokInv (x : GSem nD τ sig × ℕ × Fin 7) : Dev nD × Fin 36 :=
  match x.1.2 with
  | .reg _ => (pv x.1.1.1 x.2.2, Fin.ofNat 36 x.2.2.val)
  | .dma q =>
    if q.val < 12 then (x.1.1.1, Fin.ofNat 36 (q.val + 3))
    else if q.val < 19 then (nx x.1.1.1 (Fin.ofNat 7 (q.val - 12)), Fin.ofNat 36 (q.val + 3))
    else if q.val < 26 then (x.1.1.1, Fin.ofNat 36 (q.val + 3))
    else (nx x.1.1.1 (Fin.ofNat 7 (q.val - 26)), Fin.ofNat 36 (q.val + 3))

theorem tokInv_tokOf : ∀ x : Dev nD × Fin 36, tokInv (tokOf x) = x := by decide +kernel
theorem tokOf_injective : Function.Injective tokOf := Function.LeftInverse.injective tokInv_tokOf
def kToks : Finset (GSem nD τ sig × ℕ × Fin 7) := Finset.univ.map ⟨tokOf, tokOf_injective⟩

/-- The tokens device `c` pays with. -/
def toks (c : Dev nD) : sProp 𝕄 :=
  iprop((bigSep Finset.univ fun k : Fin 7 => dutyTok ER (barC (nx c k)) 0 k)
    ∗ (bigSep Finset.univ fun i : Dev nD => dutyTok ER (rsSC c i) 0 0) ∗ (bigSep Finset.univ fun j : Fin 7 => dutyTok ER (rsRC (pv c j) j) 0 0)
    ∗ (bigSep Finset.univ fun k : Fin 7 => dutyTok ER (agSC c k) 0 0) ∗ (bigSep Finset.univ fun j : Fin 7 => dutyTok ER (agRC (pv c j) j) 0 0))

omit [FloatOps F] [Named F] in
theorem toks_eq (c : Dev nD) : (bigSep Finset.univ fun n : Fin 36 => (dutyTok ER (tokOf (c, n)).1 (tokOf (c, n)).2.1 (tokOf (c, n)).2.2 : sProp 𝕄)) = toks c := by
  unfold toks
  rw [bigSep_univ_eq_bigSepL [(0 : Fin 36), 1, 2, 3, 4, 5, 6, 7, 8, 9, 10, 11, 12, 13, 14, 15, 16, 17, 18, 19, 20, 21, 22, 23, 24, 25, 26, 27, 28, 29, 30, 31, 32, 33, 34, 35] (by decide) (by decide),
    bySeven, byDev, bySeven, bySeven, bySeven]
  simp only [sep_three]
  rfl

def u₀ : UU := (initOf (Pipeline.cells cfgs cellOf_inj) (Pipeline.launchToks cfgs cellOf_inj), (initOf kCells kToks, 1))

section Glob

variable (ACC : Dev nD → Dev nD → Blk F) (RED : Dev nD → Blk F)

/-- What the launch element deals device `c`. -/
def G (c : Dev nD) : sProp 𝕄 :=
  iprop((bigSep Finset.univ fun k : Fin 30 => roundState ER (Rd ACC RED) (kcell (c, k)) 0)
    ∗ (bigSep Finset.univ fun k : Fin 30 => iprop(atPos ER (kcell (c, k)) 0 ∅ 0 ∗ reached ER (kcell (c, k)) 0)) ∗ toks c)

/-- What device `c` holds once every cell has its invariant. -/
def G' (c : Dev nD) : sProp 𝕄 := iprop((∃ K, records ACC RED K ∗ deal c) ∗ semVal (wSC c 0) 0 ∗ semVal (wSC c 1) 0)

theorem fund_cells : BI.own (ER (initOf kCells kToks)) ⊢ (|==> bigSep Finset.univ (G ACC RED) : sProp 𝕄) := by
  have hX (Φ : GSem nD τ sig → sProp 𝕄) : bigSep kCells Φ = bigSep Finset.univ fun c : Dev nD => bigSep Finset.univ fun k : Fin 30 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => toks_eq c
  iintro HX
  imod (Rounds.fund ER (Rd ACC RED) kCells kToks) $$ HX with ⟨Hst, Hr, Hat, Htok⟩
  imodintro
  ihave Hst := (Entails.of_eq (hX fun g => roundState ER (Rd ACC RED) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] [Named F] in
/-- The semaphores of a device: its thirty cells, and the two of the local copies. -/
theorem sems0_eq (c : Dev nD) :
    (iprop(Pipeline.ownSems0 (Ix := Unit) (Name := ℕ) (U := UU) (Lvl := ℕ) (Val := Elt F) (τ := τ) osem c ∗ unscopedSems0 c) : sProp 𝕄)
      = iprop((bigSep Finset.univ fun k : Fin 30 => semVal (kcell (c, k)) 0) ∗ semVal (wSC c 0) 0 ∗ semVal (wSC c 1) 0) := by
  rw [Pipeline.ownSems0_eq_of_list c osem [0, 1, 2, 3, 4, 5, 6, 7, 8, 9, 10, 11, 12, 13, 14, 15, 16, 17, 18, 19, 20, 21, 22, 23, 24, 25, 26, 27, 28, 29, 30] (by decide) (by decide),
    cells30 c fun g => semVal g 0, byDev, bySeven, bySeven, bySeven]
  have hu : (unscopedSems0 c : sProp 𝕄) = semVal (barC c) 0 := by
    unfold unscopedSems0; rw [bigSep_eq_bigSepL_of_eq [SemLoc.reg barS] (by decide) (by decide)]; rfl
  rw [hu]
  simp only [sep_three]
  refine (equiv_iff.mp ⟨BI.sep_comm, BI.sep_comm⟩ : iprop(_ ∗ _) = iprop(_ ∗ _)).trans ?_
  rfl

theorem core_alloc (c : Dev nD) :
    iprop(Pipeline.ownSems0 (Ix := Unit) (Name := ℕ) (U := UU) (Lvl := ℕ) (Val := Elt F) (τ := τ) osem c ∗ unscopedSems0 c ∗ G ACC RED c)
      ⊢ |={Set.univ}=> iprop((bigSep Finset.univ fun k => iprop(∃ κ : ℕ, cellInv ER (Rd ACC RED) κ (kcell (c, k))))
          ∗ (bigSep Finset.univ fun k => iprop(atPos ER (kcell (c, k)) 0 ∅ 0 ∗ reached ER (kcell (c, k)) 0)) ∗ toks c ∗ semVal (wSC c 0) 0 ∗ semVal (wSC c 1) 0) := by
  unfold G
  iintro ⟨Hos, Hus, Hst, Hat, Htok⟩
  ihave Hv := (Entails.of_eq (sems0_eq (F := F) c)) $$ [Hos Hus]
  · isplitl [Hos] <;> iassumption
  icases Hv with ⟨Hv, Hw⟩
  imod (show iprop((bigSep Finset.univ fun k : Fin 30 => semVal (kcell (c, k)) 0) ∗ bigSep Finset.univ fun k : Fin 30 => roundState ER (Rd ACC RED) (kcell (c, k)) 0)
      ⊢ (|={Set.univ}=> bigSep Finset.univ fun k => iprop(∃ κ : ℕ, cellInv ER (Rd ACC RED) κ (kcell (c, k))) : sProp 𝕄) from by
        rw [← bigSep_sep']
        exact (bigSep_mono fun k _ => (Rounds.body_intro ER (Rd ACC RED) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd ACC RED) κ (kcell (c, k))))
          ∗ (bigSep Finset.univ fun k => iprop(atPos ER (kcell (c, k)) 0 ∅ 0 ∗ reached ER (kcell (c, k)) 0)) ∗ toks c ∗ semVal (wSC c 0) 0 ∗ semVal (wSC c 1) 0) : sProp 𝕄)
      ⊢ bigSep Finset.univ (G' ACC RED) := by
  rw [bigSep_sep', bigSep_sep', ← bigSep_univ_prod (fun ck : Dev nD × Fin 30 => iprop(∃ κ : ℕ, cellInv ER (Rd ACC RED) κ (kcell ck))),
    bigSep_congr (s := Finset.univ) (fun (c : Dev nD) _ => bigSep_sep' Finset.univ (fun k : Fin 30 => (atPos ER (kcell (c, k)) 0 ∅ 0 : sProp 𝕄)) (fun k => reached ER (kcell (c, k)) 0)),
    bigSep_sep', ← bigSep_univ_prod (fun ck : Dev nD × Fin 30 => (reached ER (kcell ck) 0 : sProp 𝕄))]
  iintro ⟨HI, ⟨Hat, #HR⟩, Htok⟩
  ihave HK := (BI.bigSep_exists_pi Finset.univ (fun (ck : Dev nD × Fin 30) (κ : ℕ) => (cellInv ER (Rd ACC RED) κ (kcell ck) : sProp 𝕄))) $$ HI
  icases HK with ⟨%K, #HI⟩
  iapply (bigSep_with_persistent (R := records ACC RED K)
    (Φ := fun c : Dev nD => iprop((bigSep Finset.univ fun k : Fin 30 => atPos ER (kcell (c, k)) 0 ∅ 0) ∗ toks c ∗ semVal (wSC c 0) 0 ∗ semVal (wSC c 1) 0))
    fun c _ => by
      unfold G' deal toks
      iintro ⟨#HR, Hat, Ht, Hw⟩
      isplitr [Hw]
      · iexists K
        isplitr; · iexact HR
        isplitl [Hat] <;> iassumption
      · iexact Hw)
  isplitr
  · unfold records; isplitl; · iexact HI
    iexact HR
  · iapply (Entails.of_eq (bigSep_sep' Finset.univ (fun c : Dev nD => bigSep Finset.univ fun k : Fin 30 => (atPos ER (kcell (c, k)) 0 ∅ 0 : sProp 𝕄))
      (fun c => iprop(toks c ∗ semVal (wSC c 0) 0 ∗ semVal (wSC c 1) 0))).symm)
    isplitl [Hat] <;> iassumption

/-- Every device's semaphores made cells, all at once. -/
theorem glob : (bigSep Finset.univ fun c => iprop(Pipeline.ownSems0 (Ix := Unit) (Name := ℕ) (U := UU) (Lvl := ℕ) (Val := Elt F) (τ := τ) osem c ∗ unscopedSems0 c ∗ G ACC RED c) : sProp 𝕄)
    ⊢ |={Set.univ}=> bigSep Finset.univ (G' ACC RED) :=
  ((bigSep_mono fun c _ => core_alloc ACC RED c).trans (bigSep_fupd _ _)).trans (BI.fupd_mono (regroup ACC RED))

end Glob

/-! ## The credits -/

/-- What a list of payments owes one cell. -/
def oweAt (l : List (GSem nD τ sig × ℕ)) (g : GSem nD τ sig) : ℕ := (l.map fun x => if g = x.1 then x.2 else 0).sum

theorem owe_apply (l : List (GSem nD τ sig × ℕ)) (g : GSem nD τ sig) : owe l g () = oweAt l g := by
  induction l with
  | nil => rfl
  | cons x l ih =>
    unfold owe
    rw [Pi.add_apply, Finsupp.add_apply, tallyAt_apply, ih]
    unfold oweAt
    rw [List.map_cons, List.sum_cons, Nat.add_comm]
    congr 1
    by_cases h : g = x.1
    · rw [if_pos ⟨h, rfl⟩, if_pos h]
    · rw [if_neg fun h' => h h'.1, if_neg h]

/-- All that device `d` owes. -/
abbrev allL (d : Dev nD) : List (GSem nD τ sig × ℕ) := barL d ++ (rsL d ++ agL d)

theorem owed_bar : ∀ c : Dev nD, (∑ d : Dev nD, oweAt (allL d) (barC c)) = 7 := by decide +kernel
theorem owed_rs : ∀ (c : Dev nD) (j : Fin 7), (∑ d : Dev nD, oweAt (allL d) (rsRC c j)) = N := by decide +kernel
theorem owed_ag : ∀ (c : Dev nD) (j : Fin 7), (∑ d : Dev nD, oweAt (allL d) (agRC c j)) = N := by decide +kernel

abbrev O₀ (c : Dev nD) : CellTallies nD τ sig Unit := OBar c 0

theorem launch_at (g : GSem nD τ sig) (n : ℕ) (h : (∑ d : Dev nD, oweAt (allL d) g) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => owe_apply _ _

omit [FloatOps F] [Named F] in
theorem creds (c : Dev nD) : (Pipeline.launchCred O₀ c : sProp 𝕄) ⊢ loan c := by
  have e : (Pipeline.launchCred O₀ c : sProp 𝕄) ⊢ bigSep Finset.univ fun n : Fin 30 => cred (tallyOn (kcell (c, n)) (launchCredit (Pipeline.owing O₀) 0 (kcell (c, n)))) := by
    unfold Pipeline.launchCred
    have h := bigSep_subset (Φ := fun sm : SemLoc sig => (cred (tallyOn ((c : Thread nD τ), sm) (launchCredit (Pipeline.owing O₀) 0 ((c : Thread nD τ), sm))) : sProp 𝕄))
      (Finset.subset_univ (Finset.univ.map ⟨csem, fun i j => csem_injective i j⟩))
    rw [bigSep_map] at h
    exact h
  refine e.trans ?_
  rw [cells30 c fun g => cred (tallyOn g (launchCredit (Pipeline.owing O₀) 0 g))]
  unfold loan
  rw [launch_at _ _ (owed_bar c), bigSep_congr (s := Finset.univ) (fun (j : Fin 7) _ => congrArg cred (launch_at _ _ (owed_rs c j))),
    bigSep_congr (s := Finset.univ) (fun (j : Fin 7) _ => congrArg cred (launch_at _ _ (owed_ag c j)))]
  iintro ⟨H0, -, H1, -, H2⟩
  isplitl [H0]; · iexact H0
  isplitl [H1] <;> iassumption

end Cert.AttnProof

end
-- ==== Proof.Run.lean ====
module

public import proofs.«01_k».proof.Proof.Dealing
public import Idealize.ShloMosaic.Lib.Pipeline.CollectiveSegs

/-! # The run of `main` -/

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (accOf m ρ) (redOf m ρ) c)
      ⊢ |={Set.univ}=> (iprop(start m ρ c ∗ emp) : sProp 𝕄) := by
  rw [Pipeline.unscopedRestP_none, unscopedRest0_eq]
  unfold G' start
  rw [pt_whole c main_arg1, pt_whole c main_arg4]
  iintro ⟨⟨H1, H4⟩, Hlev, Hcr, -, HG, Hw⟩
  ihave Hc := (creds (F := F) c) $$ Hcr
  imodintro
  isplitl
  · isplitl [HG]; · iexact HG
    isplitl [Hc]; · iexact Hc
    isplitl [Hlev]; · iexact Hlev
    isplitl [H1]; · iexact H1
    isplitl [H4]; · iexact H4
    iexact Hw
  · iempintro

theorem scratch_eq (c : Dev nD) : (Pipeline.scopedRest cfg0.spec c : sProp 𝕄) = scratch c := by
  have e (b : Ref sig .tc) : (iprop(∃ f : Buf (Elt F) ((c : Thread nD τ).loc b), (((c : Thread nD τ).loc b) ↦{fullShare} f)) : sProp 𝕄)
      = iprop(∃ f : b.ty.Contents (Elt F), pt c (Memref.whole b) f) := by
    simp only [pt_whole]
  rw [scopedRest0_eq]; unfold scratch
  rw [e cc0_scratch0, e cc0_scratch1, e cc0_scratch2, e cc0_scratch3, e cc0_scratch4, e cc0_scratch5, e cc0_scratch6, e cc0_scratch7, e cc0_scratch8]

theorem phi0_intro (c : Dev nD) :
    iprop(start m ρ c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m ρ c from rfl, scratch_eq]
  unfold Φ₀
  iintro ⟨Hs, -, Hr⟩
  isplitl [Hs] <;> iassumption

/-- What is left at the end of a device's run beside the windows. -/
def Y (c : Dev nD) : sProp 𝕄 :=
  iprop(unscopedSems0 c ∗ pt c wqM (wqB m ρ c) ∗ pt c woM (woB m ρ c))

theorem phi1_exit (c : Dev nD) :
    (dats m ρ 0 c).Φ (Fin.last cfg0.N) ⊢ (iprop(Y m ρ c ∗ Pipeline.ownSems0 osem c ∗ Pipeline.scopedRest cfg0.spec c) : sProp 𝕄) := by
  rw [show (dats m ρ 0 c).Φ (Fin.last cfg0.N) = Φ₁ m ρ c from rfl, scratch_eq]
  unfold Φ₁ Y
  iintro ⟨Hq, Hw, Hscr, Hz0, Hz1, Hz⟩
  ihave Hz := (Entails.of_eq (sems0_eq (F := F) c).symm) $$ [Hz Hz0 Hz1]
  · isplitl [Hz]; · iexact Hz
    isplitl [Hz0] <;> iassumption
  icases Hz with ⟨Ho, Hu⟩
  isplitl [Hq Hw Hu]
  · isplitl [Hu]; · iexact Hu
    isplitl [Hq] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide)
    · exact mayWait_end c _

/-- The array of window `w` after the run. -/
def finalA (c : Dev nD) (w : Fin cfg0.W) : Buf (Elt F) ((cfg0.win w).arr.view.loc (c : Thread nD τ)) := (dats m ρ 0 c).arrAt w cfg0.N

/-- The final memory: every window's array as computed, both weight arrays as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1) ∧ r.2.mem ((c : Thread nD τ).loc main_arg4) = m ((c : Thread nD τ).loc main_arg4)

theorem read_out (c : Dev nD) (s' : Phys nD τ sig (Elt F)) :
    (iprop(Y m ρ c ∗ emp ∗ SI s') : sProp 𝕄) ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1) ∧ s'.mem.mem ((c : Thread nD τ).loc main_arg4) = m ((c : Thread nD τ).loc main_arg4)⌝ ∗ SI s') := by
  unfold Y
  rw [pt_whole c main_arg1, pt_whole c main_arg4]
  iintro ⟨⟨Hu, Hq, Hw⟩, -, HSI⟩
  icombine HSI Hq gives %h1
  icombine HSI Hw gives %h4
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h1, Buf.eq_of_forall_mem_univ h4⟩
  · iexact HSI

set_option maxRecDepth 8000 in
/-- On the eight devices, over any floats, from any memory with zero counters: every execution of `main` ends, every final state has each device's
    result array at the computed contents, its arguments unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ V0 m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (accOf m ρ) (redOf m ρ)) (G' := G' (accOf m ρ) (redOf m ρ)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_cells (accOf m ρ) (redOf m ρ)) $$ HX with HG
      imodintro
      isplitl [HP] <;> iassumption)
    (hglob := glob (accOf m ρ) (redOf m ρ))
    (hA := fun _ _ => rfl) (hpf := fun _ k => k.elim0)
    (X := start m ρ) (Y := Y m ρ) (Z := fun _ => iprop(emp))
    (hX := start_intro m ρ) (hin := phi0_intro m ρ) (hout := phi1_exit m ρ)
    (QY := fun c s' => (∀ sm : SemLoc sig, sm.isScoped .tc = false → s'.sem ((c.tc : Thread nD τ), sm) = 0)
      ∧ s'.mem ((c : Thread nD τ).loc main_arg1) = m ((c : Thread nD τ).loc main_arg1) ∧ s'.mem ((c : Thread nD τ).loc main_arg4) = m ((c : Thread nD τ).loc main_arg4))
    (hY := fun c s' => read_out m ρ c s')
    (hQ := fun _ h hs => ⟨fun c => ⟨fun w => (h c).1 w, (h c).2.2.2⟩, sem_eq_zero hs fun c => (h c).2.2.1⟩)

/-! ## The final arrays -/

theorem finalA_x (c : Dev nD) : finalA m ρ c (0 : Fin 4) = m (win0_0.arr.view.loc (c : Thread nD τ)) := (dats (F := F) m ρ 0 c).arrAt_in (0 : Fin 4) rfl _
theorem finalA_k (c : Dev nD) : finalA m ρ c (1 : Fin 4) = m (win0_1.arr.view.loc (c : Thread nD τ)) := (dats (F := F) m ρ 0 c).arrAt_in (1 : Fin 4) rfl _
theorem finalA_v (c : Dev nD) : finalA m ρ c (2 : Fin 4) = m (win0_2.arr.view.loc (c : Thread nD τ)) := (dats (F := F) m ρ 0 c).arrAt_in (2 : Fin 4) rfl _

theorem finalA_o' (c : Dev nD) : (win0_3.blk (0 : Fin 1)).view.read (Elt F) (finalA m ρ c (3 : Fin 4)) = outOf m ρ := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ (Val := Elt F) _ _

/-- The result array after the run. -/
theorem finalA_o (c : Dev nD) : finalA m ρ c (3 : Fin 4) = outOf m ρ := by
  have hz : (fun a => (win0_3.index (0 : Fin 1)) a * main_v1.ty.shape.size a) = fun _ => 0 := funext fun a => Nat.zero_mul _
  exact (Memref.read_access_unit_zero (Elt F) main_v1 hz _ _).symm.trans (finalA_o' m ρ c)

end Cert.AttnProof

end
-- ==== Proof.Frames.lean ====
module

public import proofs.«01_k».proof.Defs
public import proofs.«01_k».proof.Proof.Run
public import proofs.«01_k».proof.Proof.Gen.Kernel

/-! # The kernel's frames, from the run with the values dropped -/

@[expose] public section

noncomputable section

namespace Cert.AttnProof

open Cert.KernelIdeal Cert.KernelIdeal.Gen
open Idealize.ShloMosaic Idealize.ShloMosaic.TcCoe Idealize.SL.Sem

/-- The run, with the values dropped: arguments unchanged, semaphores back at zero. -/
theorem frame_any {F : FTy → Type} [FloatOps F] [Named F] (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨((h.1 c).1 (0 : Fin 4)).trans (finalA_x m ρ c), (h.1 c).2.1,
    ((h.1 c).1 (1 : Fin 4)).trans (finalA_k m ρ c), ((h.1 c).1 (2 : Fin 4)).trans (finalA_v m ρ c), (h.1 c).2.2⟩, h.2⟩) (run_main m ρ)

theorem frame_kernelIdeal : Cert.quiescent_KernelIdeal := fun m ρ _ => frame_any (F := Ideal) m ρ

/-- On machine words the named constant is its own word. -/
local instance : Named Bits where
  named _ _ {φ} b := FloatOps.ofBits φ b

/-- The two prints differ in the named constant alone, which is the kernel's word here, so they have the same kernel table. -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => dsimp only; rfl

theorem defs_same : Cert.Kernel.defs (F := Bits) = Cert.KernelIdeal.defs (F := Bits) :=
  congrArg (Pipeline.defs (Cert.KernelIdeal.pcfgs (F := Bits))) defs₀_same

theorem frame_kernel : Cert.quiescent_Kernel (hKernel := Cert.Kernel.Gen.facts) := fun m ρ _ => by
  rw [defs_same]
  exact frame_any (F := Bits) m ρ

end Cert.AttnProof

end
-- ==== Proof.Spec.lean ====
module

public import Idealize.ShloMosaic.Lib.Pointwise

/-! # The problem's mathematics over the extended reals

Row `i` attends to the rows of its own residue of 64-row blocks modulo 4. A head's context is the weighted mean of its values there,
and the result is the context of all heads times the output weights. -/

@[expose] public section

noncomputable section

namespace Cert.AttnProof

open Idealize.ShloMosaic

/-- The factor every score is multiplied by: `1/√128`. -/
def SC : EReal := (((Real.sqrt 128)⁻¹ : ℝ) : EReal)

/-- Lane `d` of head `h` among the lanes of all heads. -/
def lane (h : Fin 64) (d : Fin 128) : Fin 8192 := ⟨128 * h.val + d.val, by omega⟩
def headL (a : Fin 8192) : Fin 64 := ⟨a.val / 128, by omega⟩
def dimL (a : Fin 8192) : Fin 128 := ⟨a.val % 128, by omega⟩

/-- Two rows attend to each other. -/
def tog (i s : Fin 1024) : Prop := i.val / 64 % 4 = s.val / 64 % 4

instance (i s : Fin 1024) : Decidable (tog i s) := inferInstanceAs (Decidable (_ = _))

theorem tog_self (i : Fin 1024) : tog i i := rfl

/-- A sum over the rows that row `i` attends to. -/
def sumTog (i : Fin 1024) (f : Fin 1024 → EReal) : EReal := ∑ s : Fin 1024, if tog i s then f s else 0

section
variable (x : Fin 1024 → Fin 1024 → EReal) (wq : Fin 1024 → Fin 8192 → EReal) (k v : Fin 1024 → Fin 64 → Fin 128 → EReal) (wo : Fin 8192 → Fin 1024 → EReal)

/-- The score of row `i` against row `s` in head `h`. -/
def scS (i : Fin 1024) (h : Fin 64) (s : Fin 1024) : EReal := ∑ d : Fin 128, (∑ j : Fin 1024, x i j * wq j (lane h d)) * k s h d

/-- Its weight before the weights are made to sum to one. -/
def exS (i : Fin 1024) (h : Fin 64) (s : Fin 1024) : EReal := Ideal.exp (scS x wq k i h s * SC)

/-- The context. -/
def ctxS (i : Fin 1024) (h : Fin 64) (d : Fin 128) : EReal :=
  sumTog i (fun s => exS x wq k i h s * v s h d) * Ideal.div 1 (sumTog i fun s => exS x wq k i h s)

/-- The result. -/
def outS (i j : Fin 1024) : EReal := ∑ a : Fin 8192, ctxS x wq k v i (headL a) (dimL a) * wo a j

end

/-- A sum over all lanes, taken eighth by eighth. -/
theorem sum_lanes (f : Fin 8192 → EReal) : ∑ a : Fin 8192, f a = ∑ c : Fin 8, ∑ b : Fin 1024, f ⟨1024 * c.val + b.val, by omega⟩ := by
  rw [← Finset.sum_product', Finset.univ_product_univ]
  refine (Fintype.sum_equiv (finProdFinEquiv (m := 8) (n := 1024)) _ _ ?_).symm
  rintro ⟨c, b⟩
  congr 1
  apply Fin.ext
  show 1024 * c.val + b.val = b.val + 1024 * c.val
  omega

end Cert.AttnProof

end
-- ==== Proof.MathSum.lean ====
module

public import proofs.«01_k».proof.Proof.Spec

/-! # Weights made to sum to one

Subtracting a row's largest score before taking exponentials changes nothing once the weights are divided by their sum. -/

@[expose] public section

noncomputable section

namespace Cert.AttnProof

open Idealize.ShloMosaic

/-- A finite value. -/
def IsFin (a : EReal) : Prop := ∃ r : ℝ, a = r

theorem IsFin.mul {a b : EReal} (ha : IsFin a) (hb : IsFin b) : IsFin (a * b) := by
  obtain ⟨r, rfl⟩ := ha; obtain ⟨s, rfl⟩ := hb
  exact ⟨r * s, (EReal.coe_mul r s).symm⟩

theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

theorem IsFin.sum {ι : Type} [Fintype ι] {f : ι → EReal} (h : ∀ i, IsFin (f i)) : IsFin (∑ i, f i) := by
  choose r hr using h
  exact ⟨∑ i, r i, by rw [coe_sum]; exact Finset.sum_congr rfl fun i _ => hr i⟩

theorem IsFin.SC : IsFin SC := ⟨_, rfl⟩

theorem scS_fin {x : Fin 1024 → Fin 1024 → EReal} {wq : Fin 1024 → Fin 8192 → EReal} {k : Fin 1024 → Fin 64 → Fin 128 → EReal}
    (hx : ∀ i j, IsFin (x i j)) (hw : ∀ i j, IsFin (wq i j)) (hk : ∀ s h d, IsFin (k s h d)) (i : Fin 1024) (h : Fin 64) (s : Fin 1024) :
    IsFin (scS x wq k i h s * SC) :=
  (IsFin.sum fun d => (IsFin.sum fun j => (hx i j).mul (hw j _)).mul (hk s h d)).mul IsFin.SC

/-- A finite factor that is not negative goes into a sum. -/
theorem sum_mul_coe {ι : Type} (t : Finset ι) (f : ι → EReal) {c : ℝ} (hc : 0 ≤ c) : (∑ i ∈ t, f i) * (c : EReal) = ∑ i ∈ t, f i * (c : EReal) := by
  classical
  induction t using Finset.induction_on with
  | empty => simp
  | insert a t h ih =>
    rw [Finset.sum_insert h, Finset.sum_insert h, ← ih,
      EReal.right_distrib_of_nonneg_of_ne_top (EReal.coe_nonneg.mpr hc) (EReal.coe_ne_top c)]

theorem exp_coe (r : ℝ) : Ideal.exp (r : EReal) = (Real.exp r : EReal) := rfl

theorem div_coe_pos {a d : ℝ} (hd : 0 < d) : Ideal.div (a : EReal) (d : EReal) = ((a / d : ℝ) : EReal) := by
  unfold Ideal.div
  rw [if_neg (by rw [EReal.coe_eq_zero]; exact hd.ne'), ← EReal.coe_inv, ← EReal.coe_mul, div_eq_mul_inv]

/-- The sum over the attended rows of finite values. -/
theorem sumTog_coe (i : Fin 1024) (f : Fin 1024 → ℝ) : sumTog i (fun s => (f s : EReal)) = ((∑ s : Fin 1024, if tog i s then f s else 0 : ℝ) : EReal) := by
  unfold sumTog
  rw [coe_sum]
  refine Finset.sum_congr rfl fun s _ => ?_
  split <;> simp

theorem sum_pos' (i : Fin 1024) (f : Fin 1024 → ℝ) (hf : ∀ s, 0 < f s) : 0 < ∑ s : Fin 1024, if tog i s then f s else 0 := by
  refine Finset.sum_pos' (fun s _ => ?_) ⟨i, Finset.mem_univ _, ?_⟩
  · split
    · exact (hf s).le
    · exact le_refl _
  · rw [if_pos (tog_self i)]; exact hf i

/-- The largest masked score is finite: row `i` attends to itself. -/
theorem max_fin (i : Fin 1024) (r : Fin 1024 → ℝ) :
    IsFin (Finset.univ.fold max (⊥ : EReal) fun s : Fin 1024 => if tog i s then (r s : EReal) else ⊥) := by
  have h1 : Finset.univ.fold max (⊥ : EReal) (fun s : Fin 1024 => if tog i s then (r s : EReal) else ⊥) ≠ ⊤ := by
    refine ne_of_lt ((Finset.fold_max_lt _).mpr ⟨bot_lt_top, fun s _ => ?_⟩)
    split
    · exact EReal.coe_lt_top _
    · exact bot_lt_top
  have h2 : Finset.univ.fold max (⊥ : EReal) (fun s : Fin 1024 => if tog i s then (r s : EReal) else ⊥) ≠ ⊥ := by
    refine ne_of_gt ((Finset.lt_fold_max _).mpr (Or.inr ⟨i, Finset.mem_univ _, ?_⟩))
    rw [if_pos (tog_self i)]
    exact EReal.bot_lt_coe _
  exact ⟨_, (EReal.coe_toReal h1 h2).symm⟩

/-- The weighted mean of the values, by weights taken relative to the largest score, is the one by the plain exponentials. -/
theorem softmax_ctx (i : Fin 1024) (a : Fin 1024 → EReal) (ha : ∀ s, IsFin (a s)) (V : Fin 1024 → EReal) (S E : Fin 1024 → EReal)
    (hS : ∀ s, S s = if tog i s then a s else ⊥) (hE : ∀ s, E s = Ideal.exp (S s - Finset.univ.fold max (⊥ : EReal) S)) :
    ∑ s : Fin 1024, V s * Ideal.div (E s) (∑ s : Fin 1024, E s)
      = sumTog i (fun s => Ideal.exp (a s) * V s) * Ideal.div 1 (sumTog i fun s => Ideal.exp (a s)) := by
  choose r hr using ha
  have hS' : S = fun s => if tog i s then (r s : EReal) else ⊥ := funext fun s => by rw [hS, hr]
  obtain ⟨μ, hμ⟩ := max_fin i r
  rw [← hS'] at hμ
  have hE' : ∀ s, E s = ((if tog i s then Real.exp (r s - μ) else 0 : ℝ) : EReal) := by
    intro s
    rw [hE, hμ, hS, hr]
    by_cases ht : tog i s
    · rw [if_pos ht, if_pos ht, ← EReal.coe_sub, exp_coe]
    · rw [if_neg ht, if_neg ht, EReal.bot_sub]
      rfl
  have hD : ∑ s : Fin 1024, E s = ((∑ s : Fin 1024, if tog i s then Real.exp (r s - μ) else 0 : ℝ) : EReal) := by
    rw [coe_sum]; exact Finset.sum_congr rfl fun s _ => hE' s
  have hpos : 0 < ∑ s : Fin 1024, if tog i s then Real.exp (r s) else 0 := sum_pos' i _ fun s => Real.exp_pos _
  have hshift : (∑ s : Fin 1024, if tog i s then Real.exp (r s - μ) else 0) = (∑ s : Fin 1024, if tog i s then Real.exp (r s) else 0) * Real.exp (-μ) := by
    rw [Finset.sum_mul]
    refine Finset.sum_congr rfl fun s _ => ?_
    split
    · rw [← Real.exp_add, sub_eq_add_neg]
    · rw [zero_mul]
  have hsum : sumTog i (fun s => Ideal.exp (a s)) = ((∑ s : Fin 1024, if tog i s then Real.exp (r s) else 0 : ℝ) : EReal) := by
    rw [← sumTog_coe]
    unfold sumTog
    exact Finset.sum_congr rfl fun s _ => by beta_reduce; rw [hr, exp_coe]
  rw [hsum, hD, ← EReal.coe_one, div_coe_pos hpos]
  set D := ∑ s : Fin 1024, if tog i s then Real.exp (r s) else 0 with hDdef
  unfold sumTog
  rw [sum_mul_coe _ _ (by positivity)]
  refine Finset.sum_congr rfl fun s _ => ?_
  rw [hE', hshift, div_coe_pos (mul_pos hpos (Real.exp_pos _))]
  by_cases ht : tog i s
  · rw [if_pos ht, if_pos ht]
    beta_reduce
    rw [hr, exp_coe, mul_comm (Real.exp (r s) : EReal), mul_assoc, ← EReal.coe_mul]
    congr 2
    rw [sub_eq_add_neg, Real.exp_add]
    have := Real.exp_pos (-μ)
    field_simp
  · rw [if_neg ht, if_neg ht, zero_div, EReal.coe_zero, mul_zero, zero_mul]

end Cert.AttnProof

end
-- ==== Proof.Pre.lean ====
module

public import proofs.«01_k».proof.Defs
public import proofs.«01_k».proof.Proof.Gen.Pre_finite_KernelIdeal
public import proofs.«01_k».proof.Proof.MathSum
public import Idealize.ShloMosaic.Lib.ReduceAll

/-! # The precondition read back: the input, the query weights and the keys are finite -/

@[expose] public section

noncomputable section

namespace Cert.AttnProof

open Cert.Pre_finite_KernelIdeal Cert.Pre_finite_KernelIdeal.Gen
open Idealize.ShloMosaic

theorem ofBits_top : Ideal.ofBits .f32 0x7F800000#32 = ⊤ := by
  simp [Ideal.ofBits, Ideal.ieee]

/-- A value whose magnitude is below infinity is finite. -/
theorem isFin_of_lt {a : EReal} (h : FloatOps.cmpf (F := Ideal) (φ := .f32) .olt (FloatOps.hostAbsf (F := Ideal) (φ := .f32) a) (Ideal.ofBits .f32 0x7F800000#32) = 1#1) : IsFin a := by
  rw [ofBits_top] at h
  induction a using EReal.rec with
  | bot => exact absurd h (by simp [FloatOps.cmpf, FloatOps.hostAbsf, Idealize.ShloMosaic.Ideal.cmp])
  | coe r => exact ⟨r, rfl⟩
  | top => exact absurd h (by simp [FloatOps.cmpf, FloatOps.hostAbsf, Idealize.ShloMosaic.Ideal.cmp])

instance : Subsingleton S_.Idx := ⟨fun a b => funext fun i => i.elim0⟩

theorem fn_finite (a0 : FVec Ideal S1024x1024 .f32) (a1 : FVec Ideal S1024x8192 .f32) (a2 a3 : FVec Ideal S1024x8x128 .f32) (a4 : FVec Ideal S8192x1024 .f32)
    (h : fn (F := Ideal) a0 a1 a2 a3 a4 = fun _ => 1#1) : (∀ i, IsFin (a0 i)) ∧ (∀ i, IsFin (a1 i)) ∧ ∀ i, IsFin (a2 i) := by
  have e := congrFun h ix0
  dsimp only [fn] at e
  obtain ⟨e01, e2⟩ := IntOp.andi_eq_one.mp e
  obtain ⟨e0, e1⟩ := IntOp.andi_eq_one.mp e01
  exact ⟨fun i => isFin_of_lt (Host.reduce_andi_all _ _ _ _ _ e0 i), fun i => isFin_of_lt (Host.reduce_andi_all _ _ _ _ _ e1 i),
    fun i => isFin_of_lt (Host.reduce_andi_all _ _ _ _ _ e2 i)⟩

end Cert.AttnProof

end
-- ==== Proof.KerVal.lean ====
module

public import proofs.«01_k».proof.Proof.Outs
public import proofs.«01_k».proof.Proof.Spec

/-! # The kernel's values at an index, at the extended reals -/

@[expose] public section

set_option maxRecDepth 16384

noncomputable section

namespace Cert.AttnProof

open Cert.KernelIdeal Cert.KernelIdeal.Gen

open Idealize.ShloMosaic
open Idealize.ShloMosaic.TcCoe
open Idealize.ShloMosaic.VecWindow

/-- The constant that the kernel names is `1/√128`. -/
theorem named_scale : Named.named (F := Ideal) κ "scale" (φ := .f32) 0x3DB504F3#32 = SC :=
  IdealRules.named_const.ideal_named_scalar _ _ _ _ rfl

/-- One head's context at a row and a lane. -/
theorem headCtx_apply (q : FVec Ideal S256x128 .bf16) (k v : Vec Ideal S256x1x128 .bf16) (i : Fin 256) (d : Fin 128) :
    headCtx q k v (ix2 i d)
      = (∑ s : Fin 256, Ideal.exp ((∑ e : Fin 128, q (ix2 i e) * k (ix3 s 0 e)) * SC) * v (ix3 s 0 d))
        * Ideal.div 1 (∑ s : Fin 256, Ideal.exp ((∑ e : Fin 128, q (ix2 i e) * k (ix3 s 0 e)) * SC)) := by
  pointwise [headCtx]
  simp only [named_scale]

theorem pay29_apply (w : FVec Ideal S1024x1024 .bf16) (x : Vec Ideal S256x1024 .bf16) (i : Fin 256) (a : Fin 1024) :
    k0_pay29 w x (ix2 i a) = ∑ j : Fin 1024, x (ix2 i j) * w (ix2 j a) := by
  pointwise [k0_pay29]

theorem pay48_apply (w : FVec Ideal S1024x1024 .bf16) (x : Vec Ideal S128x1024 .bf16) (i : Fin 128) (a : Fin 1024) :
    k0_pay48 w x (ix2 i a) = ∑ j : Fin 1024, x (ix2 i j) * w (ix2 j a) := by
  pointwise [k0_pay48]

theorem XP_apply (c : Dev nD) (X : Vec Ideal S1024x1024 .f32) (p j : Fin 1024) : XP c X (ix2 p j) = X (ix2 (srowF c p) j) := by
  unfold XP
  show X _ = X _
  congr 1
  exact eq_ix2 _

theorem KP_apply (c : Dev nD) (X : Vec Ideal S1024x8x128 .f32) (p : Fin 1024) (h : Fin 8) (d : Fin 128) : KP c X (ix3 p h d) = X (ix3 (srowF c p) h d) := by
  unfold KP
  show X _ = X _
  congr 1
  exact eq_ix3 _

/-- Row `r` of residue step `t`, in the permuted order. -/
def prow (t : Fin 4) (r : Fin 256) : Fin 1024 := ⟨256 * t.val + r.val, by omega⟩

theorem window_rows (c : Dev nD) (X : Vec Ideal S1024x1024 .f32) (t : Fin 4) (r : Fin 256) (j : Fin 1024) :
    window (XP c X) ![256 * t.val, 0] S256x1024.size (rows_inb t) (ix2 r j) = X (ix2 (srowF c (prow t r)) j) := by
  refine Eq.trans ?_ (XP_apply c X _ _)
  show XP c X _ = XP c X _
  congr 1
  rw [eq_ix2 (Rect.emb _ _)]
  congr 1 <;> apply Fin.ext <;> rw [unit_emb_val]
  · rfl
  · show 0 + j.val = j.val; omega

theorem window_head (c : Dev nD) (X : Vec Ideal S1024x8x128 .f32) (t : Fin 4) (h : Fin 8) (r : Fin 256) (d : Fin 128) :
    window (KP c X) ![256 * t.val, h.val, 0] S256x1x128.size (head_inb t h) (ix3 r 0 d) = X (ix3 (srowF c (prow t r)) h d) := by
  refine Eq.trans ?_ (KP_apply c X _ _ _)
  show KP c X _ = KP c X _
  congr 1
  rw [eq_ix3 (Rect.emb _ _)]
  congr 1 <;> apply Fin.ext <;> rw [unit_emb_val]
  · rfl
  · show 0 + d.val = d.val; omega

/-- A lane of the device's own eight heads. -/
def lane8 (h : Fin 8) (d : Fin 128) : Fin 1024 := ⟨128 * h.val + d.val, by omega⟩

theorem slice_head (h : Fin 8) (q : FVec Ideal S256x1024 .bf16) (i : Fin 256) (d : Fin 128) :
    extractStridedSlice S256x128 ![0, 128 * h.val] q (slices_head h) (ix2 i d) = q (ix2 i (lane8 h d)) := by
  pointwise
  try rfl

theorem QG_apply (c : Dev nD) (X WQ : Vec Ideal S1024x1024 .f32) (t : Fin 4) (i : Fin 256) (a : Fin 1024) :
    QG c X WQ t (ix2 i a) = ∑ j : Fin 1024, X (ix2 (srowF c (prow t i)) j) * WQ (ix2 j a) := by
  unfold QG
  rw [pay29_apply]
  refine Finset.sum_congr rfl fun j _ => ?_
  rw [window_rows]
  rfl

/-- The rows of residue step `t` of a device are the rows that any one of them attends to. -/
theorem sum_step (c : Dev nD) (t : Fin 4) (r : Fin 256) (g : Fin 1024 → EReal) :
    ∑ s : Fin 256, g (srowF c (prow t s)) = sumTog (srowF c (prow t r)) g := by
  unfold sumTog
  rw [← Finset.sum_filter]
  have hr : rot c < 4 := Nat.mod_lt _ (by decide)
  have v : ∀ s : Fin 256, (srowF c (prow t s)).val = 64 * ((t.val + rot c) % 4) + 256 * (s.val / 64) + s.val % 64 := by
    intro s
    show srow c (256 * t.val + s.val) = _
    unfold srow
    omega
  refine Finset.sum_bij' (fun s _ => srowF c (prow t s)) (fun s' _ => ⟨64 * (s'.val / 256) + s'.val % 64, by omega⟩) ?_ ?_ ?_ ?_ ?_
  · intro s _
    rw [Finset.mem_filter]
    refine ⟨Finset.mem_univ _, ?_⟩
    unfold tog
    rw [v, v]
    omega
  · intro _ _; exact Finset.mem_univ _
  · intro s _
    apply Fin.ext
    show 64 * ((srowF c (prow t s)).val / 256) + (srowF c (prow t s)).val % 64 = _
    rw [v]; omega
  · intro s' hs
    have h := (Finset.mem_filter.mp hs).2
    unfold tog at h
    rw [v] at h
    apply Fin.ext
    rw [v]
    show 64 * ((t.val + rot c) % 4) + 256 * ((64 * (s'.val / 256) + s'.val % 64) / 64) + (64 * (s'.val / 256) + s'.val % 64) % 64 = s'.val
    omega
  · intro _ _; rfl

/-- The head of all heads that device `c` calls its `h`-th. -/
def headD (c : Dev nD) (h : Fin 8) : Fin 64 := ⟨8 * c.val + h.val, by have : c.val < 8 := c.isLt; omega⟩
/-- The lane of all lanes that device `c` calls its `a`-th. -/
def laneD (c : Dev nD) (a : Fin 1024) : Fin 8192 := ⟨1024 * c.val + a.val, by have : c.val < 8 := c.isLt; omega⟩

section
variable (x : Fin 1024 → Fin 1024 → EReal) (wq : Fin 1024 → Fin 8192 → EReal) (k v : Fin 1024 → Fin 64 → Fin 128 → EReal) (wo : Fin 8192 → Fin 1024 → EReal)
variable (c : Dev nD) (X : Vec Ideal S1024x1024 .f32) (K V : Vec Ideal S1024x8x128 .f32) (WQ WO : Vec Ideal S1024x1024 .f32)
variable (hX : ∀ i j, X (ix2 i j) = x i j) (hK : ∀ s h d, K (ix3 s h d) = k s (headD c h) d) (hV : ∀ s h d, V (ix3 s h d) = v s (headD c h) d)
variable (hWQ : ∀ j a, WQ (ix2 j a) = wq j (laneD c a)) (hWO : ∀ a j, WO (ix2 a j) = wo (laneD c a) j)

include hX hK hV hWQ in
theorem TILE_apply (t : Fin 4) (h : Fin 8) (i : Fin 256) (d : Fin 128) :
    TILE c X K V WQ t h (ix2 i d) = ctxS x wq k v (srowF c (prow t i)) (headD c h) d := by
  have hl : ∀ e : Fin 128, laneD c (lane8 h e) = lane (headD c h) e := by
    intro e; apply Fin.ext
    show 1024 * c.val + (128 * h.val + e.val) = 128 * (8 * c.val + h.val) + e.val
    omega
  have hs : ∀ s : Fin 256, (∑ e : Fin 128, extractStridedSlice S256x128 ![0, 128 * h.val] (QG c X WQ t) (slices_head h) (ix2 i e)
      * window (KP c K) ![256 * t.val, h.val, 0] S256x1x128.size (head_inb t h) (ix3 s 0 e)) = scS x wq k (srowF c (prow t i)) (headD c h) (srowF c (prow t s)) := by
    intro s
    unfold scS
    refine Finset.sum_congr rfl fun e _ => ?_
    rw [slice_head, QG_apply, window_head, hK]
    congr 1
    refine Finset.sum_congr rfl fun j _ => ?_
    rw [hX, hWQ, hl]
  unfold TILE headOf
  rw [headCtx_apply]
  have hv : ∀ s : Fin 256, window (KP c V) ![256 * t.val, h.val, 0] S256x1x128.size (head_inb t h) (ix3 s 0 d) = v (srowF c (prow t s)) (headD c h) d := by
    intro s
    rw [window_head, hV]
  simp only [hs, hv]
  unfold ctxS exS
  rw [← sum_step c t i, ← sum_step c t i]

include hX hK hV hWQ in
theorem CTX_apply (p a : Fin 1024) :
    CTX c X K V WQ (ix2 p a) = ctxS x wq k v (srowF c p) (headL (laneD c a)) (dimL (laneD c a)) := by
  unfold CTX
  have e := TILE_apply x wq k v c X K V WQ hX hK hV hWQ ⟨p.val / 256, by omega⟩ ⟨a.val / 128, by omega⟩ ⟨p.val % 256, by omega⟩ ⟨a.val % 128, by omega⟩
  have hp : prow ⟨p.val / 256, by omega⟩ ⟨p.val % 256, by omega⟩ = p := by
    apply Fin.ext
    show 256 * (p.val / 256) + p.val % 256 = p.val
    omega
  have hh : headD c ⟨a.val / 128, by omega⟩ = headL (laneD c a) := by
    apply Fin.ext
    show 8 * c.val + a.val / 128 = (1024 * c.val + a.val) / 128
    omega
  have hd : (⟨a.val % 128, by omega⟩ : Fin 128) = dimL (laneD c a) := by
    apply Fin.ext
    show a.val % 128 = (1024 * c.val + a.val) % 128
    omega
  rw [hp, hh] at e
  rw [← hd, ← e]
  congr 1
  exact eq_ix2 _

include hX hK hV hWQ hWO in
theorem ACCn_apply (n : Fin 8) (r : Fin 128) (j : Fin 1024) :
    ACCn c X K V WQ WO n (ix2 r j)
      = ∑ a : Fin 1024, ctxS x wq k v (srowF c ⟨128 * n.val + r.val, by omega⟩) (headL (laneD c a)) (dimL (laneD c a)) * wo (laneD c a) j := by
  unfold ACCn
  rw [pay48_apply]
  refine Finset.sum_congr rfl fun a _ => ?_
  have hi : (Rect.unit (s := S1024x1024) ![128 * n.val, 0] S128x1024.size (chunk_inb n)).emb (ix2 r a) = ix2 ⟨128 * n.val + r.val, by omega⟩ a := by
    rw [eq_ix2 (Rect.emb _ _)]
    congr 1 <;> apply Fin.ext <;> rw [unit_emb_val]
    · rfl
    · show 0 + a.val = a.val; omega
  have hw : window (CTX c X K V WQ) ![128 * n.val, 0] S128x1024.size (chunk_inb n) (ix2 r a) = CTX c X K V WQ (ix2 ⟨128 * n.val + r.val, by omega⟩ a) := by
    unfold window
    rw [hi]
  have ho : k0_pay20 WO (ix2 a j) = WO (ix2 a j) := rfl
  rw [hw, ho, hWO, CTX_apply x wq k v c X K V WQ hX hK hV hWQ]

end

end Cert.AttnProof

end
-- ==== Proof.KerOut.lean ====
module

public import proofs.«01_k».proof.Proof.KerVal
public import proofs.«01_k».proof.Proof.Launch

/-! # The result of the run at an index, at the extended reals -/

@[expose] public section

set_option maxRecDepth 16384

noncomputable section

namespace Cert.AttnProof

open Cert.KernelIdeal Cert.KernelIdeal.Gen

open Idealize.ShloMosaic
open Idealize.ShloMosaic.TcCoe
open Idealize.ShloMosaic.VecWindow

theorem off1_eq (c : Dev nD) : k0_off1 c = ![0, 1024 * c.val] := by revert c; decide +kernel
theorem off2_eq (c : Dev nD) : k0_off2 c = ![1024 * c.val, 0] := by revert c; decide +kernel

theorem wqC_read (c : Dev nD) (B : (main_arg1 : Ref sig .tc).ty.Contents (Elt Ideal)) (j a : Fin 1024) :
    (wqC c).view.read (Elt Ideal) B (ix2 j a) = B (ix2 j (laneD c a)) := by
  show B ((Rect.unit (s := S1024x8192) (k0_off1 c) S1024x1024.size (k0_off1_inb c)).emb (ix2 j a)) = B _
  congr 1
  rw [eq_ix2 (Rect.emb _ _)]
  congr 1 <;> apply Fin.ext <;> rw [unit_emb_val]
  · show k0_off1 c (0 : Fin 2) + j.val = j.val
    rw [show k0_off1 c (0 : Fin 2) = 0 from congrFun (off1_eq c) 0, Nat.zero_add]
  · show k0_off1 c (1 : Fin 2) + a.val = 1024 * c.val + a.val
    rw [show k0_off1 c (1 : Fin 2) = 1024 * c.val from congrFun (off1_eq c) 1]

theorem woC_read (c : Dev nD) (B : (main_arg4 : Ref sig .tc).ty.Contents (Elt Ideal)) (a j : Fin 1024) :
    (woC c).view.read (Elt Ideal) B (ix2 a j) = B (ix2 (laneD c a) j) := by
  show B ((Rect.unit (s := S8192x1024) (k0_off2 c) S1024x1024.size (k0_off2_inb c)).emb (ix2 a j)) = B _
  congr 1
  rw [eq_ix2 (Rect.emb _ _)]
  congr 1 <;> apply Fin.ext <;> rw [unit_emb_val]
  · show k0_off2 c (0 : Fin 2) + a.val = 1024 * c.val + a.val
    rw [show k0_off2 c (0 : Fin 2) = 1024 * c.val from congrFun (off2_eq c) 0]
  · show k0_off2 c (1 : Fin 2) + j.val = j.val
    rw [show k0_off2 c (1 : Fin 2) = 0 from congrFun (off2_eq c) 1, Nat.zero_add]

/-- A device's own term and its seven neighbours' are everybody's. -/
theorem sum_ring (c : Dev nD) (f : Dev nD → EReal) :
    f c + f (nx c 0) + f (nx c 1) + f (nx c 2) + f (nx c 3) + f (nx c 4) + f (nx c 5) + f (nx c 6) = ∑ d : Dev nD, f d := by
  have h : ∀ c : Dev nD, (Finset.univ : Finset (Dev nD)) = {c, nx c 0, nx c 1, nx c 2, nx c 3, nx c 4, nx c 5, nx c 6}
      ∧ ([c, nx c 0, nx c 1, nx c 2, nx c 3, nx c 4, nx c 5, nx c 6] : List (Dev nD)).Nodup := by decide
  have e : ∑ d : Dev nD, f d = (([c, nx c 0, nx c 1, nx c 2, nx c 3, nx c 4, nx c 5, nx c 6] : List (Dev nD)).map f).sum := by
    rw [← List.sum_toFinset f (h c).2]
    refine Finset.sum_congr ?_ fun _ _ => rfl
    rw [(h c).1]
    simp only [List.toFinset_cons, List.toFinset_nil]
    rfl
  rw [e]
  simp only [List.map_cons, List.map_nil, List.sum_cons, List.sum_nil, add_zero, add_assoc]

theorem unsq_apply (X : Blk Ideal) (r : Fin 128) (j : Fin 1024) : unsq X (ix3 0 r j) = X (ix2 r j) := by
  unfold unsq
  pointwise

variable (m : (ℓ : Loc nD τ sig) → Buf (Elt Ideal) ℓ) (ρ : Dev nD → PrngReg)

theorem redOf_apply (c : Dev nD) (r : Fin 128) (j : Fin 1024) : redOf m ρ c (ix2 r j) = ∑ d : Dev nD, accOf m ρ d c (ix2 r j) := by
  rw [← sum_ring c fun d => accOf m ρ d c (ix2 r j)]
  unfold redOf
  generalize accOf m ρ = A
  pointwise [k0_pay145, k0_pay144, k0_pay143, k0_pay142]
  simp only [unsq_apply]

/-- The input row that a device's `r`-th row of its turn for block `c` is: the same for all devices. -/
theorem srow_turn (d c : Dev nD) (r : Fin 128) :
    srow d (128 * (turn d c).val + r.val) = 64 * (c.val / 2) + 256 * (2 * (c.val % 2) + r.val / 64) + r.val % 64 := by
  have hd : d.val < 8 := d.isLt
  have hc : c.val < 8 := c.isLt
  have ht : (turn d c).val = (c.val + 8 - (2 * ((d.val / 2 + 1) % 4))) % 8 := rfl
  unfold srow rot
  rw [ht]
  omega

section
variable (x : Fin 1024 → Fin 1024 → EReal) (wq : Fin 1024 → Fin 8192 → EReal) (k v : Fin 1024 → Fin 64 → Fin 128 → EReal) (wo : Fin 8192 → Fin 1024 → EReal)
variable (hX : ∀ (c : Dev nD) i j, (m (c.tc.loc main_arg0) : S1024x1024.Idx → EReal) (ix2 i j) = x i j)
  (hK : ∀ (c : Dev nD) s h d, (m (c.tc.loc main_arg2) : S1024x8x128.Idx → EReal) (ix3 s h d) = k s (headD c h) d)
  (hV : ∀ (c : Dev nD) s h d, (m (c.tc.loc main_arg3) : S1024x8x128.Idx → EReal) (ix3 s h d) = v s (headD c h) d)
  (hWQ : ∀ (c : Dev nD) j a, (m (c.tc.loc main_arg1) : S1024x8192.Idx → EReal) (ix2 j a) = wq j a)
  (hWO : ∀ (c : Dev nD) a j, (m (c.tc.loc main_arg4) : S8192x1024.Idx → EReal) (ix2 a j) = wo a j)

theorem xs_read (c : Dev nD) : xsM.view.read (Elt Ideal) (xstg m ρ c) = m (c.tc.loc main_arg0) := by
  have hz : (fun a => (win0_0.index (0 : Fin 1)) a * main_arg0.ty.shape.size a) = fun _ => 0 := funext fun a => Nat.zero_mul _
  exact Memref.read_access_unit_zero (Elt Ideal) main_arg0 hz _ _
theorem ks_read (c : Dev nD) : ksM.view.read (Elt Ideal) (kstg m ρ c) = m (c.tc.loc main_arg2) := by
  have hz : (fun a => (win0_1.index (0 : Fin 1)) a * main_arg2.ty.shape.size a) = fun _ => 0 := funext fun a => Nat.zero_mul _
  exact Memref.read_access_unit_zero (Elt Ideal) main_arg2 hz _ _
theorem vs_read (c : Dev nD) : vsM.view.read (Elt Ideal) (vstg m ρ c) = m (c.tc.loc main_arg3) := by
  have hz : (fun a => (win0_2.index (0 : Fin 1)) a * main_arg3.ty.shape.size a) = fun _ => 0 := funext fun a => Nat.zero_mul _
  exact Memref.read_access_unit_zero (Elt Ideal) main_arg3 hz _ _

include hX hK hV hWQ hWO in
theorem outOf_apply (i j : Fin 1024) : outOf m ρ (ix2 i j) = outS x wq k v wo i j := by
  have hacc : ∀ d : Dev nD, accOf m ρ d (oDev i) (ix2 (oRow i) j) = ∑ a : Fin 1024, ctxS x wq k v i (headL (laneD d a)) (dimL (laneD d a)) * wo (laneD d a) j := by
    intro d
    unfold accOf
    have e := ACCn_apply x wq k v wo d (xsM.view.read (Elt Ideal) (xstg m ρ d)) (ksM.view.read (Elt Ideal) (kstg m ρ d)) (vsM.view.read (Elt Ideal) (vstg m ρ d))
      ((wqC d).view.read (Elt Ideal) (wqB m ρ d)) ((woC d).view.read (Elt Ideal) (woB m ρ d))
      (by rw [xs_read]; exact hX d) (by rw [ks_read]; exact hK d) (by rw [vs_read]; exact hV d)
      (fun j a => (wqC_read d _ j a).trans (hWQ d j _)) (fun a j => (woC_read d _ a j).trans (hWO d _ j)) (turn d (oDev i)) (oRow i) j
    have hr : srowF d ⟨128 * (turn d (oDev i)).val + (oRow i).val, by omega⟩ = i := by
      apply Fin.ext
      refine (srow_turn d (oDev i) (oRow i)).trans ?_
      show 64 * (gOf i.val / 2 / 2) + 256 * (2 * (gOf i.val / 2 % 2) + (64 * (gOf i.val % 2) + i.val % 64) / 64) + (64 * (gOf i.val % 2) + i.val % 64) % 64 = i.val
      unfold gOf
      have hi : i.val < 1024 := i.isLt
      obtain ⟨a, ha⟩ : ∃ a, a = i.val / 64 % 4 := ⟨_, rfl⟩
      obtain ⟨b, hb⟩ : ∃ b, b = i.val / 256 := ⟨_, rfl⟩
      have ha4 : a < 4 := by omega
      have hb4 : b < 4 := by omega
      rw [← ha, ← hb]
      interval_cases a <;> interval_cases b <;> omega
    rw [hr] at e
    exact e
  have ho : outOf m ρ (ix2 i j) = redOf m ρ (oDev i) (ix2 (oRow i) j) := by
    unfold outOf OUT
    congr 1
    exact eq_ix2 _
  rw [ho, redOf_apply]
  unfold outS
  rw [sum_lanes]
  exact Finset.sum_congr rfl fun d _ => hacc d

end

end Cert.AttnProof

end
-- ==== Proof.RefStages.lean ====
module

public import proofs.«01_k».proof.Proof.Gen.ReferenceIdeal.Run
public import proofs.«01_k».proof.Proof.Spec

/-! # The reference in stages -/

@[expose] public section

set_option maxRecDepth 16384

noncomputable section

namespace Cert.AttnProof.Ref

open Cert.ReferenceIdeal Cert.ReferenceIdeal.Gen Cert.ReferenceIdeal.Value

open Idealize.ShloMosaic
open Idealize.ShloMosaic.TcCoe

/-! ## The mask -/

/-- The 64-row block of each row. -/
def fdiv : IVec S1024 32 :=
  let io : IVec S1024 32 := iotaInDim S1024 32 0
  let n : IVec S_ 32 := id (constantI S_ 32 64#32)
  let q : IVec S1024 32 := Host.divsi io (broadcastInDim S1024 ![] bcast_S_S1024 n)
  select (andi (cmpi .ne (signi io) (broadcastInDim S1024 ![] bcast_S_S1024 (signi n)))
      (cmpi .ne (Host.remsi io (broadcastInDim S1024 ![] bcast_S_S1024 n)) (broadcastInDim S1024 ![] bcast_S_S1024 (constantI S_ 32 0#32))))
    (subi q (broadcastInDim S1024 ![] bcast_S_S1024 (constantI S_ 32 1#32))) q

/-- The modulus of the remainder, as it is prepared. -/
def four : IVec S_ 32 :=
  select (cmpi .eq (id (constantI S_ 32 4#32)) (constantI S_ 32 0#32)) (constantI S_ 32 1#32) (id (constantI S_ 32 4#32))

def rowB : IVec S1x1024 32 := broadcastInDim S1x1024 ![1] bcast_S1024_S1x1024_1 fdiv
def colB : IVec S1024x1 32 := broadcastInDim S1024x1 ![0] bcast_S1024_S1024x1_0 fdiv

/-- The remainders of the blocks modulo 4, along a row. -/
def remRow : IVec S1x1024 32 :=
  let r : IVec S1x1024 32 := Host.remsi rowB (broadcastInDim S1x1024 ![] bcast_S_S1x1024 four)
  select (andi (cmpi .ne (cmpi .slt r (broadcastInDim S1x1024 ![] bcast_S_S1x1024 (constantI S_ 32 0#32)))
        (broadcastInDim S1x1024 ![] bcast_S_S1x1024 (cmpi .slt four (constantI S_ 32 0#32))))
      (cmpi .ne r (broadcastInDim S1x1024 ![] bcast_S_S1x1024 (constantI S_ 32 0#32))))
    (addi r (broadcastInDim S1x1024 ![] bcast_S_S1x1024 four)) r

/-- The same along a column. -/
def remCol : IVec S1024x1 32 :=
  let r : IVec S1024x1 32 := Host.remsi colB (broadcastInDim S1024x1 ![] bcast_S_S1024x1 four)
  select (andi (cmpi .ne (cmpi .slt r (broadcastInDim S1024x1 ![] bcast_S_S1024x1 (constantI S_ 32 0#32)))
        (broadcastInDim S1024x1 ![] bcast_S_S1024x1 (cmpi .slt four (constantI S_ 32 0#32))))
      (cmpi .ne r (broadcastInDim S1024x1 ![] bcast_S_S1024x1 (constantI S_ 32 0#32))))
    (addi r (broadcastInDim S1024x1 ![] bcast_S_S1024x1 four)) r

def mask : IVec S1024x1024 1 :=
  ori (cmpi .eq (broadcastInDim S1024x1024 ![0, 1] bcast_S1024x1_S1024x1024_0_1 colB) (broadcastInDim S1024x1024 ![0, 1] bcast_S1x1024_S1024x1024_0_1 rowB))
    (cmpi .eq (broadcastInDim S1024x1024 ![0, 1] bcast_S1x1024_S1024x1024_0_1 remRow) (broadcastInDim S1024x1024 ![0, 1] bcast_S1024x1_S1024x1024_0_1 remCol))

/-- Whether a row attends to any row. -/
def keep : IVec S1024 1 := Host.reduce IntOp.ori mask (constantI S_ 1 0#1) reducesTo_S1024x1024_S1024_d1 h_S_

/-! ## The values -/

section
variable {F : FTy → Type} [FloatOps F]
variable (x : FVec F S1024x1024 .f32) (wq : FVec F S1024x8192 .f32) (k v : FVec F S1024x64x128 .f32) (wo : FVec F S8192x1024 .f32)

/-- The queries. -/
def Q : FVec F S1x1024x64x128 .f32 :=
  shapeCast S1x1024x64x128 (Host.dotGeneral dot_S1x1024x1024_S1024x8192_S1x1024x8192_2_0_01_1_n_n none (broadcastInDim S1x1024x1024 ![1, 2] bcast_S1024x1024_S1x1024x1024_1_2 x) wq)
    shapeCasts_S1x1024x8192_S1x1024x64x128

/-- The scores, minus infinity where the mask is off. -/
def S : FVec F S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 mask))
    (mulf (Host.dotGeneral dot_S1x1024x64x128_S1x1024x64x128_S1x64x1024x1024_3_3_1_1_02_02 none (Q x wq) (broadcastInDim S1x1024x64x128 ![1, 2, 3] bcast_S1024x64x128_S1x1024x64x128_1_2_3 k))
      (broadcastInDim S1x64x1024x1024 ![] bcast_S_S1x64x1024x1024
        (Host.divf (constant S_ .f32 0x3F800000#32) (Host.sqrt (constant S_ .f32 0x43000000#32)))))
    (broadcastInDim S1x64x1024x1024 ![] bcast_S_S1x64x1024x1024 (id (constant S_ .f32 0xFF800000#32)))

/-- From the scores: the largest of each row. -/
def mx (s : FVec F S1x64x1024x1024 .f32) : FVec F S1x64x1024 .f32 :=
  Host.reduce FloatOps.maximumf s (constant S_ .f32 0xFF800000#32) reducesTo_S1x64x1024x1024_S1x64x1024_d3 h_S_

/-- The exponentials of the scores less their row's largest. -/
def ex (s : FVec F S1x64x1024x1024 .f32) : FVec F S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2 (mx s))))

/-- The divisors. -/
def den (e : FVec F S1x64x1024x1024 .f32) : FVec F S1x64x1024x1 .f32 :=
  select (broadcastInDim S1x64x1024x1 ![0, 1, 2, 3] bcast_S1x1x1024x1_S1x64x1024x1_0_1_2_3 (broadcastInDim S1x1x1024x1 ![2] bcast_S1024_S1x1x1024x1_2 keep))
    (broadcastInDim S1x64x1024x1 ![0, 1, 2] bcast_S1x64x1024_S1x64x1024x1_0_1_2 (Host.reduceAdd e (constant S_ .f32 0x00000000#32) reducesTo_S1x64x1024x1024_S1x64x1024_d3 h_S_))
    (broadcastInDim S1x64x1024x1 ![] bcast_S_S1x64x1024x1 (id (constant S_ .f32 0x3F800000#32)))

/-- The weights. -/
def wt (e : FVec F S1x64x1024x1024 .f32) : FVec F S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 keep))
    (Host.divf e (broadcastInDim S1x64x1024x1024 ![0, 1, 2, 3] bcast_S1x64x1024x1_S1x64x1024x1024_0_1_2_3 (den e)))
    (broadcastInDim S1x64x1024x1024 ![] bcast_S_S1x64x1024x1024 (id (constant S_ .f32 0x00000000#32)))

/-- The result from the weights. -/
def fin (w : FVec F S1x64x1024x1024 .f32) : FVec F S1024x1024 .bf16 :=
  shapeCast S1024x1024 (truncf .bf16 (Host.dotGeneral dot_S1x1024x8192_S8192x1024_S1x1024x1024_2_0_01_1_n_n none
    (shapeCast S1x1024x8192 (transpose S1x1024x64x128 [0, 3, 1, 2]
      (Host.dotGeneral dot_S1x1024x64x128_S1x64x1024x1024_S1x64x128x1024_1_3_3_2_02_01 none
        (broadcastInDim S1x1024x64x128 ![1, 2, 3] bcast_S1024x64x128_S1x1024x64x128_1_2_3 v) w)
      transposes_S1x64x128x1024_S1x1024x64x128_0_3_1_2) shapeCasts_S1x1024x64x128_S1x1024x8192) wo) bitsLt_bf16_f32) shapeCasts_S1x1024x1024_S1024x1024

/-- The reference's result. -/
def out : FVec F S1024x1024 .bf16 := fin v wo (wt (ex (S x wq k)))

end

variable {F : FTy → Type} [FloatOps F]

set_option maxHeartbeats 4000000 in
theorem res_eq (m : (ℓ : Loc nD τ sig) → Buf (Elt F) ℓ) (c : Dev nD) :
    res_main_v46 m c = out (F := F) (m (c.tc.loc main_arg0)) (m (c.tc.loc main_arg1)) (m (c.tc.loc main_arg2)) (m (c.tc.loc main_arg3)) (m (c.tc.loc main_arg4)) := by
  unfold res_main_v46 out fin wt den ex mx S Q keep mask remRow remCol rowB colB four fdiv
  rfl

end Cert.AttnProof.Ref

end
-- ==== Proof.RefVal.lean ====
module

public import proofs.«01_k».proof.Proof.RefStages

/-! # The reference's stages at an index, at the extended reals -/

@[expose] public section

set_option maxRecDepth 16384

noncomputable section

namespace Cert.AttnProof.Ref

open Cert.ReferenceIdeal Cert.ReferenceIdeal.Gen

open Idealize.ShloMosaic
open Idealize.ShloMosaic.TcCoe

theorem select_on {α : Type} (a b : α) : Scalar.select 1#1 a b = a := rfl
theorem select_off {α : Type} (a b : α) : Scalar.select 0#1 a b = b := rfl

/-- The word of minus infinity. -/
theorem ofBits_bot : Ideal.ofBits .f32 0xFF800000#32 = ⊥ := by
  simp [Ideal.ofBits, Ideal.ieee]

/-- The word of 128. -/
theorem ofBits_128 : Ideal.ofBits .f32 0x43000000#32 = ((128 : ℝ) : EReal) := by
  simp [Ideal.ofBits, Ideal.ieee, -EReal.coe_mul]; norm_num

/-- One over the root that the reference takes of 128. -/
theorem scale_eq : Ideal.div 1 (Ideal.sqrt (Ideal.ofBits .f32 0x43000000#32)) = SC := by
  rw [ofBits_128, Ideal.sqrt_coe, if_neg (by norm_num), Ideal.div_coe (Real.sqrt_pos.mpr (by norm_num)).ne', one_mul, one_div]
  rfl

theorem fdiv_apply (i : Fin 1024) : fdiv (ix1 i) = BitVec.ofNat 32 (i.val / 64) := by
  pointwise [fdiv]
  revert i
  decide +kernel

theorem remRow_apply (s : Fin 1024) : remRow (ix2 0 s) = BitVec.ofNat 32 (s.val / 64 % 4) := by
  pointwise [remRow, rowB, four]
  simp only [fdiv_apply]
  revert s
  decide +kernel

theorem remCol_apply (i : Fin 1024) : remCol (ix2 i 0) = BitVec.ofNat 32 (i.val / 64 % 4) := by
  pointwise [remCol, colB, four]
  simp only [fdiv_apply]
  revert i
  decide +kernel

theorem mask_apply (i s : Fin 1024) : mask (ix2 i s) = if tog i s then 1#1 else 0#1 := by
  pointwise [mask, rowB, colB]
  simp only [fdiv_apply, remRow_apply, remCol_apply]
  unfold tog
  have h : ∀ a b : Fin 16, IntOp.ori (IntOp.cmpi .eq (BitVec.ofNat 32 a.val) (BitVec.ofNat 32 b.val)) (IntOp.cmpi .eq (BitVec.ofNat 32 (b.val % 4)) (BitVec.ofNat 32 (a.val % 4)))
      = if a.val % 4 = b.val % 4 then 1#1 else 0#1 := by decide +kernel
  exact h ⟨i.val / 64, by omega⟩ ⟨s.val / 64, by omega⟩

theorem keep_apply (i : Fin 1024) : keep (ix1 i) = 1#1 := by
  pointwise [keep]
  have hm : mask (ix2 i i) = 1#1 := by rw [mask_apply, if_pos (tog_self i)]
  have h1 : ∀ b : BitVec 1, IntOp.ori 1#1 b = 1#1 := by decide
  rw [← Finset.insert_erase (Finset.mem_univ i), Finset.fold_insert (Finset.notMem_erase i _), hm, h1]

variable (x : FVec Ideal S1024x1024 .f32) (wq : FVec Ideal S1024x8192 .f32) (k v : FVec Ideal S1024x64x128 .f32) (wo : FVec Ideal S8192x1024 .f32)

theorem Q_apply (i : Fin 1024) (h : Fin 64) (d : Fin 128) : Q x wq (ix4 0 i h d) = ∑ j : Fin 1024, x (ix2 i j) * wq (ix2 j (lane h d)) := by
  pointwise [Q]
  refine Finset.sum_congr rfl fun j _ => ?_
  congr 3
  apply Fin.ext
  show h.val * 128 + d.val = 128 * h.val + d.val
  omega

theorem S_apply (h : Fin 64) (i s : Fin 1024) :
    S x wq k (ix4 0 h i s) = if tog i s then scS (fun i j => x (ix2 i j)) (fun j a => wq (ix2 j a)) (fun s h d => k (ix3 s h d)) i h s * SC else ⊥ := by
  unfold scS
  pointwise [S]
  simp only [mask_apply, Q_apply, scale_eq]
  by_cases ht : tog i s
  · rw [if_pos ht, if_pos ht, select_on]
  · rw [if_neg ht, if_neg ht, select_off]
    exact ofBits_bot

theorem mx_apply (t : FVec Ideal S1x64x1024x1024 .f32) (h : Fin 64) (i : Fin 1024) :
    mx t (ix3 0 h i) = Finset.univ.fold max (⊥ : EReal) fun s : Fin 1024 => t (ix4 0 h i s) := by
  pointwise [mx]
  exact congrArg (fun b : EReal => Finset.fold max b (fun s : Fin 1024 => (t (ix4 0 h i s) : EReal)) Finset.univ) ofBits_bot

theorem ex_apply (t : FVec Ideal S1x64x1024x1024 .f32) (h : Fin 64) (i s : Fin 1024) :
    ex t (ix4 0 h i s) = Ideal.exp (t (ix4 0 h i s) - mx t (ix3 0 h i)) := by
  pointwise [ex]

theorem den_apply (e : FVec Ideal S1x64x1024x1024 .f32) (h : Fin 64) (i : Fin 1024) :
    den e (ix4 0 h i 0) = ∑ s : Fin 1024, e (ix4 0 h i s) := by
  pointwise [den]
  simp only [keep_apply]
  exact select_on _ _

theorem wt_apply (e : FVec Ideal S1x64x1024x1024 .f32) (h : Fin 64) (i s : Fin 1024) :
    wt e (ix4 0 h i s) = Ideal.div (e (ix4 0 h i s)) (∑ s : Fin 1024, e (ix4 0 h i s)) := by
  rw [← den_apply]
  pointwise [wt]
  simp only [keep_apply]
  exact select_on _ _

theorem fin_apply (w : FVec Ideal S1x64x1024x1024 .f32) (i j : Fin 1024) :
    fin v wo w (ix2 i j) = ∑ a : Fin 8192, (∑ s : Fin 1024, v (ix3 s (headL a) (dimL a)) * w (ix4 0 (headL a) i s)) * wo (ix2 a j) := by
  pointwise [fin]
  rfl

end Cert.AttnProof.Ref

end
-- ==== Proof.Algebraic.lean ====
module

public import proofs.«01_k».proof.Proof.Pre
public import proofs.«01_k».proof.Proof.KerOut
public import proofs.«01_k».proof.Proof.Run
public import proofs.«01_k».proof.Proof.RefVal

/-! # The kernel's result is the reference's -/

@[expose] public section

noncomputable section

namespace Cert.AttnProof

open Idealize.ShloMosaic Idealize.ShloMosaic.TcCoe Idealize.SL.Sem

/-- The reference at an index, for finite input, query weights and keys. -/
theorem ref_apply (x : FVec Ideal Cert.ReferenceIdeal.S1024x1024 .f32) (wq : FVec Ideal Cert.ReferenceIdeal.S1024x8192 .f32)
    (k v : FVec Ideal Cert.ReferenceIdeal.S1024x64x128 .f32) (wo : FVec Ideal Cert.ReferenceIdeal.S8192x1024 .f32)
    (hx : ∀ i j, IsFin (x (ix2 i j))) (hw : ∀ i j, IsFin (wq (ix2 i j))) (hk : ∀ s h d, IsFin (k (ix3 s h d))) (i j : Fin 1024) :
    Ref.out x wq k v wo (ix2 i j)
      = outS (fun i j => x (ix2 i j)) (fun i j => wq (ix2 i j)) (fun s h d => k (ix3 s h d)) (fun s h d => v (ix3 s h d)) (fun a j => wo (ix2 a j)) i j := by
  unfold Ref.out
  rw [Ref.fin_apply]
  unfold outS
  refine Finset.sum_congr rfl fun a _ => ?_
  refine congrArg (fun t : EReal => t * wo (ix2 a j)) ?_
  simp only [Ref.wt_apply]
  refine softmax_ctx i (fun s => scS (fun i j => x (ix2 i j)) (fun i j => wq (ix2 i j)) (fun s h d => k (ix3 s h d)) i (headL a) s * SC)
    (fun s => scS_fin hx hw hk i (headL a) s) (fun s => v (ix3 s (headL a) (dimL a))) (fun s => Ref.S x wq k (ix4 0 (headL a) i s))
    (fun s => Ref.ex (Ref.S x wq k) (ix4 0 (headL a) i s)) (fun s => Ref.S_apply x wq k (headL a) i s) (fun s => ?_)
  rw [Ref.ex_apply, Ref.mx_apply]

/-- A device's heads among all heads. -/
theorem block_head (c : Fin 8) (f : (⟨3, ![1024, 64, 128]⟩ : Shape).Idx → EReal) (s : Fin 1024) (h : Fin 8) (d : Fin 128) :
    Layout.block ⟨3, ![1024, 8, 128]⟩ ⟨3, ![1024, 64, 128]⟩ 1 8 c f (by decide) (ix3 s h d) = f (ix3 s (headD c h) d) := by
  rw [Layout.block_apply, eq_ix3 (Layout.Tiles.idx _ _ _)]
  congr 2
  apply Fin.ext
  show c.val * 8 + h.val = 8 * c.val + h.val
  omega

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  have hfin := fun c => fn_finite _ _ _ _ _ (hpre c)
  have hout : outOf (F := Ideal) m g = Cert.ReferenceIdeal.Value.res_main_v46 m' (0 : Dev Cert.ReferenceIdeal.nD) := by
    refine Eq.trans ?_ (Ref.res_eq m' (0 : Dev Cert.ReferenceIdeal.nD)).symm
    funext y
    rw [eq_ix2 y]
    have hkf : ∀ (s : Fin 1024) (h : Fin 64) (d : Fin 128), IsFin ((m' (((0 : Dev Cert.ReferenceIdeal.nD).tc : Thread Cert.ReferenceIdeal.nD Cert.ReferenceIdeal.τ).loc Cert.ReferenceIdeal.main_arg2) : Cert.ReferenceIdeal.S1024x64x128.Idx → EReal) (ix3 s h d)) := by
      intro s h d
      have e := (hfin ⟨h.val / 8, by have := h.isLt; show _ < 8; omega⟩).2.2 (ix3 s ⟨h.val % 8, by omega⟩ d)
      rw [(hargs _).2.2.1] at e
      have e' := block_head ⟨h.val / 8, by omega⟩ (m' (((0 : Dev Cert.ReferenceIdeal.nD).tc : Thread Cert.ReferenceIdeal.nD Cert.ReferenceIdeal.τ).loc Cert.ReferenceIdeal.main_arg2)) s ⟨h.val % 8, by omega⟩ d
      have hh : headD ⟨h.val / 8, by have := h.isLt; show _ < 8; omega⟩ ⟨h.val % 8, by omega⟩ = h := by
        apply Fin.ext
        show 8 * (h.val / 8) + h.val % 8 = h.val
        omega
      rw [hh] at e'
      rw [← e']
      exact e
    refine Eq.trans ?_ (ref_apply _ _ _ _ _ (fun i j => ?_) (fun i j => ?_) hkf (y 0) (y 1)).symm
    · refine outOf_apply m g _ _ _ _ _ (fun c i j => ?_) (fun c s h d => ?_) (fun c s h d => ?_) (fun c j a => ?_) (fun c a j => ?_) (y 0) (y 1)
      · rw [(hargs c).1]
      · rw [(hargs c).2.2.1]; exact block_head c _ s h d
      · rw [(hargs c).2.2.2.1]; exact block_head c _ s h d
      · rw [(hargs c).2.1]
      · rw [(hargs c).2.2.2.2]
    · have e := (hfin 0).1 (ix2 i j)
      rw [(hargs 0).1] at e
      exact e
    · have e := (hfin 0).2.1 (ix2 i j)
      rw [(hargs 0).2.1] at e
      exact e
  refine ⟨Cert.ReferenceIdeal.Value.res_main_v46 m' (0 : Dev Cert.ReferenceIdeal.nD), ?_, ?_⟩
  · exact (θ_run Cert.KernelIdeal.defs _ _).mono (fun r h c => ⟨(((h.1 c).1 (3 : Fin 4)).trans (finalA_o m g c)).trans hout, ((h.1 c).1 (0 : Fin 4)).trans (finalA_x m g c), (h.1 c).2.1,
      ((h.1 c).1 (1 : Fin 4)).trans (finalA_k m g c), ((h.1 c).1 (2 : Fin 4)).trans (finalA_v m g c), (h.1 c).2.2⟩) (run_main (F := Ideal) m g)
  · exact (θ_run Cert.ReferenceIdeal.defs _ _).mono (fun r h => h 0) (Cert.ReferenceIdeal.Value.run (F := Ideal) m' g')

end Cert.AttnProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run with the results dropped. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, AttnProof.frame_kernel, AttnProof.frame_kernelIdeal, fun m ρ _ => AttnProof.frame_kernelIdeal m ρ trivial,
    frame_ref, fun m ρ _ => frame_ref m ρ trivial,
    IdealRules.named_const.statement Cert.KernelIdeal.κ "scale" .f32 0x3DB504F3#32 (((Real.sqrt 128)⁻¹ : ℝ) : EReal) rfl, AttnProof.algebraic⟩

end Cert.Proof

end
